-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_v11_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x6x256 : Shape := ⟨4, ![2, 1024, 6, 256]⟩
abbrev S2x1024x6x512 : Shape := ⟨4, ![2, 1024, 6, 512]⟩
abbrev S2x1024x6 : Shape := ⟨3, ![2, 1024, 6]⟩
abbrev S2x6x256x512 : Shape := ⟨4, ![2, 6, 256, 512]⟩
abbrev S_ : Shape := ⟨0, ![]⟩

class Facts : Prop where
  bitsLt_bf16_f32 : FTy.bits .bf16 < FTy.bits .f32
  bcast_S_S2x1024x6x256 : S_.BroadcastsInDim S2x1024x6x256 (![] : Fin 0 → Fin S2x1024x6x256.rank)
  bcast_S_S2x1024x6x512 : S_.BroadcastsInDim S2x1024x6x512 (![] : Fin 0 → Fin S2x1024x6x512.rank)
  bcast_S_S2x1024x6 : S_.BroadcastsInDim S2x1024x6 (![] : Fin 0 → Fin S2x1024x6.rank)
  bcast_S_S2x6x256x512 : S_.BroadcastsInDim S2x6x256x512 (![] : Fin 0 → Fin S2x6x256x512.rank)

variable [Facts]

def fn_part1 {F : FTy → Type} [FloatOps F] (main_v3 : IVec S2x1024x6x256 1) (main_v7 : IVec S2x1024x6x256 1) (main_v11 : IVec S2x1024x6x512 1) (main_v14 : IVec S2x1024x6 1) (main_v17 : IVec S2x1024x6 1) (main_v18 : FVec F S2x6x256x512 .f32) : IVec S2x1024x6x256 1 × IVec S2x1024x6x256 1 × IVec S2x1024x6x512 1 × IVec S2x1024x6 1 × IVec S2x1024x6 1 × IVec S2x6x256x512 1 :=
  let main_cst_4 : FVec F S_ .f32 := constant S_ .f32 0x7F7FFFFF#32
  let main_v19 : FVec F S2x6x256x512 .f32 := broadcastInDim S2x6x256x512 ![] bcast_S_S2x6x256x512 main_cst_4
  let main_v20 : IVec S2x6x256x512 1 := cmpf .ole main_v18 main_v19
  (main_v3, main_v7, main_v11, main_v14, main_v17, main_v20)

def fn {F : FTy → Type} [FloatOps F] (main_arg0 : FVec F S2x1024x6x256 .bf16) (main_arg1 : FVec F S2x1024x6x256 .bf16) (main_arg2 : FVec F S2x1024x6x512 .bf16) (main_arg3 : FVec F S2x1024x6 .f32) (main_arg4 : FVec F S2x1024x6 .f32) (main_arg5 : FVec F S2x6x256x512 .f32) : IVec S2x1024x6x256 1 × IVec S2x1024x6x256 1 × IVec S2x1024x6x512 1 × IVec S2x1024x6 1 × IVec S2x1024x6 1 × IVec S2x6x256x512 1 :=
  let main_v0 : FVec F S2x1024x6x256 .f32 := (extf .f32 · bitsLt_bf16_f32) main_arg0
  let main_v1 : FVec F S2x1024x6x256 .f32 := Host.absf main_v0
  let main_cst : FVec F S_ .f32 := constant S_ .f32 0x7F7F0000#32
  let main_v2 : FVec F S2x1024x6x256 .f32 := broadcastInDim S2x1024x6x256 ![] bcast_S_S2x1024x6x256 main_cst
  let main_v3 : IVec S2x1024x6x256 1 := cmpf .ole main_v1 main_v2
  let main_v4 : FVec F S2x1024x6x256 .f32 := (extf .f32 · bitsLt_bf16_f32) main_arg1
  let main_v5 : FVec F S2x1024x6x256 .f32 := Host.absf main_v4
  let main_cst_0 : FVec F S_ .f32 := constant S_ .f32 0x7F7F0000#32
  let main_v6 : FVec F S2x1024x6x256 .f32 := broadcastInDim S2x1024x6x256 ![] bcast_S_S2x1024x6x256 main_cst_0
  let main_v7 : IVec S2x1024x6x256 1 := cmpf .ole main_v5 main_v6
  let main_v8 : FVec F S2x1024x6x512 .f32 := (extf .f32 · bitsLt_bf16_f32) main_arg2
  let main_v9 : FVec F S2x1024x6x512 .f32 := Host.absf main_v8
  let main_cst_1 : FVec F S_ .f32 := constant S_ .f32 0x7F7F0000#32
  let main_v10 : FVec F S2x1024x6x512 .f32 := broadcastInDim S2x1024x6x512 ![] bcast_S_S2x1024x6x512 main_cst_1
  let main_v11 : IVec S2x1024x6x512 1 := cmpf .ole main_v9 main_v10
  let main_v12 : FVec F S2x1024x6 .f32 := Host.absf main_arg3
  let main_cst_2 : FVec F S_ .f32 := constant S_ .f32 0x7F7FFFFF#32
  let main_v13 : FVec F S2x1024x6 .f32 := broadcastInDim S2x1024x6 ![] bcast_S_S2x1024x6 main_cst_2
  let main_v14 : IVec S2x1024x6 1 := cmpf .ole main_v12 main_v13
  let main_v15 : FVec F S2x1024x6 .f32 := Host.absf main_arg4
  let main_cst_3 : FVec F S_ .f32 := constant S_ .f32 0x7F7FFFFF#32
  let main_v16 : FVec F S2x1024x6 .f32 := broadcastInDim S2x1024x6 ![] bcast_S_S2x1024x6 main_cst_3
  let main_v17 : IVec S2x1024x6 1 := cmpf .ole main_v15 main_v16
  let main_v18 : FVec F S2x6x256x512 .f32 := Host.absf main_arg5
  fn_part1 (F := F) main_v3 main_v7 main_v11 main_v14 main_v17 main_v18
-- ==== Kernel.lean ====
abbrev S2x1024x6x256 : Shape := ⟨4, ![2, 1024, 6, 256]⟩
abbrev S2x1024x6x512 : Shape := ⟨4, ![2, 1024, 6, 512]⟩
abbrev S2x1024x6 : Shape := ⟨3, ![2, 1024, 6]⟩
abbrev S2x6x256x512 : Shape := ⟨4, ![2, 6, 256, 512]⟩
abbrev S2x6x1024x256 : Shape := ⟨4, ![2, 6, 1024, 256]⟩
abbrev S12x1024x256 : Shape := ⟨3, ![12, 1024, 256]⟩
abbrev S2x6x1024x512 : Shape := ⟨4, ![2, 6, 1024, 512]⟩
abbrev S12x1024x512 : Shape := ⟨3, ![12, 1024, 512]⟩
abbrev S6x2x1024 : Shape := ⟨3, ![6, 2, 1024]⟩
abbrev S12x256x512 : Shape := ⟨3, ![12, 256, 512]⟩
abbrev S6x2x16 : Shape := ⟨3, ![6, 2, 16]⟩
abbrev S12x128x256 : Shape := ⟨3, ![12, 128, 256]⟩
abbrev S12x128x512 : Shape := ⟨3, ![12, 128, 512]⟩
abbrev S6x2x128 : Shape := ⟨3, ![6, 2, 128]⟩
abbrev S128x128 : Shape := ⟨2, ![128, 128]⟩
abbrev S1x16 : Shape := ⟨2, ![1, 16]⟩
abbrev S1x128x256 : Shape := ⟨3, ![1, 128, 256]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x64x256 : Shape := ⟨3, ![1, 64, 256]⟩
abbrev S1x1x16 : Shape := ⟨3, ![1, 1, 16]⟩
abbrev S64x1 : Shape := ⟨2, ![64, 1]⟩
abbrev S128 : Shape := ⟨1, ![128]⟩
abbrev S128x1 : Shape := ⟨2, ![128, 1]⟩
abbrev S1x1x128 : Shape := ⟨3, ![1, 1, 128]⟩
abbrev S1x128 : Shape := ⟨2, ![1, 128]⟩
abbrev S256x256 : Shape := ⟨2, ![256, 256]⟩
abbrev S256x128 : Shape := ⟨2, ![256, 128]⟩
abbrev S1x256x512 : Shape := ⟨3, ![1, 256, 512]⟩
abbrev S256x512 : Shape := ⟨2, ![256, 512]⟩
abbrev S128x768 : Shape := ⟨2, ![128, 768]⟩
abbrev S768x512 : Shape := ⟨2, ![768, 512]⟩
abbrev S128x512 : Shape := ⟨2, ![128, 512]⟩
abbrev S1x64x512 : Shape := ⟨3, ![1, 64, 512]⟩
abbrev S64x512 : Shape := ⟨2, ![64, 512]⟩
abbrev S64x64 : Shape := ⟨2, ![64, 64]⟩
abbrev S128x64 : Shape := ⟨2, ![128, 64]⟩
abbrev S192x512 : Shape := ⟨2, ![192, 512]⟩
abbrev S192x256 : Shape := ⟨2, ![192, 256]⟩

abbrev nBuf : Space → Nat
  | .hbm => 21
  | .vmem => 20
  | .smem => 0
  | _ => 0

abbrev bufTy : (tb : Table) → Fin (tcTables nBuf tb) → BufTy
  | .hbm, ⟨0, _⟩ => ⟨S2x1024x6x256, .bf16⟩
  | .hbm, ⟨1, _⟩ => ⟨S2x1024x6x256, .bf16⟩
  | .hbm, ⟨2, _⟩ => ⟨S2x1024x6x512, .bf16⟩
  | .hbm, ⟨3, _⟩ => ⟨S2x1024x6, .f32⟩
  | .hbm, ⟨4, _⟩ => ⟨S2x1024x6, .f32⟩
  | .hbm, ⟨5, _⟩ => ⟨S2x6x256x512, .f32⟩
  | .hbm, ⟨6, _⟩ => ⟨S2x6x1024x256, .bf16⟩
  | .hbm, ⟨7, _⟩ => ⟨S12x1024x256, .bf16⟩
  | .hbm, ⟨8, _⟩ => ⟨S2x6x1024x256, .bf16⟩
  | .hbm, ⟨9, _⟩ => ⟨S12x1024x256, .bf16⟩
  | .hbm, ⟨10, _⟩ => ⟨S2x6x1024x512, .bf16⟩
  | .hbm, ⟨11, _⟩ => ⟨S12x1024x512, .bf16⟩
  | .hbm, ⟨12, _⟩ => ⟨S6x2x1024, .f32⟩
  | .hbm, ⟨13, _⟩ => ⟨S6x2x1024, .f32⟩
  | .hbm, ⟨14, _⟩ => ⟨S12x256x512, .f32⟩
  | .hbm, ⟨15, _⟩ => ⟨S12x1024x512, .bf16⟩
  | .hbm, ⟨16, _⟩ => ⟨S12x256x512, .f32⟩
  | .hbm, ⟨17, _⟩ => ⟨S12x1024x256, .fp8e4m3⟩
  | .hbm, ⟨18, _⟩ => ⟨S6x2x16, .f32⟩
  | .hbm, ⟨19, _⟩ => ⟨S12x1024x256, .fp8e4m3⟩
  | .hbm, ⟨20, _⟩ => ⟨S6x2x16, .f32⟩
  | .local _ .vmem, ⟨0, _⟩ => ⟨S12x128x256, .bf16⟩
  | .local _ .vmem, ⟨1, _⟩ => ⟨S12x128x256, .bf16⟩
  | .local _ .vmem, ⟨2, _⟩ => ⟨S12x128x256, .bf16⟩
  | .local _ .vmem, ⟨3, _⟩ => ⟨S12x128x256, .bf16⟩
  | .local _ .vmem, ⟨4, _⟩ => ⟨S12x128x512, .bf16⟩
  | .local _ .vmem, ⟨5, _⟩ => ⟨S12x128x512, .bf16⟩
  | .local _ .vmem, ⟨6, _⟩ => ⟨S6x2x128, .f32⟩
  | .local _ .vmem, ⟨7, _⟩ => ⟨S6x2x128, .f32⟩
  | .local _ .vmem, ⟨8, _⟩ => ⟨S6x2x128, .f32⟩
  | .local _ .vmem, ⟨9, _⟩ => ⟨S6x2x128, .f32⟩
  | .local _ .vmem, ⟨10, _⟩ => ⟨S12x256x512, .f32⟩
  | .local _ .vmem, ⟨11, _⟩ => ⟨S12x128x512, .bf16⟩
  | .local _ .vmem, ⟨12, _⟩ => ⟨S12x128x512, .bf16⟩
  | .local _ .vmem, ⟨13, _⟩ => ⟨S12x256x512, .f32⟩
  | .local _ .vmem, ⟨14, _⟩ => ⟨S12x128x256, .fp8e4m3⟩
  | .local _ .vmem, ⟨15, _⟩ => ⟨S12x128x256, .fp8e4m3⟩
  | .local _ .vmem, ⟨16, _⟩ => ⟨S6x2x16, .f32⟩
  | .local _ .vmem, ⟨17, _⟩ => ⟨S12x128x256, .fp8e4m3⟩
  | .local _ .vmem, ⟨18, _⟩ => ⟨S12x128x256, .fp8e4m3⟩
  | .local _ .vmem, ⟨19, _⟩ => ⟨S6x2x16, .f32⟩
  | _, _ => ⟨S2x1024x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S12x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S12x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S12x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S12x128x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S6x2x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x1024x6x256 : Shape := ⟨4, ![2, 1024, 6, 256]⟩
abbrev S2x1024x6x512 : Shape := ⟨4, ![2, 1024, 6, 512]⟩
abbrev S2x1024x6 : Shape := ⟨3, ![2, 1024, 6]⟩
abbrev S2x6x256x512 : Shape := ⟨4, ![2, 6, 256, 512]⟩
abbrev S2x6x1024x256 : Shape := ⟨4, ![2, 6, 1024, 256]⟩
abbrev S192x64x256 : Shape := ⟨3, ![192, 64, 256]⟩
abbrev S2x6x1024x512 : Shape := ⟨4, ![2, 6, 1024, 512]⟩
abbrev S192x64x512 : Shape := ⟨3, ![192, 64, 512]⟩
abbrev S2x6x1024 : Shape := ⟨3, ![2, 6, 1024]⟩
abbrev S192x64 : Shape := ⟨2, ![192, 64]⟩
abbrev S12x256x512 : Shape := ⟨3, ![12, 256, 512]⟩
abbrev S12x1024x512 : Shape := ⟨3, ![12, 1024, 512]⟩
abbrev S12x1024x256 : Shape := ⟨3, ![12, 1024, 256]⟩
abbrev S6x2x16 : Shape := ⟨3, ![6, 2, 16]⟩
abbrev S192 : Shape := ⟨1, ![192]⟩
abbrev S192x1 : Shape := ⟨2, ![192, 1]⟩
abbrev S192x256 : Shape := ⟨2, ![192, 256]⟩
abbrev S192x1x1 : Shape := ⟨3, ![192, 1, 1]⟩
abbrev S16x1 : Shape := ⟨2, ![16, 1]⟩
abbrev S16 : Shape := ⟨1, ![16]⟩
abbrev S1x1x16 : Shape := ⟨3, ![1, 1, 16]⟩
abbrev S192x64x1 : Shape := ⟨3, ![192, 64, 1]⟩
abbrev S192x64x64 : Shape := ⟨3, ![192, 64, 64]⟩
abbrev S192x1x64 : Shape := ⟨3, ![192, 1, 64]⟩
abbrev S12x16x64x256 : Shape := ⟨4, ![12, 16, 64, 256]⟩
abbrev S12x16x64x512 : Shape := ⟨4, ![12, 16, 64, 512]⟩
abbrev S12x16x64x64 : Shape := ⟨4, ![12, 16, 64, 64]⟩
abbrev S12x16x1x1 : Shape := ⟨4, ![12, 16, 1, 1]⟩
abbrev S12x1x64x512 : Shape := ⟨4, ![12, 1, 64, 512]⟩
abbrev S12x64x512 : Shape := ⟨3, ![12, 64, 512]⟩
abbrev S12x1x64x256 : Shape := ⟨4, ![12, 1, 64, 256]⟩
abbrev S12x64x256 : Shape := ⟨3, ![12, 64, 256]⟩
abbrev S12x1x64x64 : Shape := ⟨4, ![12, 1, 64, 64]⟩
abbrev S12x64x64 : Shape := ⟨3, ![12, 64, 64]⟩
abbrev S12x1x1x1 : Shape := ⟨4, ![12, 1, 1, 1]⟩
abbrev S12x1x1 : Shape := ⟨3, ![12, 1, 1]⟩

abbrev nBuf : Space → Nat
  | .hbm => 23
  | .vmem => 12
  | .smem => 0
  | _ => 0

abbrev bufTy : (tb : Table) → Fin (tcTables nBuf tb) → BufTy
  | .hbm, ⟨0, _⟩ => ⟨S2x1024x6x256, .bf16⟩
  | .hbm, ⟨1, _⟩ => ⟨S2x1024x6x256, .bf16⟩
  | .hbm, ⟨2, _⟩ => ⟨S2x1024x6x512, .bf16⟩
  | .hbm, ⟨3, _⟩ => ⟨S2x1024x6, .f32⟩
  | .hbm, ⟨4, _⟩ => ⟨S2x1024x6, .f32⟩
  | .hbm, ⟨5, _⟩ => ⟨S2x6x256x512, .f32⟩
  | .hbm, ⟨6, _⟩ => ⟨S2x6x1024x256, .bf16⟩
  | .hbm, ⟨7, _⟩ => ⟨S192x64x256, .bf16⟩
  | .hbm, ⟨8, _⟩ => ⟨S2x6x1024x256, .bf16⟩
  | .hbm, ⟨9, _⟩ => ⟨S192x64x256, .bf16⟩
  | .hbm, ⟨10, _⟩ => ⟨S2x6x1024x512, .bf16⟩
  | .hbm, ⟨11, _⟩ => ⟨S192x64x512, .bf16⟩
  | .hbm, ⟨12, _⟩ => ⟨S2x6x1024, .f32⟩
  | .hbm, ⟨13, _⟩ => ⟨S192x64, .f32⟩
  | .hbm, ⟨14, _⟩ => ⟨S2x6x1024, .f32⟩
  | .hbm, ⟨15, _⟩ => ⟨S192x64, .f32⟩
  | .hbm, ⟨16, _⟩ => ⟨S12x256x512, .f32⟩
  | .hbm, ⟨17, _⟩ => ⟨S12x1024x512, .bf16⟩
  | .hbm, ⟨18, _⟩ => ⟨S12x256x512, .f32⟩
  | .hbm, ⟨19, _⟩ => ⟨S12x1024x256, .fp8e4m3⟩
  | .hbm, ⟨20, _⟩ => ⟨S6x2x16, .f32⟩
  | .hbm, ⟨21, _⟩ => ⟨S12x1024x256, .fp8e4m3⟩
  | .hbm, ⟨22, _⟩ => ⟨S6x2x16, .f32⟩
  | .local _ .vmem, ⟨0, _⟩ => ⟨S192x64x256, .bf16⟩
  | .local _ .vmem, ⟨1, _⟩ => ⟨S192x64x256, .bf16⟩
  | .local _ .vmem, ⟨2, _⟩ => ⟨S192x64x512, .bf16⟩
  | .local _ .vmem, ⟨3, _⟩ => ⟨S192x64, .f32⟩
  | .local _ .vmem, ⟨4, _⟩ => ⟨S192x64, .f32⟩
  | .local _ .vmem, ⟨5, _⟩ => ⟨S12x256x512, .f32⟩
  | .local _ .vmem, ⟨6, _⟩ => ⟨S12x1024x512, .bf16⟩
  | .local _ .vmem, ⟨7, _⟩ => ⟨S12x256x512, .f32⟩
  | .local _ .vmem, ⟨8, _⟩ => ⟨S12x1024x256, .fp8e4m3⟩
  | .local _ .vmem, ⟨9, _⟩ => ⟨S6x2x16, .f32⟩
  | .local _ .vmem, ⟨10, _⟩ => ⟨S12x1024x256, .fp8e4m3⟩
  | .local _ .vmem, ⟨11, _⟩ => ⟨S6x2x16, .f32⟩
  | _, _ => ⟨S2x1024x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S192x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x1024x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1024x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Row.lean ====
/- One row (one head of one sequence) of one grid point of the kernel, as functions of what the row reads: the two chunks'
   codes and scales, the masks, the decays, the inverse by block doubling, the output chunk and the next state. Each of
   the twelve unrolled rows of the kernel's body computes these functions. -/
module

public import proofs.«01_k».proof.Proof.Gen.KernelIdeal

@[expose] public section

noncomputable section

namespace Cert.KernelIdeal.Row

open Cert.KernelIdeal Cert.KernelIdeal.Gen Idealize.ShloMosaic Idealize.SL.Sem

variable {F : FTy → Type} [FloatOps F]

/-! ## The quantiser -/

/-- The largest absolute value of a chunk. -/
def amax (x : FVec F S64x256 .f32) : FVec F S1x1 .f32 :=
  shapeCast S1x1 (multiReduction .maximumf [1] S1 (shapeCast S1x256
    (multiReduction .maximumf [0] S256 (absf x) 0xFF800000#32 reduces_S64x256_S256 (.inl rfl) rfl) shapeCasts_S256_S1x256)
    0xFF800000#32 reduces_S1x256_S1 (.inl rfl) rfl) shapeCasts_S1_S1x1

/-- The lanes' numbers `0 … 255`. -/
def powIdx : IVec S1x256 32 := iota .tc S1x256 32 [1] iota_S1x256_d1_w32

/-- Which powers of two the chunk's quotient reaches. -/
def reached (a : FVec F S1x1 .f32) : IVec S1x256 1 :=
  andi (cmpi .sgt powIdx (broadcast S1x256 0#32))
    (cmpf .oge (broadcastTo S1x256 (mulf a (broadcast S1x1 (Scalar.ofBits .f32 0x3B124925#32))) broadcasts_S1x1_S1x256)
      (bitcastToFloat .f32 (shli powIdx (broadcast S1x256 23#32))))

/-- Their number: the biased exponent of the quotient. -/
def biased (a : FVec F S1x1 .f32) : IVec S1x1 32 :=
  shapeCast S1x1 (multiReductionI .add [1] S1 (select (reached a) (broadcast S1x256 1#32) (broadcast S1x256 0#32)) 0#32
    reduces_S1x256_S1 rfl) shapeCasts_S1_S1x1

/-- The scale's exponent. -/
def expo (a : FVec F S1x1 .f32) : IVec S1x1 32 :=
  select (cmpi .eq (biased a) (broadcast S1x1 0#32)) (broadcast S1x1 0#32) (subi (biased a) (broadcast S1x1 126#32))

/-- Two to an integer power. -/
def pow2 (e : IVec S1x1 32) : FVec F S1x1 .f32 :=
  bitcastToFloat .f32 (shli (addi e (broadcast S1x1 127#32)) (broadcast S1x1 23#32))

/-- A chunk's scale. -/
def scale (x : FVec F S64x256 .f32) : FVec F S1x1 .f32 := pow2 (expo (amax x))

/-- A chunk's codes. -/
def codes (x : FVec F S64x256 .f32) : FVec F S64x256 .fp8e4m3 :=
  truncf .fp8e4m3 (minimumf (broadcast S64x256 (Scalar.ofBits .f32 0x43E00000#32))
    (maximumf (broadcast S64x256 (Scalar.ofBits .f32 0xC3E00000#32))
      (mulf x (broadcastTo S64x256 (pow2 (subi (broadcast S1x1 0#32) (expo (amax x)))) broadcasts_S1x1_S64x256))))
    bitsLt_fp8e4m3_f32

/-! ## What a row reads, and its codes and scales -/

/-- A row of `q` or `k` as loaded, at f32. -/
def wide (x : FVec F S1x128x256 .bf16) : FVec F S128x256 .f32 :=
  extf .f32 (shapeCast S128x256 x shapeCasts_S1x128x256_S128x256) bitsLt_bf16_f32

/-- Its first chunk. -/
def lo (x : FVec F S128x256 .f32) : FVec F S64x256 .f32 := extractStridedSlice S64x256 ![0, 0] x slices_S128x256_o0_0_S64x256

/-- Its second chunk. -/
def hi (x : FVec F S128x256 .f32) : FVec F S64x256 .f32 := extractStridedSlice S64x256 ![64, 0] x slices_S128x256_o64_0_S64x256

/-- Both chunks' codes. -/
def codes2 (x : FVec F S128x256 .f32) : FVec F S128x256 .fp8e4m3 :=
  concatenate S128x256 0 [⟨S64x256, codes (lo x)⟩, ⟨S64x256, codes (hi x)⟩] concatenates_S64x256_S64x256_S128x256_d0

/-- Both chunks' scales, one per token. -/
def scale2 (x : FVec F S128x256 .f32) : FVec F S128x1 .f32 :=
  concatenate S128x1 0 [⟨S64x1, broadcastTo S64x1 (shapeCast S1x1 (scale (lo x)) shapeCasts_S1x1_S1x1) broadcasts_S1x1_S64x1⟩,
    ⟨S64x1, broadcastTo S64x1 (shapeCast S1x1 (scale (hi x)) shapeCasts_S1x1_S1x1) broadcasts_S1x1_S64x1⟩]
    concatenates_S64x1_S64x1_S128x1_d0

/-- One over each token's norm, times its scale. -/
def rnorm (x : FVec F S128x256 .f32) : FVec F S128x1 .f32 :=
  mulf (rsqrt (addf (shapeCast S128x1 (multiReduction .add [1] S128 (mulf x x) 0x00000000#32 reduces_S128x256_S128 (.inl rfl) rfl)
    shapeCasts_S128_S128x1) (broadcast S128x1 (Scalar.ofBits .f32 0x358637BD#32)))) (scale2 x)

/-- The same for `q`, times one sixteenth. -/
def rnormq (x : FVec F S128x256 .f32) : FVec F S128x1 .f32 :=
  mulf (rnorm x) (broadcast S128x1 (Scalar.ofBits .f32 0x3D800000#32))

/-! ## Masks -/

/-- Row numbers. -/
def rowI : IVec S128x128 32 := iota .tc S128x128 32 [0] iota_S128x128_d0_w32
/-- Column numbers. -/
def colI : IVec S128x128 32 := iota .tc S128x128 32 [1] iota_S128x128_d1_w32

/-- Flooring division of every entry by a constant. -/
def fdiv (x : IVec S128x128 32) (d : BitVec 32) : IVec S128x128 32 :=
  select (andi (cmpi .ne (subi (extui 32 (cmpi .sgt x (broadcast S128x128 0#32)) natLt_1_32)
        (extui 32 (cmpi .slt x (broadcast S128x128 0#32)) natLt_1_32))
      (broadcast S128x128 (Scalar.subi (Scalar.extui (Scalar.cmpi .sgt d 0#32)) (Scalar.extui (Scalar.cmpi .slt d 0#32)))))
      (cmpi .ne (remsi x (broadcast S128x128 d)) (broadcast S128x128 0#32)))
    (subi (divsi x (broadcast S128x128 d)) (broadcast S128x128 1#32)) (divsi x (broadcast S128x128 d))

/-- Row and column in the same block of size `d`. -/
def same (d : BitVec 32) : IVec S128x128 1 := cmpi .eq (fdiv rowI d) (fdiv colI d)
/-- Row and column in different blocks of size `d`. -/
def other (d : BitVec 32) : IVec S128x128 1 := cmpi .ne (fdiv rowI d) (fdiv colI d)
/-- Same chunk, column not after row. -/
def causal : IVec S128x128 1 := andi (same 64#32) (cmpi .sge rowI colI)
/-- Same chunk, column before row. -/
def strict : IVec S128x128 1 := andi (same 64#32) (cmpi .sgt rowI colI)
/-- The diagonal. -/
def diag : IVec S128x128 1 := cmpi .eq rowI colI
/-- The identity matrix. -/
def eye : FVec F S128x128 .f32 := sitofp .f32 (extui 32 diag natLt_1_32)
/-- A matrix of zeros. -/
def zeros : FVec F S128x128 .f32 := broadcast S128x128 (Scalar.ofBits .f32 0x00000000#32)

/-! ## Decays and the two triangular matrices -/

/-- A row vector down every row. -/
def down (r : FVec F S1x128 .f32) : FVec F S128x128 .f32 :=
  broadcastTo S128x128 (shapeCast S1x128 r shapeCasts_S1x128_S1x128) broadcasts_S1x128_S128x128

/-- Sum along rows. -/
def rowSum (x : FVec F S128x128 .f32) : FVec F S128x1 .f32 :=
  shapeCast S128x1 (multiReduction .add [1] S128 x 0x00000000#32 reduces_S128x128_S128 (.inl rfl) rfl) shapeCasts_S128_S128x1

/-- The sum of the gates up to each token of its chunk. -/
def gcum (g : FVec F S1x128 .f32) : FVec F S128x1 .f32 := rowSum (select causal (down g) zeros)
/-- A row vector as a column. -/
def toCol (b : FVec F S1x128 .f32) : FVec F S128x1 .f32 := rowSum (select diag (down b) zeros)
/-- A column vector as a row. -/
def toRow (c : FVec F S128x1 .f32) : FVec F S1x128 .f32 :=
  shapeCast S1x128 (multiReduction .add [0] S128 (select diag (broadcastTo S128x128
    (shapeCast S128x1 c shapeCasts_S128x1_S128x1) broadcasts_S128x1_S128x128) zeros) 0x00000000#32 reduces_S128x128_S128_2 (.inl rfl) rfl)
    shapeCasts_S128_S1x128

/-- The products of every key code and query code with every key code. -/
def kq (k q : FVec F S128x256 .f32) : FVec F S256x128 .f32 :=
  matmul dot_S256x256_S128x256_S256x128_1_1_0_0_n_n none
    (concatenate S256x256 0 [⟨S128x256, codes2 k⟩, ⟨S128x256, codes2 q⟩] concatenates_S128x256_S128x256_S256x256_d0)
    (codes2 k) (constant S256x128 .f32 0x00000000#32)

/-- The decay between two tokens of a chunk, times the second one's reciprocal norm and scale. -/
def decay (gc rk : FVec F S128x1 .f32) : FVec F S128x128 .f32 :=
  mulf (select causal (exp (select causal (subf (broadcastTo S128x128 gc broadcasts_S128x1_S128x128)
      (broadcastTo S128x128 (toRow gc) broadcasts_S1x128_S128x128)) zeros)) zeros)
    (broadcastTo S128x128 (toRow rk) broadcasts_S1x128_S128x128)

/-- The strictly lower triangular matrix whose unit triangular matrix is inverted. -/
def amat (k q : FVec F S128x256 .f32) (g b : FVec F S1x128 .f32) : FVec F S128x128 .f32 :=
  select strict (mulf (extractStridedSlice S128x128 ![0, 0] (kq k q) slices_S256x128_o0_0_S128x128)
    (mulf (decay (gcum g) (rnorm k)) (broadcastTo S128x128 (mulf (rnorm k) (toCol b)) broadcasts_S128x1_S128x128))) zeros

/-- The masked scores. -/
def pmat (k q : FVec F S128x256 .f32) (g : FVec F S1x128 .f32) : FVec F S128x128 .f32 :=
  select causal (mulf (extractStridedSlice S128x128 ![128, 0] (kq k q) slices_S256x128_o128_0_S128x128)
    (mulf (decay (gcum g) (rnorm k)) (broadcastTo S128x128 (rnormq q) broadcasts_S128x1_S128x128))) zeros

/-- The product of two matrices. -/
def mm (x y : FVec F S128x128 .f32) : FVec F S128x128 .f32 :=
  matmul dot_S128x128_S128x128_S128x128_1_0_0_1_n_n (some .fp32) x y (constant S128x128 .f32 0x00000000#32)

/-- The inverse on blocks of two. -/
def inv0 (A : FVec F S128x128 .f32) : FVec F S128x128 .f32 := subf eye (select (same 2#32) A zeros)
/-- From blocks of size `d` to blocks of size `dd`. -/
def invStep (A : FVec F S128x128 .f32) (d dd : BitVec 32) (T : FVec F S128x128 .f32) : FVec F S128x128 .f32 :=
  subf T (mm T (mm (select (andi (same dd) (other d)) A zeros) T))
/-- The inverse on chunks. -/
def inv (A : FVec F S128x128 .f32) : FVec F S128x128 .f32 :=
  invStep A 32#32 64#32 (invStep A 16#32 32#32 (invStep A 8#32 16#32 (invStep A 4#32 8#32 (invStep A 2#32 4#32 (inv0 A)))))

/-- The inverse with its columns times beta. -/
def tmat (k q : FVec F S128x256 .f32) (g b : FVec F S1x128 .f32) : FVec F S128x128 .f32 :=
  mulf (inv (amat k q g b)) (broadcastTo S128x128 b broadcasts_S1x128_S128x128)

/-- The scores times that. -/
def ptmat (k q : FVec F S128x256 .f32) (g b : FVec F S1x128 .f32) : FVec F S128x128 .f32 := mm (pmat k q g) (tmat k q g b)

/-! ## One chunk -/

/-- Codes at bf16. -/
def codesB (x : FVec F S128x256 .f32) : FVec F S128x256 .bf16 := extf .bf16 (codes2 x) bitsLt_fp8e4m3_bf16

/-- A value rounded to bf16, at f32. -/
def top {s : Shape} (x : FVec F s .f32) : FVec F s .f32 := extf .f32 (truncf .bf16 x bitsLt_bf16_f32) bitsLt_bf16_f32

/-- The key codes over the query codes of a chunk times the state. -/
def ksqs (kc qc : FVec F S64x256 .bf16) (S : FVec F S256x512 .f32) : FVec F S128x512 .f32 :=
  matmul dot_S128x768_S768x512_S128x512_1_0_0_1_n_n none
    (concatenate S128x768 1 [⟨S128x256, concatenate S128x256 0 [⟨S64x256, kc⟩, ⟨S64x256, qc⟩] concatenates_S64x256_S64x256_S128x256_d0⟩,
      ⟨S128x256, concatenate S128x256 0 [⟨S64x256, kc⟩, ⟨S64x256, qc⟩] concatenates_S64x256_S64x256_S128x256_d0⟩,
      ⟨S128x256, concatenate S128x256 0 [⟨S64x256, kc⟩, ⟨S64x256, qc⟩] concatenates_S64x256_S64x256_S128x256_d0⟩]
      concatenates_S128x256_S128x256_S128x256_S128x768_d1)
    (concatenate S768x512 0 [⟨S256x512, truncf .bf16 (top S) bitsLt_bf16_f32⟩,
      ⟨S256x512, truncf .bf16 (top (subf S (top S))) bitsLt_bf16_f32⟩,
      ⟨S256x512, truncf .bf16 (subf (subf S (top S)) (top (subf S (top S)))) bitsLt_bf16_f32⟩]
      concatenates_S256x512_S256x512_S256x512_S768x512_d0)
    (constant S128x512 .f32 0x00000000#32)

/-- A chunk's values less what the state already answers. -/
def xmat (v : FVec F S1x64x512 .bf16) (c : FVec F S64x1 .f32) (ks : FVec F S128x512 .f32) : FVec F S64x512 .f32 :=
  subf (extf .f32 (shapeCast S64x512 v shapeCasts_S1x64x512_S64x512) bitsLt_bf16_f32)
    (mulf (broadcastTo S64x512 c broadcasts_S64x1_S64x512) (extractStridedSlice S64x512 ![0, 0] ks slices_S128x512_o0_0_S64x512))

/-- The decay to the chunk's end times the reciprocal norm and scale. -/
def dcol (last : FVec F S1x1 .f32) (gc rk : FVec F S64x1 .f32) : FVec F S64x1 .f32 :=
  mulf (exp (subf (broadcastTo S64x1 last broadcasts_S1x1_S64x1) gc)) rk

/-- Both products of a chunk with `xmat`, one over the other. -/
def mx (d : FVec F S64x1 .f32) (T PT : FVec F S64x64 .f32) (X : FVec F S64x512 .f32) : FVec F S128x512 .f32 :=
  matmul dot_S128x64_S64x512_S128x512_1_0_0_1_n_n (some .fp32)
    (concatenate S128x64 0 [⟨S64x64, mulf (broadcastTo S64x64 d broadcasts_S64x1_S64x64) T⟩, ⟨S64x64, PT⟩] concatenates_S64x64_S64x64_S128x64_d0)
    X (constant S128x512 .f32 0x00000000#32)

/-- A chunk's output. -/
def oOf (a : FVec F S64x1 .f32) (ks m : FVec F S128x512 .f32) : FVec F S64x512 .bf16 :=
  truncf .bf16 (addf (mulf (broadcastTo S64x512 a broadcasts_S64x1_S64x512) (extractStridedSlice S64x512 ![64, 0] ks slices_S128x512_o64_0_S64x512))
    (extractStridedSlice S64x512 ![64, 0] m slices_S128x512_o64_0_S64x512)) bitsLt_bf16_f32

/-- The upper half of `mx`. -/
def dvOf (m : FVec F S128x512 .f32) : FVec F S64x512 .f32 := extractStridedSlice S64x512 ![0, 0] m slices_S128x512_o0_0_S64x512

/-- The key codes' transpose times a chunk of values. -/
def upd (kc : FVec F S64x256 .bf16) (dV : FVec F S64x512 .f32) : FVec F S256x512 .f32 :=
  matmul dot_S192x256_S192x512_S256x512_0_0_1_1_n_n none
    (concatenate S192x256 0 [⟨S64x256, kc⟩, ⟨S64x256, kc⟩, ⟨S64x256, kc⟩] concatenates_S64x256_S64x256_S64x256_S192x256_d0)
    (concatenate S192x512 0 [⟨S64x512, truncf .bf16 (top dV) bitsLt_bf16_f32⟩,
      ⟨S64x512, truncf .bf16 (top (subf dV (top dV))) bitsLt_bf16_f32⟩,
      ⟨S64x512, truncf .bf16 (subf (subf dV (top dV)) (top (subf dV (top dV)))) bitsLt_bf16_f32⟩]
      concatenates_S64x512_S64x512_S64x512_S192x512_d0)
    (constant S256x512 .f32 0x00000000#32)

/-- The next state. -/
def sOf (last : FVec F S1x1 .f32) (S : FVec F S256x512 .f32) (u : FVec F S256x512 .f32) : FVec F S256x512 .f32 :=
  addf (mulf (broadcastTo S256x512 (exp last) broadcasts_S1x1_S256x512) S) u

/-! ## The row -/

section
variable (k q : FVec F S128x256 .f32) (g b : FVec F S1x128 .f32) (v : FVec F S1x64x512 .bf16) (S : FVec F S256x512 .f32)

/-- The first chunk's code products with the state. -/
def ksqs0 : FVec F S128x512 .f32 :=
  ksqs (extractStridedSlice S64x256 ![0, 0] (codesB k) slices_S128x256_o0_0_S64x256)
    (extractStridedSlice S64x256 ![0, 0] (codesB q) slices_S128x256_o0_0_S64x256) S
/-- The first chunk's products with its values. -/
def mx0 : FVec F S128x512 .f32 :=
  mx (dcol (extractStridedSlice S1x1 ![63, 0] (gcum g) slices_S128x1_o63_0_S1x1)
      (extractStridedSlice S64x1 ![0, 0] (gcum g) slices_S128x1_o0_0_S64x1)
      (extractStridedSlice S64x1 ![0, 0] (rnorm k) slices_S128x1_o0_0_S64x1))
    (extractStridedSlice S64x64 ![0, 0] (tmat k q g b) slices_S128x128_o0_0_S64x64)
    (extractStridedSlice S64x64 ![0, 0] (ptmat k q g b) slices_S128x128_o0_0_S64x64)
    (xmat v (extractStridedSlice S64x1 ![0, 0] (mulf (exp (gcum g)) (rnorm k)) slices_S128x1_o0_0_S64x1) (ksqs0 k q S))
/-- The first chunk's output. -/
def o0 : FVec F S64x512 .bf16 :=
  oOf (extractStridedSlice S64x1 ![0, 0] (mulf (exp (gcum g)) (rnormq q)) slices_S128x1_o0_0_S64x1) (ksqs0 k q S) (mx0 k q g b v S)
/-- The state after the first chunk. -/
def s0 : FVec F S256x512 .f32 :=
  sOf (extractStridedSlice S1x1 ![63, 0] (gcum g) slices_S128x1_o63_0_S1x1) S
    (upd (extractStridedSlice S64x256 ![0, 0] (codesB k) slices_S128x256_o0_0_S64x256) (dvOf (mx0 k q g b v S)))
/-- The second chunk's code products with the state. -/
def ksqs1 : FVec F S128x512 .f32 :=
  ksqs (extractStridedSlice S64x256 ![64, 0] (codesB k) slices_S128x256_o64_0_S64x256)
    (extractStridedSlice S64x256 ![64, 0] (codesB q) slices_S128x256_o64_0_S64x256) S
/-- The second chunk's products with its values. -/
def mx1 : FVec F S128x512 .f32 :=
  mx (dcol (extractStridedSlice S1x1 ![127, 0] (gcum g) slices_S128x1_o127_0_S1x1)
      (extractStridedSlice S64x1 ![64, 0] (gcum g) slices_S128x1_o64_0_S64x1)
      (extractStridedSlice S64x1 ![64, 0] (rnorm k) slices_S128x1_o64_0_S64x1))
    (extractStridedSlice S64x64 ![64, 64] (tmat k q g b) slices_S128x128_o64_64_S64x64)
    (extractStridedSlice S64x64 ![64, 64] (ptmat k q g b) slices_S128x128_o64_64_S64x64)
    (xmat v (extractStridedSlice S64x1 ![64, 0] (mulf (exp (gcum g)) (rnorm k)) slices_S128x1_o64_0_S64x1) (ksqs1 k q S))
/-- The second chunk's output. -/
def o1 : FVec F S64x512 .bf16 :=
  oOf (extractStridedSlice S64x1 ![64, 0] (mulf (exp (gcum g)) (rnormq q)) slices_S128x1_o64_0_S64x1) (ksqs1 k q S) (mx1 k q g b v S)
/-- The state after the second chunk. -/
def s1 : FVec F S256x512 .f32 :=
  sOf (extractStridedSlice S1x1 ![127, 0] (gcum g) slices_S128x1_o127_0_S1x1) S
    (upd (extractStridedSlice S64x256 ![64, 0] (codesB k) slices_S128x256_o64_0_S64x256) (dvOf (mx1 k q g b v S)))
end

end Cert.KernelIdeal.Row

end
-- ==== Proof.Step.lean ====
/- What one grid point of the kernel leaves in its six output blocks, as functions of its input blocks: the row functions
   of `Row.lean`, one row of the block at a time, and the lemmas by which a row's stores are read back as these. -/
module

public import proofs.«01_k».proof.Proof.Row
public import Idealize.ShloMosaic.Lib.Pointwise
public import Idealize.ShloMosaic.Lib.Pipeline.Value
public import Idealize.ShloMosaic.Lib.Pipeline.ReadBack

@[expose] public section

noncomputable section

namespace Cert.KernelIdeal.Step

open Cert.KernelIdeal Cert.KernelIdeal.Gen Cert.KernelIdeal.Row Idealize.ShloMosaic Idealize.ShloMosaic.TcCoe Idealize.SL.Sem
open Idealize.ShloMosaic.View (Piece PiecesOf)

variable {F : FTy → Type} [FloatOps F]

/-! ## A row of a block -/

/-- Row `r` of a block of `q` or `k`. -/
def rowK (x : Vec F S12x128x256 .bf16) (r : Fin 12) : Vec F S1x128x256 .bf16 := fun j => x (ix3 r (j 1) (j 2))
/-- Row `r` of a block of gates or betas, kept by head and sequence. -/
def rowG (x : Vec F S6x2x128 .f32) (r : Fin 12) : Vec F S1x1x128 .f32 :=
  fun j => x (ix3 ⟨r.val % 6, Nat.mod_lt _ (by decide)⟩ ⟨r.val / 6, by omega⟩ (j 2))
/-- Chunk `a` of row `r` of a block of values. -/
def rowV (x : Vec F S12x128x512 .bf16) (r : Fin 12) (a : Fin 2) : Vec F S1x64x512 .bf16 :=
  fun j => x (ix3 r ⟨64 * a.val + (j 1).val, by have : (j 1).val < 64 := (j 1).isLt; omega⟩ (j 2))
/-- Row `r` of a block of states. -/
def rowS (x : Vec F S12x256x512 .f32) (r : Fin 12) : Vec F S1x256x512 .f32 := fun j => x (ix3 r (j 1) (j 2))

/-- Row `r` of `q` or `k`, at f32. -/
def kw (x : Vec F S12x128x256 .bf16) (r : Fin 12) : FVec F S128x256 .f32 := wide (rowK x r)
/-- Row `r` of gates or betas. -/
def gw (x : Vec F S6x2x128 .f32) (r : Fin 12) : FVec F S1x128 .f32 := shapeCast S1x128 (rowG x r) shapeCasts_S1x1x128_S1x128
/-- Row `r` of states. -/
def sw (x : Vec F S12x256x512 .f32) (r : Fin 12) : FVec F S256x512 .f32 :=
  shapeCast S256x512 (rowS x r) shapeCasts_S1x256x512_S256x512

section
variable (x0 x1 : Vec F S12x128x256 .bf16) (x2 : Vec F S12x128x512 .bf16) (x3 x4 : Vec F S6x2x128 .f32)
  (S : Vec F S12x256x512 .f32)

/-- Row `r`'s state between the two chunks. -/
def mid (r : Fin 12) : FVec F S256x512 .f32 := s0 (kw x1 r) (kw x0 r) (gw x3 r) (gw x4 r) (rowV x2 r 0) (sw S r)
/-- Row `r`'s state after both. -/
def fin (r : Fin 12) : FVec F S256x512 .f32 :=
  s1 (kw x1 r) (kw x0 r) (gw x3 r) (gw x4 r) (rowV x2 r 1) (mid x0 x1 x2 x3 x4 S r)

/-- The block of outputs. -/
def outO : Vec F S12x128x512 .bf16 := fun y =>
  if h : (y 1).val < 64 then o0 (kw x1 (y 0)) (kw x0 (y 0)) (gw x3 (y 0)) (gw x4 (y 0)) (rowV x2 (y 0) 0) (sw S (y 0))
      (ix2 (n0 := 64) (n1 := 512) ⟨(y 1).val, h⟩ (y 2))
  else o1 (kw x1 (y 0)) (kw x0 (y 0)) (gw x3 (y 0)) (gw x4 (y 0)) (rowV x2 (y 0) 1) (mid x0 x1 x2 x3 x4 S (y 0))
      (ix2 (n0 := 64) (n1 := 512) ⟨(y 1).val - 64, by have : (y 1).val < 128 := (y 1).isLt; omega⟩ (y 2))

/-- The block of states. -/
def outS : Vec F S12x256x512 .f32 := fun y => fin x0 x1 x2 x3 x4 S (y 0) (ix2 (n0 := 256) (n1 := 512) (y 1) (y 2))
end

/-- The block of codes. -/
def outC (x : Vec F S12x128x256 .bf16) : Vec F S12x128x256 .fp8e4m3 := fun y =>
  if h : (y 1).val < 64 then codes (lo (kw x (y 0))) (ix2 (n0 := 64) (n1 := 256) ⟨(y 1).val, h⟩ (y 2))
  else codes (hi (kw x (y 0))) (ix2 (n0 := 64) (n1 := 256) ⟨(y 1).val - 64, by have : (y 1).val < 128 := (y 1).isLt; omega⟩ (y 2))

/-- Lane numbers of a row of scales. -/
def lanes : IVec S1x16 32 := iota .tc S1x16 32 [1] iota_S1x16_d1_w32

/-- A row of scales with one lane set. -/
def setLane (b : BitVec 32) (s : FVec F S1x1 .f32) (p : Vec F S1x1x16 .f32) : Vec F S1x1x16 .f32 :=
  shapeCast S1x1x16 (select (cmpi .eq lanes (broadcast S1x16 b))
    (broadcastTo S1x16 (shapeCast S1x1 s shapeCasts_S1x1_S1x1) broadcasts_S1x1_S1x16)
    (shapeCast S1x16 p shapeCasts_S1x1x16_S1x16)) shapeCasts_S1x16_S1x1x16

/-- The row of scales a point leaves in row `r`: the lanes of its two chunks set. -/
def laneRow (n : BitVec 32) (x : Vec F S12x128x256 .bf16) (p : Vec F S6x2x16 .f32) (r : Fin 12) : Vec F S1x1x16 .f32 :=
  setLane (Scalar.addi (Scalar.muli n 2#32) 1#32) (scale (hi (kw x r)))
    (setLane (Scalar.addi (Scalar.muli n 2#32) 0#32) (scale (lo (kw x r)))
      (fun j => p (ix3 ⟨r.val % 6, Nat.mod_lt _ (by decide)⟩ ⟨r.val / 6, by omega⟩ (j 2))))

/-- The block of scales. -/
def outL (n : BitVec 32) (x : Vec F S12x128x256 .bf16) (p : Vec F S6x2x16 .f32) : Vec F S6x2x16 .f32 := fun y =>
  laneRow n x p ⟨6 * (y 1).val + (y 0).val, by
    have h0 : (y 0).val < 6 := (y 0).isLt
    have h1 : (y 1).val < 2 := (y 1).isLt
    omega⟩ (ix3 (n0 := 1) (n1 := 1) (n2 := 16) 0 0 (y 2))

/-! ## Reading loads and stores of one row -/

section
variable (x0 x1 : Vec F S12x128x256 .bf16) (x2 : Vec F S12x128x512 .bf16) (x3 x4 : Vec F S6x2x128 .f32)
  (S : Vec F S12x256x512 .f32)

theorem outO_lo (r : Fin 12) (i : Fin 64) (h : i.val < 128) (e : Fin 512) : outO x0 x1 x2 x3 x4 S (ix3 r ⟨i.val, h⟩ e)
    = o0 (kw x1 r) (kw x0 r) (gw x3 r) (gw x4 r) (rowV x2 r 0) (sw S r) (ix2 i e) :=
  dif_pos (show i.val < 64 from i.isLt)

theorem outO_hi (r : Fin 12) (i : Fin 64) (h : 64 + i.val < 128) (e : Fin 512) : outO x0 x1 x2 x3 x4 S (ix3 r ⟨64 + i.val, h⟩ e)
    = o1 (kw x1 r) (kw x0 r) (gw x3 r) (gw x4 r) (rowV x2 r 1) (mid x0 x1 x2 x3 x4 S r) (ix2 i e) := by
  refine (dif_neg (show ¬ 64 + i.val < 64 by omega)).trans ?_
  exact congrArg (o1 (kw x1 r) (kw x0 r) (gw x3 r) (gw x4 r) (rowV x2 r 1) (mid x0 x1 x2 x3 x4 S r))
    (congrArg (fun t : Fin 64 => ix2 t e) (Fin.ext (show 64 + i.val - 64 = i.val by omega)))

theorem outC_lo (x : Vec F S12x128x256 .bf16) (r : Fin 12) (i : Fin 64) (h : i.val < 128) (e : Fin 256) :
    outC x (ix3 r ⟨i.val, h⟩ e) = codes (lo (kw x r)) (ix2 i e) := dif_pos (show i.val < 64 from i.isLt)

theorem outC_hi (x : Vec F S12x128x256 .bf16) (r : Fin 12) (i : Fin 64) (h : 64 + i.val < 128) (e : Fin 256) :
    outC x (ix3 r ⟨64 + i.val, h⟩ e) = codes (hi (kw x r)) (ix2 i e) := by
  refine (dif_neg (show ¬ 64 + i.val < 64 by omega)).trans ?_
  exact congrArg (codes (hi (kw x r))) (congrArg (fun t : Fin 64 => ix2 t e) (Fin.ext (show 64 + i.val - 64 = i.val by omega)))
end

/-- Where a rectangle of rank three puts an index. -/
theorem emb3 {d0 d1 d2 a b c e0 e1 e2 : ℕ} (h) (x : (Rect.unit (s := ⟨3, ![d0, d1, d2]⟩) ![a, b, c] ![e0, e1, e2] h).shape.Idx)
    (y : (⟨3, ![d0, d1, d2]⟩ : Shape).Idx) (h0 : (y 0).val = a + (x 0).val) (h1 : (y 1).val = b + (x 1).val)
    (h2 : (y 2).val = c + (x 2).val) : (Rect.unit (s := ⟨3, ![d0, d1, d2]⟩) ![a, b, c] ![e0, e1, e2] h).emb x = y := by
  funext i
  apply Fin.ext
  match i with
  | ⟨0, _⟩ => show a + 1 * (x 0).val = _; rw [one_mul]; exact h0.symm
  | ⟨1, _⟩ => show b + 1 * (x 1).val = _; rw [one_mul]; exact h1.symm
  | ⟨2, _⟩ => show c + 1 * (x 2).val = _; rw [one_mul]; exact h2.symm

section
variable {a : Memref sig .tc .vmem S12x128x256 .bf16} (ha : a.IsWhole)

theorem load_k (x : Vec F S12x128x256 .bf16) (r : ℕ) (hr : r < 12) (h) :
    View.readAt (Elt F) a.view (Rect.unit (s := S12x128x256) ![r, 0, 0] S1x128x256.size h).toLoadRect (ha.unread x)
      = rowK x ⟨r, hr⟩ := by
  rw [View.readAt_eq_ld, ha.read_unread]
  funext j
  have : (j 0).val < 1 := (j 0).isLt
  exact congrArg x (emb3 h j _ (by show r = r + (j 0).val; omega) (by show (j 1).val = 0 + (j 1).val; omega)
    (by show (j 2).val = 0 + (j 2).val; omega))

theorem load_g {a : Memref sig .tc .vmem S6x2x128 .f32} (ha : a.IsWhole) (x : Vec F S6x2x128 .f32) (r p q : ℕ) (hr : r < 12)
    (hp : p = r % 6) (hq : q = r / 6) (h) :
    View.readAt (Elt F) a.view (Rect.unit (s := S6x2x128) ![p, q, 0] S1x1x128.size h).toLoadRect (ha.unread x)
      = rowG x ⟨r, hr⟩ := by
  rw [View.readAt_eq_ld, ha.read_unread]
  funext j
  have h0 : (j 0).val < 1 := (j 0).isLt
  have h1 : (j 1).val < 1 := (j 1).isLt
  exact congrArg x (emb3 h j _ (by show r % 6 = p + (j 0).val; omega) (by show r / 6 = q + (j 1).val; omega)
    (by show (j 2).val = 0 + (j 2).val; omega))

theorem load_v {a : Memref sig .tc .vmem S12x128x512 .bf16} (ha : a.IsWhole) (x : Vec F S12x128x512 .bf16) (r : ℕ) (hr : r < 12)
    (p : Fin 2) (o : ℕ) (ho : o = 64 * p.val) (h) :
    View.readAt (Elt F) a.view (Rect.unit (s := S12x128x512) ![r, o, 0] S1x64x512.size h).toLoadRect (ha.unread x)
      = rowV x ⟨r, hr⟩ p := by
  rw [View.readAt_eq_ld, ha.read_unread]
  funext j
  have : (j 0).val < 1 := (j 0).isLt
  exact congrArg x (emb3 h j _ (by show r = r + (j 0).val; omega) (by show 64 * p.val + (j 1).val = o + (j 1).val; omega)
    (by show (j 2).val = 0 + (j 2).val; omega))

theorem load_s {a : Memref sig .tc .vmem S12x256x512 .f32} (ha : a.IsWhole) (x : Vec F S12x256x512 .f32) (r : ℕ) (hr : r < 12) (h) :
    View.readAt (Elt F) a.view (Rect.unit (s := S12x256x512) ![r, 0, 0] S1x256x512.size h).toLoadRect (ha.unread x)
      = rowS x ⟨r, hr⟩ := by
  rw [View.readAt_eq_ld, ha.read_unread]
  funext j
  have : (j 0).val < 1 := (j 0).isLt
  exact congrArg x (emb3 h j _ (by show r = r + (j 0).val; omega) (by show (j 1).val = 0 + (j 1).val; omega)
    (by show (j 2).val = 0 + (j 2).val; omega))

theorem load_l {a : Memref sig .tc .vmem S6x2x16 .f32} (ha : a.IsWhole) (x : Vec F S6x2x16 .f32) (r p q : ℕ) (hr : r < 12)
    (hp : p = r % 6) (hq : q = r / 6) (h) :
    View.readAt (Elt F) a.view (Rect.unit (s := S6x2x16) ![p, q, 0] S1x1x16.size h).toLoadRect (ha.unread x)
      = fun j => x (ix3 ⟨r % 6, Nat.mod_lt _ (by decide)⟩ ⟨r / 6, by omega⟩ (j 2)) := by
  rw [View.readAt_eq_ld, ha.read_unread]
  funext j
  have h0 : (j 0).val < 1 := (j 0).isLt
  have h1 : (j 1).val < 1 := (j 1).isLt
  exact congrArg x (emb3 h j _ (by show r % 6 = p + (j 0).val; omega) (by show r / 6 = q + (j 1).val; omega)
    (by show (j 2).val = 0 + (j 2).val; omega))
end

/-- A unit first axis added, read at an index. -/
theorem up1_apply {α : Type} {n m : ℕ} (h : (⟨2, ![n, m]⟩ : Shape).ShapeCasts ⟨3, ![1, n, m]⟩) (w : (⟨2, ![n, m]⟩ : Shape).Idx → α)
    (j : (⟨3, ![1, n, m]⟩ : Shape).Idx) : shapeCast ⟨3, ![1, n, m]⟩ w h j = w (ix2 (j 1) (j 2)) := by
  have h0 : (j 0).val < 1 := (j 0).isLt
  refine shapeCast_apply w h j _ ?_
  rw [Shape.rowMajor_val_two, Shape.rowMajor_val_three]
  show (j 1).val * m + (j 2).val = ((j 0).val * n + (j 1).val) * m + (j 2).val
  rw [show (j 0).val = 0 by omega, Nat.zero_mul, Nat.zero_add]

/-! ## A buffer written row by row -/

/-- After the stores `L`, rows below `r` hold `G`, and (when `b`) the others hold `x`. -/
structure At {s : Shape} {e : EltTy} (ρ : s.Idx → ℕ) (G x : s.Idx → Elt F e) (b : Prop) (r : ℕ) (L : List (Piece (Elt F) s e)) : Prop where
  done : ∀ y, ρ y < r → View.canon L y = G y
  rest : b → ∀ y, r ≤ ρ y → View.canon L y = x y

/-- A row stored twice: the second store's payload stays. -/
theorem At.step {s : Shape} {e : EltTy} {ρ : s.Idx → ℕ} {G x : s.Idx → Elt F e} {b : Prop} {r : ℕ} {L : List (Piece (Elt F) s e)}
    (hL : At ρ G x b r L) (R : Rect s) (hR : ∀ y, y ∈ R.set ↔ ρ y = r) (w0 w1 : R.shape.Idx → Elt F e)
    (hw : ∀ z, w1 z = G (R.emb z)) : At ρ G x b (r + 1) (⟨R, w1⟩ :: ⟨R, w0⟩ :: L) := by
  have off : ∀ y, ρ y ≠ r → View.canon (⟨R, w1⟩ :: ⟨R, w0⟩ :: L) y = View.canon L y := fun y hy => by
    have hm : y ∉ R.set := fun h => hy ((hR y).mp h)
    exact (View.canon_cons_of_not_mem (⟨R, w1⟩ : Piece (Elt F) s e) _ hm).trans (View.canon_cons_of_not_mem (⟨R, w0⟩ : Piece (Elt F) s e) L hm)
  constructor
  · intro y hy
    by_cases h : ρ y = r
    · obtain ⟨z, rfl⟩ := R.exists_idx_of_mem ((hR y).mpr h)
      rw [show R.idx z = R.emb z from rfl, View.canon_cons_emb, hw]
    · rw [off y h, hL.done y (by omega)]
  · intro hb y hy
    rw [off y (by omega), hL.rest hb y (by omega)]

/-- A load of a row not yet stored. -/
theorem At.load {s : Shape} {e : EltTy} {ρ : s.Idx → ℕ} {G x : s.Idx → Elt F e} {b : Prop} {r : ℕ} {L : List (Piece (Elt F) s e)}
    (hL : At ρ G x b r L) (hb : b) (R : Rect s) (hR : ∀ y, y ∈ R.set ↔ ρ y = r) {sp : Space} (v : View sig .tc sp s e) :
    v.readCov L R.toLoadRect = fun j => x (R.emb j) := by
  rw [View.readCov_eq_canon']
  funext j
  exact hL.rest hb _ (le_of_eq ((hR _).mp (R.idx_mem j)).symm)

/-- Row number of an index of a block of states. -/
def rho (y : S12x256x512.Idx) : ℕ := (y 0).val

theorem mem_row (r : ℕ) (h) (y : S12x256x512.Idx) : y ∈ (Rect.unit (s := S12x256x512) ![r, 0, 0] S1x256x512.size h).set ↔ rho y = r := by
  rw [Rect.mem_set_unit, Fin.forall_fin_succ, Fin.forall_fin_two]
  have h1 : (y 1).val < 256 := (y 1).isLt
  have h2 : (y 2).val < 512 := (y 2).isLt
  show (r ≤ (y 0).val ∧ (y 0).val < r + 1) ∧ (0 ≤ (y 1).val ∧ (y 1).val < 0 + 256) ∧ (0 ≤ (y 2).val ∧ (y 2).val < 0 + 512) ↔ (y 0).val = r
  omega

/-- Row number of an index of a block of scales. -/
def rhoL (y : S6x2x16.Idx) : ℕ := 6 * (y 1).val + (y 0).val

theorem mem_lane (r p q : ℕ) (hp : p = r % 6) (hq : q = r / 6) (h) (y : S6x2x16.Idx) :
    y ∈ (Rect.unit (s := S6x2x16) ![p, q, 0] S1x1x16.size h).set ↔ rhoL y = r := by
  rw [Rect.mem_set_unit, Fin.forall_fin_succ, Fin.forall_fin_two]
  have h0 : (y 0).val < 6 := (y 0).isLt
  have h1 : (y 1).val < 2 := (y 1).isLt
  have h2 : (y 2).val < 16 := (y 2).isLt
  show (p ≤ (y 0).val ∧ (y 0).val < p + 1) ∧ (q ≤ (y 1).val ∧ (y 1).val < q + 1) ∧ (0 ≤ (y 2).val ∧ (y 2).val < 0 + 16)
    ↔ 6 * (y 1).val + (y 0).val = r
  omega

/-! ## One row of the body -/

theorem pieces_nil {s : Shape} {e : EltTy} {G : s.Idx → Elt F e} : PiecesOf G ([] : List (Piece (Elt F) s e)) := trivial

/-- A row's codes. -/
theorem codes_row {a : Memref sig .tc .vmem S12x128x256 .bf16} (ha : a.IsWhole) (x : Vec F S12x128x256 .bf16) (r : ℕ) (hr : r < 12)
    (h) (hl) (hh) {L : List (Piece (Elt F) S12x128x256 .fp8e4m3)} (hL : PiecesOf (outC x) L) {w0 w1 : Vec F S1x64x256 .fp8e4m3}
    (e0 : w0 = shapeCast S1x64x256 (codes (lo (wide (View.readAt (Elt F) a.view
      (Rect.unit (s := S12x128x256) ![r, 0, 0] S1x128x256.size h).toLoadRect (ha.unread x))))) shapeCasts_S64x256_S1x64x256)
    (e1 : w1 = shapeCast S1x64x256 (codes (hi (wide (View.readAt (Elt F) a.view
      (Rect.unit (s := S12x128x256) ![r, 0, 0] S1x128x256.size h).toLoadRect (ha.unread x))))) shapeCasts_S64x256_S1x64x256) :
    PiecesOf (outC x) (⟨Rect.unit (s := S12x128x256) ![r, 64, 0] S1x64x256.size hh, w1⟩
      :: ⟨Rect.unit (s := S12x128x256) ![r, 0, 0] S1x64x256.size hl, w0⟩ :: L) := by
  subst e0 e1
  rw [load_k ha x r hr h]
  refine ⟨fun z => ?_, fun z => ?_, hL⟩
  · have hz0 : (z 0).val < 1 := (z 0).isLt
    have hz1 : (z 1).val < 64 := (z 1).isLt
    rw [emb3 hh z (ix3 ⟨r, hr⟩ ⟨64 + (z 1).val, by omega⟩ (z 2)) (by show r = r + (z 0).val; omega) rfl
      (by show (z 2).val = 0 + (z 2).val; omega)]
    refine (up1_apply shapeCasts_S64x256_S1x64x256 (codes (hi (kw x ⟨r, hr⟩))) z).trans ?_
    exact (outC_hi x ⟨r, hr⟩ ⟨(z 1).val, hz1⟩ _ (z 2)).symm
  · have hz0 : (z 0).val < 1 := (z 0).isLt
    have hz1 : (z 1).val < 64 := (z 1).isLt
    rw [emb3 hl z (ix3 ⟨r, hr⟩ ⟨(z 1).val, by omega⟩ (z 2)) (by show r = r + (z 0).val; omega) (by show (z 1).val = 0 + (z 1).val; omega)
      (by show (z 2).val = 0 + (z 2).val; omega)]
    refine (up1_apply shapeCasts_S64x256_S1x64x256 (codes (lo (kw x ⟨r, hr⟩))) z).trans ?_
    exact (outC_lo x ⟨r, hr⟩ ⟨(z 1).val, hz1⟩ _ (z 2)).symm

section
variable {a1 : Memref sig .tc .vmem S12x128x256 .bf16} (h1 : a1.IsWhole) {a2 : Memref sig .tc .vmem S12x128x256 .bf16} (h2 : a2.IsWhole)
  {a3 : Memref sig .tc .vmem S12x128x512 .bf16} (h3 : a3.IsWhole) {a4 : Memref sig .tc .vmem S6x2x128 .f32} (h4 : a4.IsWhole)
  {a5 : Memref sig .tc .vmem S6x2x128 .f32} (h5 : a5.IsWhole)
  (x0 x1 : Vec F S12x128x256 .bf16) (x2 : Vec F S12x128x512 .bf16) (x3 x4 : Vec F S6x2x128 .f32)
  (S : Vec F S12x256x512 .f32)

/-- The outputs so far and the states so far, rows below `r` done. -/
def Rows (b : Prop) (r : ℕ) (L6 : List (Piece (Elt F) S12x128x512 .bf16)) (L7 : List (Piece (Elt F) S12x256x512 .f32)) : Prop :=
  PiecesOf (outO x0 x1 x2 x3 x4 S) L6 ∧ At rho (outS x0 x1 x2 x3 x4 S) S b r L7

/-- A row's two output chunks and its state after each. -/
theorem Rows.step {b : Prop} (r p q : ℕ) (hr : r < 12) (hp : p = r % 6) (hq : q = r / 6) (hk) (hg) (hv0) (hv1) (hs)
    {sp : Space} (a8 : View sig .tc sp S12x256x512 .f32) {L6 : List (Piece (Elt F) S12x128x512 .bf16)}
    {L7 : List (Piece (Elt F) S12x256x512 .f32)}
    (ld : List (Piece (Elt F) S12x256x512 .f32) → Vec F S1x256x512 .f32)
    (hld : ∀ L6 L7, Rows x0 x1 x2 x3 x4 S b r L6 L7 → ld L7 = rowS S ⟨r, hr⟩) (hL : Rows x0 x1 x2 x3 x4 S b r L6 L7) {w0 w1 : Vec F S1x64x512 .bf16} {u0 u1 : Vec F S1x256x512 .f32}
    (ew0 : w0 = shapeCast S1x64x512 (o0
      (wide (View.readAt (Elt F) a2.view (Rect.unit (s := S12x128x256) ![r, 0, 0] S1x128x256.size hk).toLoadRect (h2.unread x1)))
      (wide (View.readAt (Elt F) a1.view (Rect.unit (s := S12x128x256) ![r, 0, 0] S1x128x256.size hk).toLoadRect (h1.unread x0)))
      (shapeCast S1x128 (View.readAt (Elt F) a4.view (Rect.unit (s := S6x2x128) ![p, q, 0] S1x1x128.size hg).toLoadRect (h4.unread x3)) shapeCasts_S1x1x128_S1x128)
      (shapeCast S1x128 (View.readAt (Elt F) a5.view (Rect.unit (s := S6x2x128) ![p, q, 0] S1x1x128.size hg).toLoadRect (h5.unread x4)) shapeCasts_S1x1x128_S1x128)
      (View.readAt (Elt F) a3.view (Rect.unit (s := S12x128x512) ![r, 0, 0] S1x64x512.size hv0).toLoadRect (h3.unread x2))
      (shapeCast S256x512 (ld L7) shapeCasts_S1x256x512_S256x512)) shapeCasts_S64x512_S1x64x512)
    (eu0 : u0 = shapeCast S1x256x512 (s0
      (wide (View.readAt (Elt F) a2.view (Rect.unit (s := S12x128x256) ![r, 0, 0] S1x128x256.size hk).toLoadRect (h2.unread x1)))
      (wide (View.readAt (Elt F) a1.view (Rect.unit (s := S12x128x256) ![r, 0, 0] S1x128x256.size hk).toLoadRect (h1.unread x0)))
      (shapeCast S1x128 (View.readAt (Elt F) a4.view (Rect.unit (s := S6x2x128) ![p, q, 0] S1x1x128.size hg).toLoadRect (h4.unread x3)) shapeCasts_S1x1x128_S1x128)
      (shapeCast S1x128 (View.readAt (Elt F) a5.view (Rect.unit (s := S6x2x128) ![p, q, 0] S1x1x128.size hg).toLoadRect (h5.unread x4)) shapeCasts_S1x1x128_S1x128)
      (View.readAt (Elt F) a3.view (Rect.unit (s := S12x128x512) ![r, 0, 0] S1x64x512.size hv0).toLoadRect (h3.unread x2))
      (shapeCast S256x512 (ld L7) shapeCasts_S1x256x512_S256x512)) shapeCasts_S256x512_S1x256x512)
    (ew1 : w1 = shapeCast S1x64x512 (o1
      (wide (View.readAt (Elt F) a2.view (Rect.unit (s := S12x128x256) ![r, 0, 0] S1x128x256.size hk).toLoadRect (h2.unread x1)))
      (wide (View.readAt (Elt F) a1.view (Rect.unit (s := S12x128x256) ![r, 0, 0] S1x128x256.size hk).toLoadRect (h1.unread x0)))
      (shapeCast S1x128 (View.readAt (Elt F) a4.view (Rect.unit (s := S6x2x128) ![p, q, 0] S1x1x128.size hg).toLoadRect (h4.unread x3)) shapeCasts_S1x1x128_S1x128)
      (shapeCast S1x128 (View.readAt (Elt F) a5.view (Rect.unit (s := S6x2x128) ![p, q, 0] S1x1x128.size hg).toLoadRect (h5.unread x4)) shapeCasts_S1x1x128_S1x128)
      (View.readAt (Elt F) a3.view (Rect.unit (s := S12x128x512) ![r, 64, 0] S1x64x512.size hv1).toLoadRect (h3.unread x2))
      (shapeCast S256x512 (a8.readCov (⟨Rect.unit (s := S12x256x512) ![r, 0, 0] S1x256x512.size hs, u0⟩ :: L7)
        (Rect.unit (s := S12x256x512) ![r, 0, 0] S1x256x512.size hs).toLoadRect) shapeCasts_S1x256x512_S256x512)) shapeCasts_S64x512_S1x64x512)
    (eu1 : u1 = shapeCast S1x256x512 (s1
      (wide (View.readAt (Elt F) a2.view (Rect.unit (s := S12x128x256) ![r, 0, 0] S1x128x256.size hk).toLoadRect (h2.unread x1)))
      (wide (View.readAt (Elt F) a1.view (Rect.unit (s := S12x128x256) ![r, 0, 0] S1x128x256.size hk).toLoadRect (h1.unread x0)))
      (shapeCast S1x128 (View.readAt (Elt F) a4.view (Rect.unit (s := S6x2x128) ![p, q, 0] S1x1x128.size hg).toLoadRect (h4.unread x3)) shapeCasts_S1x1x128_S1x128)
      (shapeCast S1x128 (View.readAt (Elt F) a5.view (Rect.unit (s := S6x2x128) ![p, q, 0] S1x1x128.size hg).toLoadRect (h5.unread x4)) shapeCasts_S1x1x128_S1x128)
      (View.readAt (Elt F) a3.view (Rect.unit (s := S12x128x512) ![r, 64, 0] S1x64x512.size hv1).toLoadRect (h3.unread x2))
      (shapeCast S256x512 (a8.readCov (⟨Rect.unit (s := S12x256x512) ![r, 0, 0] S1x256x512.size hs, u0⟩ :: L7)
        (Rect.unit (s := S12x256x512) ![r, 0, 0] S1x256x512.size hs).toLoadRect) shapeCasts_S1x256x512_S256x512)) shapeCasts_S256x512_S1x256x512) :
    Rows x0 x1 x2 x3 x4 S b (r + 1)
      (⟨Rect.unit (s := S12x128x512) ![r, 64, 0] S1x64x512.size hv1, w1⟩ :: ⟨Rect.unit (s := S12x128x512) ![r, 0, 0] S1x64x512.size hv0, w0⟩ :: L6)
      (⟨Rect.unit (s := S12x256x512) ![r, 0, 0] S1x256x512.size hs, u1⟩ :: ⟨Rect.unit (s := S12x256x512) ![r, 0, 0] S1x256x512.size hs, u0⟩ :: L7) := by
  rw [load_k h2 x1 r hr, load_k h1 x0 r hr, load_g h4 x3 r p q hr hp hq, load_g h5 x4 r p q hr hp hq, load_v h3 x2 r hr 0 0 rfl] at ew0 eu0
  rw [View.readCov_cons_toLoadRect, load_k h2 x1 r hr, load_k h1 x0 r hr, load_g h4 x3 r p q hr hp hq, load_g h5 x4 r p q hr hp hq,
    load_v h3 x2 r hr 1 64 rfl] at ew1 eu1
  rw [hld L6 L7 hL] at ew0 eu0
  have hmid : shapeCast S256x512 u0 shapeCasts_S1x256x512_S256x512 = mid x0 x1 x2 x3 x4 S ⟨r, hr⟩ := by
    rw [eu0, shapeCast_shapeCast]; rfl
  rw [hmid] at ew1 eu1
  subst ew0 ew1 eu1
  refine ⟨⟨fun z => ?_, fun z => ?_, hL.1⟩, hL.2.step _ (mem_row r hs) _ _ fun z => ?_⟩
  · have hz0 : (z 0).val < 1 := (z 0).isLt
    have hz1 : (z 1).val < 64 := (z 1).isLt
    rw [emb3 hv1 z (ix3 ⟨r, hr⟩ ⟨64 + (z 1).val, by omega⟩ (z 2)) (by show r = r + (z 0).val; omega) rfl
      (by show (z 2).val = 0 + (z 2).val; omega)]
    refine (up1_apply shapeCasts_S64x512_S1x64x512 (o1 (kw x1 ⟨r, hr⟩) (kw x0 ⟨r, hr⟩) (gw x3 ⟨r, hr⟩) (gw x4 ⟨r, hr⟩) (rowV x2 ⟨r, hr⟩ 1) (mid x0 x1 x2 x3 x4 S ⟨r, hr⟩)) z).trans ?_
    exact (outO_hi x0 x1 x2 x3 x4 S ⟨r, hr⟩ ⟨(z 1).val, hz1⟩ _ (z 2)).symm
  · have hz0 : (z 0).val < 1 := (z 0).isLt
    have hz1 : (z 1).val < 64 := (z 1).isLt
    rw [emb3 hv0 z (ix3 ⟨r, hr⟩ ⟨(z 1).val, by omega⟩ (z 2)) (by show r = r + (z 0).val; omega) (by show (z 1).val = 0 + (z 1).val; omega)
      (by show (z 2).val = 0 + (z 2).val; omega)]
    refine (up1_apply shapeCasts_S64x512_S1x64x512 (o0 (kw x1 ⟨r, hr⟩) (kw x0 ⟨r, hr⟩) (gw x3 ⟨r, hr⟩) (gw x4 ⟨r, hr⟩) (rowV x2 ⟨r, hr⟩ 0) (sw S ⟨r, hr⟩)) z).trans ?_
    exact (outO_lo x0 x1 x2 x3 x4 S ⟨r, hr⟩ ⟨(z 1).val, hz1⟩ _ (z 2)).symm
  · have hz0 : (z 0).val < 1 := (z 0).isLt
    rw [emb3 hs z (ix3 ⟨r, hr⟩ (z 1) (z 2)) (by show r = r + (z 0).val; omega) (by show (z 1).val = 0 + (z 1).val; omega)
      (by show (z 2).val = 0 + (z 2).val; omega)]
    exact (up1_apply shapeCasts_S256x512_S1x256x512 (fin x0 x1 x2 x3 x4 S ⟨r, hr⟩) z).trans rfl

end

/-- The states' row about to be read, when the whole block was stored first. -/
theorem Rows.load {x0 x1 : Vec F S12x128x256 .bf16} {x2 : Vec F S12x128x512 .bf16} {x3 x4 : Vec F S6x2x128 .f32}
    {S : Vec F S12x256x512 .f32} (r : ℕ) (hr : r < 12) (h) {sp : Space} (v : View sig .tc sp S12x256x512 .f32)
    (L6 : List (Piece (Elt F) S12x128x512 .bf16)) (L7 : List (Piece (Elt F) S12x256x512 .f32)) (hL : Rows x0 x1 x2 x3 x4 S True r L6 L7) :
    v.readCov L7 (Rect.unit (s := S12x256x512) ![r, 0, 0] S1x256x512.size h).toLoadRect = rowS S ⟨r, hr⟩ := by
  rw [hL.2.load trivial _ (mem_row r h)]
  funext j
  have : (j 0).val < 1 := (j 0).isLt
  exact congrArg S (emb3 h j _ (by show r = r + (j 0).val; omega) (by show (j 1).val = 0 + (j 1).val; omega)
    (by show (j 2).val = 0 + (j 2).val; omega))

/-- The scales' row about to be read, when the whole block was stored first. -/
theorem lane_load {G P : Vec F S6x2x16 .f32} (r p q : ℕ) (hr : r < 12) (hp : p = r % 6) (hq : q = r / 6) (h)
    {sp : Space} (v : View sig .tc sp S6x2x16 .f32) (L : List (Piece (Elt F) S6x2x16 .f32)) (hL : At rhoL G P True r L) :
    v.readCov L (Rect.unit (s := S6x2x16) ![p, q, 0] S1x1x16.size h).toLoadRect
      = fun j => P (ix3 ⟨r % 6, Nat.mod_lt _ (by decide)⟩ ⟨r / 6, by omega⟩ (j 2)) := by
  rw [hL.load trivial _ (mem_lane r p q hp hq h)]
  funext j
  have h0 : (j 0).val < 1 := (j 0).isLt
  have h1 : (j 1).val < 1 := (j 1).isLt
  exact congrArg P (emb3 h j _ (by show r % 6 = p + (j 0).val; omega) (by show r / 6 = q + (j 1).val; omega)
    (by show (j 2).val = 0 + (j 2).val; omega))

/-- Before any row is done: the whole block was stored, or nothing is claimed. -/
theorem At.whole {s : Shape} {e : EltTy} {ρ : s.Idx → ℕ} {G x : s.Idx → Elt F e} {off : Fin s.rank → ℕ} (h0 : off = fun _ => 0) (h)
    {w : s.Idx → Elt F e} (hw : w = x) : At ρ G x True 0 [⟨Rect.unit off s.size h, w⟩] :=
  ⟨fun _ hy => absurd hy (Nat.not_lt_zero _), fun _ y _ => by rw [View.canon_unit_zero h0, hw]⟩

theorem At.nil {s : Shape} {e : EltTy} {ρ : s.Idx → ℕ} {G x : s.Idx → Elt F e} : At ρ G x False 0 [] :=
  ⟨fun _ hy => absurd hy (Nat.not_lt_zero _), fun h => h.elim⟩

/-- A row's two scales. -/
theorem lanes_row {a : Memref sig .tc .vmem S12x128x256 .bf16} (ha : a.IsWhole) (x : Vec F S12x128x256 .bf16) (n : BitVec 32)
    (P : Vec F S6x2x16 .f32) {b : Prop} (r p q : ℕ) (hr : r < 12) (hp : p = r % 6) (hq : q = r / 6) (hk) (h)
    {sp : Space} (v : View sig .tc sp S6x2x16 .f32) {L : List (Piece (Elt F) S6x2x16 .f32)}
    (ld : List (Piece (Elt F) S6x2x16 .f32) → Vec F S1x1x16 .f32)
    (hld : ∀ L, At rhoL (outL n x P) P b r L →
      ld L = fun j => P (ix3 ⟨r % 6, Nat.mod_lt _ (by decide)⟩ ⟨r / 6, by omega⟩ (j 2)))
    (hL : At rhoL (outL n x P) P b r L)
    {w0 w1 : Vec F S1x1x16 .f32}
    (e0 : w0 = setLane (Scalar.addi (Scalar.muli n 2#32) 0#32) (scale (lo (wide (View.readAt (Elt F) a.view
      (Rect.unit (s := S12x128x256) ![r, 0, 0] S1x128x256.size hk).toLoadRect (ha.unread x))))) (ld L))
    (e1 : w1 = setLane (Scalar.addi (Scalar.muli n 2#32) 1#32) (scale (hi (wide (View.readAt (Elt F) a.view
      (Rect.unit (s := S12x128x256) ![r, 0, 0] S1x128x256.size hk).toLoadRect (ha.unread x)))))
      (v.readCov (⟨Rect.unit (s := S6x2x16) ![p, q, 0] S1x1x16.size h, w0⟩ :: L) (Rect.unit (s := S6x2x16) ![p, q, 0] S1x1x16.size h).toLoadRect)) :
    At rhoL (outL n x P) P b (r + 1) (⟨Rect.unit (s := S6x2x16) ![p, q, 0] S1x1x16.size h, w1⟩
      :: ⟨Rect.unit (s := S6x2x16) ![p, q, 0] S1x1x16.size h, w0⟩ :: L) := by
  rw [load_k ha x r hr] at e0 e1
  rw [View.readCov_cons_toLoadRect, e0, hld L hL] at e1
  subst e1
  refine hL.step _ (mem_lane r p q hp hq h) _ _ fun z => ?_
  have hz0 : (z 0).val < 1 := (z 0).isLt
  have hz1 : (z 1).val < 1 := (z 1).isLt
  rw [emb3 h z (ix3 ⟨r % 6, Nat.mod_lt _ (by decide)⟩ ⟨r / 6, by omega⟩ (z 2)) (by show r % 6 = p + (z 0).val; omega)
    (by show r / 6 = q + (z 1).val; omega) (by show (z 2).val = 0 + (z 2).val; omega)]
  unfold outL
  have hrr : (⟨6 * (r / 6) + r % 6, by omega⟩ : Fin 12) = ⟨r, hr⟩ := Fin.ext (Nat.div_add_mod r 6)
  show _ = laneRow n x P ⟨6 * (r / 6) + r % 6, _⟩ _
  rw [hrr]
  have hz : z = ix3 (n0 := 1) (n1 := 1) (n2 := 16) 0 0 (z 2) := by
    funext i
    match i with
    | ⟨0, _⟩ => exact Fin.ext (by show (z 0).val = 0; omega)
    | ⟨1, _⟩ => exact Fin.ext (by show (z 1).val = 0; omega)
    | ⟨2, _⟩ => rfl
  show laneRow n x P ⟨r, hr⟩ z = _
  rw [hz]
  rfl

end Cert.KernelIdeal.Step

end
-- ==== Proof.RunA.lean ====
/- The pieces the kernel's body stores at the first point, where the states are loaded and the scales cleared first: each is a row of `Step.lean`'s blocks. -/
module

public import proofs.«01_k».proof.Proof.Step
public import proofs.«01_k».proof.Proof.Gen.KernelIdeal.Frame.RunA

@[expose] public section

noncomputable section

namespace Cert.KernelIdeal.Step

open Cert.KernelIdeal Cert.KernelIdeal.Gen Cert.KernelIdeal.Row Idealize.ShloMosaic Idealize.ShloMosaic.TcCoe Idealize.SL.Sem
open Idealize.ShloMosaic.View (Piece PiecesOf)

variable {F : FTy → Type} [FloatOps F]

section
variable (c : Dev nD) (i : grid0.Coords) (arg1 : Memref sig .tc .vmem S12x128x256 .bf16) (harg1 : arg1.IsWhole) (arg2 : Memref sig .tc .vmem S12x128x256 .bf16) (harg2 : arg2.IsWhole) (arg3 : Memref sig .tc .vmem S12x128x512 .bf16) (harg3 : arg3.IsWhole) (arg4 : Memref sig .tc .vmem S6x2x128 .f32) (harg4 : arg4.IsWhole) (arg5 : Memref sig .tc .vmem S6x2x128 .f32) (harg5 : arg5.IsWhole) (arg6 : Memref sig .tc .vmem S12x256x512 .f32) (harg6 : arg6.IsWhole) (arg7 : Memref sig .tc .vmem S12x128x512 .bf16) (harg7 : arg7.IsWhole) (arg8 : Memref sig .tc .vmem S12x256x512 .f32) (harg8 : arg8.IsWhole) (arg9 : Memref sig .tc .vmem S12x128x256 .fp8e4m3) (harg9 : arg9.IsWhole) (arg10 : Memref sig .tc .vmem S6x2x16 .f32) (harg10 : arg10.IsWhole) (arg11 : Memref sig .tc .vmem S12x128x256 .fp8e4m3) (harg11 : arg11.IsWhole) (arg12 : Memref sig .tc .vmem S6x2x16 .f32) (harg12 : arg12.IsWhole) (hc0 : cond0_0 i)
    (x0 : Vec F S12x128x256 .bf16) (x1 : Vec F S12x128x256 .bf16) (x2 : Vec F S12x128x512 .bf16) (x3 : Vec F S6x2x128 .f32) (x4 : Vec F S6x2x128 .f32) (x5 : Vec F S12x256x512 .f32)

set_option maxHeartbeats 8000000 in
/-- The stores of outputs and of states. -/
theorem rows_A : Rows x0 x1 x2 x3 x4 x5 True 12 (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1 (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1 := by
  unfold kernelRun0_A
  dsimp only
  refine Rows.step harg1 harg2 harg3 harg4 harg5 x0 x1 x2 x3 x4 x5 11 5 1 (by decide) rfl rfl inb_S12x128x256_S1x128x256_11_0_0 inb_S6x2x128_S1x1x128_5_1_0 inb_S12x128x512_S1x64x512_11_0_0 inb_S12x128x512_S1x64x512_11_64_0 inb_S12x256x512_S1x256x512_11_0_0 arg8.view
    (fun L => arg8.view.readCov L (Rect.unit (s := S12x256x512) ![11, 0, 0] S1x256x512.size inb_S12x256x512_S1x256x512_11_0_0).toLoadRect) (Rows.load 11 (by decide) _ _) ?_ ?_ ?_ ?_ ?_ <;> [skip; rfl; rfl; rfl; rfl]
  refine Rows.step harg1 harg2 harg3 harg4 harg5 x0 x1 x2 x3 x4 x5 10 4 1 (by decide) rfl rfl inb_S12x128x256_S1x128x256_10_0_0 inb_S6x2x128_S1x1x128_4_1_0 inb_S12x128x512_S1x64x512_10_0_0 inb_S12x128x512_S1x64x512_10_64_0 inb_S12x256x512_S1x256x512_10_0_0 arg8.view
    (fun L => arg8.view.readCov L (Rect.unit (s := S12x256x512) ![10, 0, 0] S1x256x512.size inb_S12x256x512_S1x256x512_10_0_0).toLoadRect) (Rows.load 10 (by decide) _ _) ?_ ?_ ?_ ?_ ?_ <;> [skip; rfl; rfl; rfl; rfl]
  refine Rows.step harg1 harg2 harg3 harg4 harg5 x0 x1 x2 x3 x4 x5 9 3 1 (by decide) rfl rfl inb_S12x128x256_S1x128x256_9_0_0 inb_S6x2x128_S1x1x128_3_1_0 inb_S12x128x512_S1x64x512_9_0_0 inb_S12x128x512_S1x64x512_9_64_0 inb_S12x256x512_S1x256x512_9_0_0 arg8.view
    (fun L => arg8.view.readCov L (Rect.unit (s := S12x256x512) ![9, 0, 0] S1x256x512.size inb_S12x256x512_S1x256x512_9_0_0).toLoadRect) (Rows.load 9 (by decide) _ _) ?_ ?_ ?_ ?_ ?_ <;> [skip; rfl; rfl; rfl; rfl]
  refine Rows.step harg1 harg2 harg3 harg4 harg5 x0 x1 x2 x3 x4 x5 8 2 1 (by decide) rfl rfl inb_S12x128x256_S1x128x256_8_0_0 inb_S6x2x128_S1x1x128_2_1_0 inb_S12x128x512_S1x64x512_8_0_0 inb_S12x128x512_S1x64x512_8_64_0 inb_S12x256x512_S1x256x512_8_0_0 arg8.view
    (fun L => arg8.view.readCov L (Rect.unit (s := S12x256x512) ![8, 0, 0] S1x256x512.size inb_S12x256x512_S1x256x512_8_0_0).toLoadRect) (Rows.load 8 (by decide) _ _) ?_ ?_ ?_ ?_ ?_ <;> [skip; rfl; rfl; rfl; rfl]
  refine Rows.step harg1 harg2 harg3 harg4 harg5 x0 x1 x2 x3 x4 x5 7 1 1 (by decide) rfl rfl inb_S12x128x256_S1x128x256_7_0_0 inb_S6x2x128_S1x1x128_1_1_0 inb_S12x128x512_S1x64x512_7_0_0 inb_S12x128x512_S1x64x512_7_64_0 inb_S12x256x512_S1x256x512_7_0_0 arg8.view
    (fun L => arg8.view.readCov L (Rect.unit (s := S12x256x512) ![7, 0, 0] S1x256x512.size inb_S12x256x512_S1x256x512_7_0_0).toLoadRect) (Rows.load 7 (by decide) _ _) ?_ ?_ ?_ ?_ ?_ <;> [skip; rfl; rfl; rfl; rfl]
  refine Rows.step harg1 harg2 harg3 harg4 harg5 x0 x1 x2 x3 x4 x5 6 0 1 (by decide) rfl rfl inb_S12x128x256_S1x128x256_6_0_0 inb_S6x2x128_S1x1x128_0_1_0 inb_S12x128x512_S1x64x512_6_0_0 inb_S12x128x512_S1x64x512_6_64_0 inb_S12x256x512_S1x256x512_6_0_0 arg8.view
    (fun L => arg8.view.readCov L (Rect.unit (s := S12x256x512) ![6, 0, 0] S1x256x512.size inb_S12x256x512_S1x256x512_6_0_0).toLoadRect) (Rows.load 6 (by decide) _ _) ?_ ?_ ?_ ?_ ?_ <;> [skip; rfl; rfl; rfl; rfl]
  refine Rows.step harg1 harg2 harg3 harg4 harg5 x0 x1 x2 x3 x4 x5 5 5 0 (by decide) rfl rfl inb_S12x128x256_S1x128x256_5_0_0 inb_S6x2x128_S1x1x128_5_0_0 inb_S12x128x512_S1x64x512_5_0_0 inb_S12x128x512_S1x64x512_5_64_0 inb_S12x256x512_S1x256x512_5_0_0 arg8.view
    (fun L => arg8.view.readCov L (Rect.unit (s := S12x256x512) ![5, 0, 0] S1x256x512.size inb_S12x256x512_S1x256x512_5_0_0).toLoadRect) (Rows.load 5 (by decide) _ _) ?_ ?_ ?_ ?_ ?_ <;> [skip; rfl; rfl; rfl; rfl]
  refine Rows.step harg1 harg2 harg3 harg4 harg5 x0 x1 x2 x3 x4 x5 4 4 0 (by decide) rfl rfl inb_S12x128x256_S1x128x256_4_0_0 inb_S6x2x128_S1x1x128_4_0_0 inb_S12x128x512_S1x64x512_4_0_0 inb_S12x128x512_S1x64x512_4_64_0 inb_S12x256x512_S1x256x512_4_0_0 arg8.view
    (fun L => arg8.view.readCov L (Rect.unit (s := S12x256x512) ![4, 0, 0] S1x256x512.size inb_S12x256x512_S1x256x512_4_0_0).toLoadRect) (Rows.load 4 (by decide) _ _) ?_ ?_ ?_ ?_ ?_ <;> [skip; rfl; rfl; rfl; rfl]
  refine Rows.step harg1 harg2 harg3 harg4 harg5 x0 x1 x2 x3 x4 x5 3 3 0 (by decide) rfl rfl inb_S12x128x256_S1x128x256_3_0_0 inb_S6x2x128_S1x1x128_3_0_0 inb_S12x128x512_S1x64x512_3_0_0 inb_S12x128x512_S1x64x512_3_64_0 inb_S12x256x512_S1x256x512_3_0_0 arg8.view
    (fun L => arg8.view.readCov L (Rect.unit (s := S12x256x512) ![3, 0, 0] S1x256x512.size inb_S12x256x512_S1x256x512_3_0_0).toLoadRect) (Rows.load 3 (by decide) _ _) ?_ ?_ ?_ ?_ ?_ <;> [skip; rfl; rfl; rfl; rfl]
  refine Rows.step harg1 harg2 harg3 harg4 harg5 x0 x1 x2 x3 x4 x5 2 2 0 (by decide) rfl rfl inb_S12x128x256_S1x128x256_2_0_0 inb_S6x2x128_S1x1x128_2_0_0 inb_S12x128x512_S1x64x512_2_0_0 inb_S12x128x512_S1x64x512_2_64_0 inb_S12x256x512_S1x256x512_2_0_0 arg8.view
    (fun L => arg8.view.readCov L (Rect.unit (s := S12x256x512) ![2, 0, 0] S1x256x512.size inb_S12x256x512_S1x256x512_2_0_0).toLoadRect) (Rows.load 2 (by decide) _ _) ?_ ?_ ?_ ?_ ?_ <;> [skip; rfl; rfl; rfl; rfl]
  refine Rows.step harg1 harg2 harg3 harg4 harg5 x0 x1 x2 x3 x4 x5 1 1 0 (by decide) rfl rfl inb_S12x128x256_S1x128x256_1_0_0 inb_S6x2x128_S1x1x128_1_0_0 inb_S12x128x512_S1x64x512_1_0_0 inb_S12x128x512_S1x64x512_1_64_0 inb_S12x256x512_S1x256x512_1_0_0 arg8.view
    (fun L => arg8.view.readCov L (Rect.unit (s := S12x256x512) ![1, 0, 0] S1x256x512.size inb_S12x256x512_S1x256x512_1_0_0).toLoadRect) (Rows.load 1 (by decide) _ _) ?_ ?_ ?_ ?_ ?_ <;> [skip; rfl; rfl; rfl; rfl]
  refine Rows.step harg1 harg2 harg3 harg4 harg5 x0 x1 x2 x3 x4 x5 0 0 0 (by decide) rfl rfl inb_S12x128x256_S1x128x256_0_0_0 inb_S6x2x128_S1x1x128_0_0_0 inb_S12x128x512_S1x64x512_0_0_0 inb_S12x128x512_S1x64x512_0_64_0 inb_S12x256x512_S1x256x512_0_0_0 arg8.view
    (fun L => arg8.view.readCov L (Rect.unit (s := S12x256x512) ![0, 0, 0] S1x256x512.size inb_S12x256x512_S1x256x512_0_0_0).toLoadRect) (Rows.load 0 (by decide) _ _) ?_ ?_ ?_ ?_ ?_ <;> [skip; rfl; rfl; rfl; rfl]
  exact ⟨pieces_nil, At.whole (funext fun a => by fin_cases a <;> rfl) _ (by unfold k0_pay3; rw [shapeCast_self, View.readAt_eq_ld, harg6.read_unread, View.ld_unit_zero (funext fun a => by fin_cases a <;> rfl)])⟩

set_option maxHeartbeats 8000000 in
/-- The stores of k's codes. -/
theorem codesk_A : PiecesOf (outC x1) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1 := by
  unfold kernelRun0_A
  dsimp only
  refine codes_row harg2 x1 11 (by decide) inb_S12x128x256_S1x128x256_11_0_0 inb_S12x128x256_S1x64x256_11_0_0 inb_S12x128x256_S1x64x256_11_64_0 ?_ ?_ ?_ <;> [skip; rfl; rfl]
  refine codes_row harg2 x1 10 (by decide) inb_S12x128x256_S1x128x256_10_0_0 inb_S12x128x256_S1x64x256_10_0_0 inb_S12x128x256_S1x64x256_10_64_0 ?_ ?_ ?_ <;> [skip; rfl; rfl]
  refine codes_row harg2 x1 9 (by decide) inb_S12x128x256_S1x128x256_9_0_0 inb_S12x128x256_S1x64x256_9_0_0 inb_S12x128x256_S1x64x256_9_64_0 ?_ ?_ ?_ <;> [skip; rfl; rfl]
  refine codes_row harg2 x1 8 (by decide) inb_S12x128x256_S1x128x256_8_0_0 inb_S12x128x256_S1x64x256_8_0_0 inb_S12x128x256_S1x64x256_8_64_0 ?_ ?_ ?_ <;> [skip; rfl; rfl]
  refine codes_row harg2 x1 7 (by decide) inb_S12x128x256_S1x128x256_7_0_0 inb_S12x128x256_S1x64x256_7_0_0 inb_S12x128x256_S1x64x256_7_64_0 ?_ ?_ ?_ <;> [skip; rfl; rfl]
  refine codes_row harg2 x1 6 (by decide) inb_S12x128x256_S1x128x256_6_0_0 inb_S12x128x256_S1x64x256_6_0_0 inb_S12x128x256_S1x64x256_6_64_0 ?_ ?_ ?_ <;> [skip; rfl; rfl]
  refine codes_row harg2 x1 5 (by decide) inb_S12x128x256_S1x128x256_5_0_0 inb_S12x128x256_S1x64x256_5_0_0 inb_S12x128x256_S1x64x256_5_64_0 ?_ ?_ ?_ <;> [skip; rfl; rfl]
  refine codes_row harg2 x1 4 (by decide) inb_S12x128x256_S1x128x256_4_0_0 inb_S12x128x256_S1x64x256_4_0_0 inb_S12x128x256_S1x64x256_4_64_0 ?_ ?_ ?_ <;> [skip; rfl; rfl]
  refine codes_row harg2 x1 3 (by decide) inb_S12x128x256_S1x128x256_3_0_0 inb_S12x128x256_S1x64x256_3_0_0 inb_S12x128x256_S1x64x256_3_64_0 ?_ ?_ ?_ <;> [skip; rfl; rfl]
  refine codes_row harg2 x1 2 (by decide) inb_S12x128x256_S1x128x256_2_0_0 inb_S12x128x256_S1x64x256_2_0_0 inb_S12x128x256_S1x64x256_2_64_0 ?_ ?_ ?_ <;> [skip; rfl; rfl]
  refine codes_row harg2 x1 1 (by decide) inb_S12x128x256_S1x128x256_1_0_0 inb_S12x128x256_S1x64x256_1_0_0 inb_S12x128x256_S1x64x256_1_64_0 ?_ ?_ ?_ <;> [skip; rfl; rfl]
  refine codes_row harg2 x1 0 (by decide) inb_S12x128x256_S1x128x256_0_0_0 inb_S12x128x256_S1x64x256_0_0_0 inb_S12x128x256_S1x64x256_0_64_0 ?_ ?_ ?_ <;> [skip; rfl; rfl]
  exact pieces_nil

set_option maxHeartbeats 8000000 in
/-- The stores of q's codes. -/
theorem codesq_A : PiecesOf (outC x0) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.1 := by
  unfold kernelRun0_A
  dsimp only
  refine codes_row harg1 x0 11 (by decide) inb_S12x128x256_S1x128x256_11_0_0 inb_S12x128x256_S1x64x256_11_0_0 inb_S12x128x256_S1x64x256_11_64_0 ?_ ?_ ?_ <;> [skip; rfl; rfl]
  refine codes_row harg1 x0 10 (by decide) inb_S12x128x256_S1x128x256_10_0_0 inb_S12x128x256_S1x64x256_10_0_0 inb_S12x128x256_S1x64x256_10_64_0 ?_ ?_ ?_ <;> [skip; rfl; rfl]
  refine codes_row harg1 x0 9 (by decide) inb_S12x128x256_S1x128x256_9_0_0 inb_S12x128x256_S1x64x256_9_0_0 inb_S12x128x256_S1x64x256_9_64_0 ?_ ?_ ?_ <;> [skip; rfl; rfl]
  refine codes_row harg1 x0 8 (by decide) inb_S12x128x256_S1x128x256_8_0_0 inb_S12x128x256_S1x64x256_8_0_0 inb_S12x128x256_S1x64x256_8_64_0 ?_ ?_ ?_ <;> [skip; rfl; rfl]
  refine codes_row harg1 x0 7 (by decide) inb_S12x128x256_S1x128x256_7_0_0 inb_S12x128x256_S1x64x256_7_0_0 inb_S12x128x256_S1x64x256_7_64_0 ?_ ?_ ?_ <;> [skip; rfl; rfl]
  refine codes_row harg1 x0 6 (by decide) inb_S12x128x256_S1x128x256_6_0_0 inb_S12x128x256_S1x64x256_6_0_0 inb_S12x128x256_S1x64x256_6_64_0 ?_ ?_ ?_ <;> [skip; rfl; rfl]
  refine codes_row harg1 x0 5 (by decide) inb_S12x128x256_S1x128x256_5_0_0 inb_S12x128x256_S1x64x256_5_0_0 inb_S12x128x256_S1x64x256_5_64_0 ?_ ?_ ?_ <;> [skip; rfl; rfl]
  refine codes_row harg1 x0 4 (by decide) inb_S12x128x256_S1x128x256_4_0_0 inb_S12x128x256_S1x64x256_4_0_0 inb_S12x128x256_S1x64x256_4_64_0 ?_ ?_ ?_ <;> [skip; rfl; rfl]
  refine codes_row harg1 x0 3 (by decide) inb_S12x128x256_S1x128x256_3_0_0 inb_S12x128x256_S1x64x256_3_0_0 inb_S12x128x256_S1x64x256_3_64_0 ?_ ?_ ?_ <;> [skip; rfl; rfl]
  refine codes_row harg1 x0 2 (by decide) inb_S12x128x256_S1x128x256_2_0_0 inb_S12x128x256_S1x64x256_2_0_0 inb_S12x128x256_S1x64x256_2_64_0 ?_ ?_ ?_ <;> [skip; rfl; rfl]
  refine codes_row harg1 x0 1 (by decide) inb_S12x128x256_S1x128x256_1_0_0 inb_S12x128x256_S1x64x256_1_0_0 inb_S12x128x256_S1x64x256_1_64_0 ?_ ?_ ?_ <;> [skip; rfl; rfl]
  refine codes_row harg1 x0 0 (by decide) inb_S12x128x256_S1x128x256_0_0_0 inb_S12x128x256_S1x64x256_0_0_0 inb_S12x128x256_S1x64x256_0_64_0 ?_ ?_ ?_ <;> [skip; rfl; rfl]
  exact pieces_nil

set_option maxHeartbeats 8000000 in
/-- The stores of k's scales. -/
theorem lanesk_A : At rhoL (outL (BitVec.ofNat 32 (i 0).val) x1 (broadcast S6x2x16 (Scalar.ofBits .f32 0x00000000#32))) (broadcast S6x2x16 (Scalar.ofBits .f32 0x00000000#32)) True 12 (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1 := by
  unfold kernelRun0_A
  dsimp only
  refine lanes_row harg2 x1 (BitVec.ofNat 32 (i 0).val) (broadcast S6x2x16 (Scalar.ofBits .f32 0x00000000#32)) 11 5 1 (by decide) rfl rfl inb_S12x128x256_S1x128x256_11_0_0 inb_S6x2x16_S1x1x16_5_1_0 arg10.view
    (fun L => arg10.view.readCov L (Rect.unit (s := S6x2x16) ![5, 1, 0] S1x1x16.size inb_S6x2x16_S1x1x16_5_1_0).toLoadRect) (lane_load 11 _ _ (by decide) rfl rfl _ _) ?_ ?_ ?_ <;> [skip; rfl; rfl]
  refine lanes_row harg2 x1 (BitVec.ofNat 32 (i 0).val) (broadcast S6x2x16 (Scalar.ofBits .f32 0x00000000#32)) 10 4 1 (by decide) rfl rfl inb_S12x128x256_S1x128x256_10_0_0 inb_S6x2x16_S1x1x16_4_1_0 arg10.view
    (fun L => arg10.view.readCov L (Rect.unit (s := S6x2x16) ![4, 1, 0] S1x1x16.size inb_S6x2x16_S1x1x16_4_1_0).toLoadRect) (lane_load 10 _ _ (by decide) rfl rfl _ _) ?_ ?_ ?_ <;> [skip; rfl; rfl]
  refine lanes_row harg2 x1 (BitVec.ofNat 32 (i 0).val) (broadcast S6x2x16 (Scalar.ofBits .f32 0x00000000#32)) 9 3 1 (by decide) rfl rfl inb_S12x128x256_S1x128x256_9_0_0 inb_S6x2x16_S1x1x16_3_1_0 arg10.view
    (fun L => arg10.view.readCov L (Rect.unit (s := S6x2x16) ![3, 1, 0] S1x1x16.size inb_S6x2x16_S1x1x16_3_1_0).toLoadRect) (lane_load 9 _ _ (by decide) rfl rfl _ _) ?_ ?_ ?_ <;> [skip; rfl; rfl]
  refine lanes_row harg2 x1 (BitVec.ofNat 32 (i 0).val) (broadcast S6x2x16 (Scalar.ofBits .f32 0x00000000#32)) 8 2 1 (by decide) rfl rfl inb_S12x128x256_S1x128x256_8_0_0 inb_S6x2x16_S1x1x16_2_1_0 arg10.view
    (fun L => arg10.view.readCov L (Rect.unit (s := S6x2x16) ![2, 1, 0] S1x1x16.size inb_S6x2x16_S1x1x16_2_1_0).toLoadRect) (lane_load 8 _ _ (by decide) rfl rfl _ _) ?_ ?_ ?_ <;> [skip; rfl; rfl]
  refine lanes_row harg2 x1 (BitVec.ofNat 32 (i 0).val) (broadcast S6x2x16 (Scalar.ofBits .f32 0x00000000#32)) 7 1 1 (by decide) rfl rfl inb_S12x128x256_S1x128x256_7_0_0 inb_S6x2x16_S1x1x16_1_1_0 arg10.view
    (fun L => arg10.view.readCov L (Rect.unit (s := S6x2x16) ![1, 1, 0] S1x1x16.size inb_S6x2x16_S1x1x16_1_1_0).toLoadRect) (lane_load 7 _ _ (by decide) rfl rfl _ _) ?_ ?_ ?_ <;> [skip; rfl; rfl]
  refine lanes_row harg2 x1 (BitVec.ofNat 32 (i 0).val) (broadcast S6x2x16 (Scalar.ofBits .f32 0x00000000#32)) 6 0 1 (by decide) rfl rfl inb_S12x128x256_S1x128x256_6_0_0 inb_S6x2x16_S1x1x16_0_1_0 arg10.view
    (fun L => arg10.view.readCov L (Rect.unit (s := S6x2x16) ![0, 1, 0] S1x1x16.size inb_S6x2x16_S1x1x16_0_1_0).toLoadRect) (lane_load 6 _ _ (by decide) rfl rfl _ _) ?_ ?_ ?_ <;> [skip; rfl; rfl]
  refine lanes_row harg2 x1 (BitVec.ofNat 32 (i 0).val) (broadcast S6x2x16 (Scalar.ofBits .f32 0x00000000#32)) 5 5 0 (by decide) rfl rfl inb_S12x128x256_S1x128x256_5_0_0 inb_S6x2x16_S1x1x16_5_0_0 arg10.view
    (fun L => arg10.view.readCov L (Rect.unit (s := S6x2x16) ![5, 0, 0] S1x1x16.size inb_S6x2x16_S1x1x16_5_0_0).toLoadRect) (lane_load 5 _ _ (by decide) rfl rfl _ _) ?_ ?_ ?_ <;> [skip; rfl; rfl]
  refine lanes_row harg2 x1 (BitVec.ofNat 32 (i 0).val) (broadcast S6x2x16 (Scalar.ofBits .f32 0x00000000#32)) 4 4 0 (by decide) rfl rfl inb_S12x128x256_S1x128x256_4_0_0 inb_S6x2x16_S1x1x16_4_0_0 arg10.view
    (fun L => arg10.view.readCov L (Rect.unit (s := S6x2x16) ![4, 0, 0] S1x1x16.size inb_S6x2x16_S1x1x16_4_0_0).toLoadRect) (lane_load 4 _ _ (by decide) rfl rfl _ _) ?_ ?_ ?_ <;> [skip; rfl; rfl]
  refine lanes_row harg2 x1 (BitVec.ofNat 32 (i 0).val) (broadcast S6x2x16 (Scalar.ofBits .f32 0x00000000#32)) 3 3 0 (by decide) rfl rfl inb_S12x128x256_S1x128x256_3_0_0 inb_S6x2x16_S1x1x16_3_0_0 arg10.view
    (fun L => arg10.view.readCov L (Rect.unit (s := S6x2x16) ![3, 0, 0] S1x1x16.size inb_S6x2x16_S1x1x16_3_0_0).toLoadRect) (lane_load 3 _ _ (by decide) rfl rfl _ _) ?_ ?_ ?_ <;> [skip; rfl; rfl]
  refine lanes_row harg2 x1 (BitVec.ofNat 32 (i 0).val) (broadcast S6x2x16 (Scalar.ofBits .f32 0x00000000#32)) 2 2 0 (by decide) rfl rfl inb_S12x128x256_S1x128x256_2_0_0 inb_S6x2x16_S1x1x16_2_0_0 arg10.view
    (fun L => arg10.view.readCov L (Rect.unit (s := S6x2x16) ![2, 0, 0] S1x1x16.size inb_S6x2x16_S1x1x16_2_0_0).toLoadRect) (lane_load 2 _ _ (by decide) rfl rfl _ _) ?_ ?_ ?_ <;> [skip; rfl; rfl]
  refine lanes_row harg2 x1 (BitVec.ofNat 32 (i 0).val) (broadcast S6x2x16 (Scalar.ofBits .f32 0x00000000#32)) 1 1 0 (by decide) rfl rfl inb_S12x128x256_S1x128x256_1_0_0 inb_S6x2x16_S1x1x16_1_0_0 arg10.view
    (fun L => arg10.view.readCov L (Rect.unit (s := S6x2x16) ![1, 0, 0] S1x1x16.size inb_S6x2x16_S1x1x16_1_0_0).toLoadRect) (lane_load 1 _ _ (by decide) rfl rfl _ _) ?_ ?_ ?_ <;> [skip; rfl; rfl]
  refine lanes_row harg2 x1 (BitVec.ofNat 32 (i 0).val) (broadcast S6x2x16 (Scalar.ofBits .f32 0x00000000#32)) 0 0 0 (by decide) rfl rfl inb_S12x128x256_S1x128x256_0_0_0 inb_S6x2x16_S1x1x16_0_0_0 arg10.view
    (fun L => arg10.view.readCov L (Rect.unit (s := S6x2x16) ![0, 0, 0] S1x1x16.size inb_S6x2x16_S1x1x16_0_0_0).toLoadRect) (lane_load 0 _ _ (by decide) rfl rfl _ _) ?_ ?_ ?_ <;> [skip; rfl; rfl]
  exact At.whole (funext fun a => by fin_cases a <;> rfl) _ rfl

set_option maxHeartbeats 8000000 in
/-- The stores of q's scales. -/
theorem lanesq_A : At rhoL (outL (BitVec.ofNat 32 (i 0).val) x0 (broadcast S6x2x16 (Scalar.ofBits .f32 0x00000000#32))) (broadcast S6x2x16 (Scalar.ofBits .f32 0x00000000#32)) True 12 (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.2.2.val := by
  unfold kernelRun0_A
  dsimp only
  refine lanes_row harg1 x0 (BitVec.ofNat 32 (i 0).val) (broadcast S6x2x16 (Scalar.ofBits .f32 0x00000000#32)) 11 5 1 (by decide) rfl rfl inb_S12x128x256_S1x128x256_11_0_0 inb_S6x2x16_S1x1x16_5_1_0 arg12.view
    (fun L => arg12.view.readCov L (Rect.unit (s := S6x2x16) ![5, 1, 0] S1x1x16.size inb_S6x2x16_S1x1x16_5_1_0).toLoadRect) (lane_load 11 _ _ (by decide) rfl rfl _ _) ?_ ?_ ?_ <;> [skip; rfl; rfl]
  refine lanes_row harg1 x0 (BitVec.ofNat 32 (i 0).val) (broadcast S6x2x16 (Scalar.ofBits .f32 0x00000000#32)) 10 4 1 (by decide) rfl rfl inb_S12x128x256_S1x128x256_10_0_0 inb_S6x2x16_S1x1x16_4_1_0 arg12.view
    (fun L => arg12.view.readCov L (Rect.unit (s := S6x2x16) ![4, 1, 0] S1x1x16.size inb_S6x2x16_S1x1x16_4_1_0).toLoadRect) (lane_load 10 _ _ (by decide) rfl rfl _ _) ?_ ?_ ?_ <;> [skip; rfl; rfl]
  refine lanes_row harg1 x0 (BitVec.ofNat 32 (i 0).val) (broadcast S6x2x16 (Scalar.ofBits .f32 0x00000000#32)) 9 3 1 (by decide) rfl rfl inb_S12x128x256_S1x128x256_9_0_0 inb_S6x2x16_S1x1x16_3_1_0 arg12.view
    (fun L => arg12.view.readCov L (Rect.unit (s := S6x2x16) ![3, 1, 0] S1x1x16.size inb_S6x2x16_S1x1x16_3_1_0).toLoadRect) (lane_load 9 _ _ (by decide) rfl rfl _ _) ?_ ?_ ?_ <;> [skip; rfl; rfl]
  refine lanes_row harg1 x0 (BitVec.ofNat 32 (i 0).val) (broadcast S6x2x16 (Scalar.ofBits .f32 0x00000000#32)) 8 2 1 (by decide) rfl rfl inb_S12x128x256_S1x128x256_8_0_0 inb_S6x2x16_S1x1x16_2_1_0 arg12.view
    (fun L => arg12.view.readCov L (Rect.unit (s := S6x2x16) ![2, 1, 0] S1x1x16.size inb_S6x2x16_S1x1x16_2_1_0).toLoadRect) (lane_load 8 _ _ (by decide) rfl rfl _ _) ?_ ?_ ?_ <;> [skip; rfl; rfl]
  refine lanes_row harg1 x0 (BitVec.ofNat 32 (i 0).val) (broadcast S6x2x16 (Scalar.ofBits .f32 0x00000000#32)) 7 1 1 (by decide) rfl rfl inb_S12x128x256_S1x128x256_7_0_0 inb_S6x2x16_S1x1x16_1_1_0 arg12.view
    (fun L => arg12.view.readCov L (Rect.unit (s := S6x2x16) ![1, 1, 0] S1x1x16.size inb_S6x2x16_S1x1x16_1_1_0).toLoadRect) (lane_load 7 _ _ (by decide) rfl rfl _ _) ?_ ?_ ?_ <;> [skip; rfl; rfl]
  refine lanes_row harg1 x0 (BitVec.ofNat 32 (i 0).val) (broadcast S6x2x16 (Scalar.ofBits .f32 0x00000000#32)) 6 0 1 (by decide) rfl rfl inb_S12x128x256_S1x128x256_6_0_0 inb_S6x2x16_S1x1x16_0_1_0 arg12.view
    (fun L => arg12.view.readCov L (Rect.unit (s := S6x2x16) ![0, 1, 0] S1x1x16.size inb_S6x2x16_S1x1x16_0_1_0).toLoadRect) (lane_load 6 _ _ (by decide) rfl rfl _ _) ?_ ?_ ?_ <;> [skip; rfl; rfl]
  refine lanes_row harg1 x0 (BitVec.ofNat 32 (i 0).val) (broadcast S6x2x16 (Scalar.ofBits .f32 0x00000000#32)) 5 5 0 (by decide) rfl rfl inb_S12x128x256_S1x128x256_5_0_0 inb_S6x2x16_S1x1x16_5_0_0 arg12.view
    (fun L => arg12.view.readCov L (Rect.unit (s := S6x2x16) ![5, 0, 0] S1x1x16.size inb_S6x2x16_S1x1x16_5_0_0).toLoadRect) (lane_load 5 _ _ (by decide) rfl rfl _ _) ?_ ?_ ?_ <;> [skip; rfl; rfl]
  refine lanes_row harg1 x0 (BitVec.ofNat 32 (i 0).val) (broadcast S6x2x16 (Scalar.ofBits .f32 0x00000000#32)) 4 4 0 (by decide) rfl rfl inb_S12x128x256_S1x128x256_4_0_0 inb_S6x2x16_S1x1x16_4_0_0 arg12.view
    (fun L => arg12.view.readCov L (Rect.unit (s := S6x2x16) ![4, 0, 0] S1x1x16.size inb_S6x2x16_S1x1x16_4_0_0).toLoadRect) (lane_load 4 _ _ (by decide) rfl rfl _ _) ?_ ?_ ?_ <;> [skip; rfl; rfl]
  refine lanes_row harg1 x0 (BitVec.ofNat 32 (i 0).val) (broadcast S6x2x16 (Scalar.ofBits .f32 0x00000000#32)) 3 3 0 (by decide) rfl rfl inb_S12x128x256_S1x128x256_3_0_0 inb_S6x2x16_S1x1x16_3_0_0 arg12.view
    (fun L => arg12.view.readCov L (Rect.unit (s := S6x2x16) ![3, 0, 0] S1x1x16.size inb_S6x2x16_S1x1x16_3_0_0).toLoadRect) (lane_load 3 _ _ (by decide) rfl rfl _ _) ?_ ?_ ?_ <;> [skip; rfl; rfl]
  refine lanes_row harg1 x0 (BitVec.ofNat 32 (i 0).val) (broadcast S6x2x16 (Scalar.ofBits .f32 0x00000000#32)) 2 2 0 (by decide) rfl rfl inb_S12x128x256_S1x128x256_2_0_0 inb_S6x2x16_S1x1x16_2_0_0 arg12.view
    (fun L => arg12.view.readCov L (Rect.unit (s := S6x2x16) ![2, 0, 0] S1x1x16.size inb_S6x2x16_S1x1x16_2_0_0).toLoadRect) (lane_load 2 _ _ (by decide) rfl rfl _ _) ?_ ?_ ?_ <;> [skip; rfl; rfl]
  refine lanes_row harg1 x0 (BitVec.ofNat 32 (i 0).val) (broadcast S6x2x16 (Scalar.ofBits .f32 0x00000000#32)) 1 1 0 (by decide) rfl rfl inb_S12x128x256_S1x128x256_1_0_0 inb_S6x2x16_S1x1x16_1_0_0 arg12.view
    (fun L => arg12.view.readCov L (Rect.unit (s := S6x2x16) ![1, 0, 0] S1x1x16.size inb_S6x2x16_S1x1x16_1_0_0).toLoadRect) (lane_load 1 _ _ (by decide) rfl rfl _ _) ?_ ?_ ?_ <;> [skip; rfl; rfl]
  refine lanes_row harg1 x0 (BitVec.ofNat 32 (i 0).val) (broadcast S6x2x16 (Scalar.ofBits .f32 0x00000000#32)) 0 0 0 (by decide) rfl rfl inb_S12x128x256_S1x128x256_0_0_0 inb_S6x2x16_S1x1x16_0_0_0 arg12.view
    (fun L => arg12.view.readCov L (Rect.unit (s := S6x2x16) ![0, 0, 0] S1x1x16.size inb_S6x2x16_S1x1x16_0_0_0).toLoadRect) (lane_load 0 _ _ (by decide) rfl rfl _ _) ?_ ?_ ?_ <;> [skip; rfl; rfl]
  exact At.whole (funext fun a => by fin_cases a <;> rfl) _ rfl

end

end Cert.KernelIdeal.Step

end
-- ==== Proof.RunB.lean ====
/- The pieces the kernel's body stores at the other points: each is a row of `Step.lean`'s blocks. -/
module

public import proofs.«01_k».proof.Proof.Step
public import proofs.«01_k».proof.Proof.Gen.KernelIdeal.Frame.RunB

@[expose] public section

noncomputable section

namespace Cert.KernelIdeal.Step

open Cert.KernelIdeal Cert.KernelIdeal.Gen Cert.KernelIdeal.Row Idealize.ShloMosaic Idealize.ShloMosaic.TcCoe Idealize.SL.Sem
open Idealize.ShloMosaic.View (Piece PiecesOf)

variable {F : FTy → Type} [FloatOps F]

section
variable (c : Dev nD) (i : grid0.Coords) (arg1 : Memref sig .tc .vmem S12x128x256 .bf16) (harg1 : arg1.IsWhole) (arg2 : Memref sig .tc .vmem S12x128x256 .bf16) (harg2 : arg2.IsWhole) (arg3 : Memref sig .tc .vmem S12x128x512 .bf16) (harg3 : arg3.IsWhole) (arg4 : Memref sig .tc .vmem S6x2x128 .f32) (harg4 : arg4.IsWhole) (arg5 : Memref sig .tc .vmem S6x2x128 .f32) (harg5 : arg5.IsWhole) (arg6 : Memref sig .tc .vmem S12x256x512 .f32) (harg6 : arg6.IsWhole) (arg7 : Memref sig .tc .vmem S12x128x512 .bf16) (harg7 : arg7.IsWhole) (arg8 : Memref sig .tc .vmem S12x256x512 .f32) (harg8 : arg8.IsWhole) (arg9 : Memref sig .tc .vmem S12x128x256 .fp8e4m3) (harg9 : arg9.IsWhole) (arg10 : Memref sig .tc .vmem S6x2x16 .f32) (harg10 : arg10.IsWhole) (arg11 : Memref sig .tc .vmem S12x128x256 .fp8e4m3) (harg11 : arg11.IsWhole) (arg12 : Memref sig .tc .vmem S6x2x16 .f32) (harg12 : arg12.IsWhole) (hc0 : ¬cond0_0 i)
    (x0 : Vec F S12x128x256 .bf16) (x1 : Vec F S12x128x256 .bf16) (x2 : Vec F S12x128x512 .bf16) (x3 : Vec F S6x2x128 .f32) (x4 : Vec F S6x2x128 .f32) (x5 : Vec F S12x256x512 .f32) (xo7 : Vec F S12x256x512 .f32) (xo9 : Vec F S6x2x16 .f32) (xo11 : Vec F S6x2x16 .f32)

set_option maxHeartbeats 8000000 in
/-- The stores of outputs and of states. -/
theorem rows_B : Rows x0 x1 x2 x3 x4 xo7 False 12 (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).1 (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).2.1 := by
  unfold kernelRun0_B
  dsimp only
  refine Rows.step harg1 harg2 harg3 harg4 harg5 x0 x1 x2 x3 x4 xo7 11 5 1 (by decide) rfl rfl inb_S12x128x256_S1x128x256_11_0_0 inb_S6x2x128_S1x1x128_5_1_0 inb_S12x128x512_S1x64x512_11_0_0 inb_S12x128x512_S1x64x512_11_64_0 inb_S12x256x512_S1x256x512_11_0_0 arg8.view
    (fun _ => View.readAt (Elt F) arg8.view (Rect.unit (s := S12x256x512) ![11, 0, 0] S1x256x512.size inb_S12x256x512_S1x256x512_11_0_0).toLoadRect (harg8.unread xo7)) (fun _ _ _ => load_s harg8 xo7 11 (by decide) _) ?_ ?_ ?_ ?_ ?_ <;> [skip; rfl; rfl; rfl; rfl]
  refine Rows.step harg1 harg2 harg3 harg4 harg5 x0 x1 x2 x3 x4 xo7 10 4 1 (by decide) rfl rfl inb_S12x128x256_S1x128x256_10_0_0 inb_S6x2x128_S1x1x128_4_1_0 inb_S12x128x512_S1x64x512_10_0_0 inb_S12x128x512_S1x64x512_10_64_0 inb_S12x256x512_S1x256x512_10_0_0 arg8.view
    (fun _ => View.readAt (Elt F) arg8.view (Rect.unit (s := S12x256x512) ![10, 0, 0] S1x256x512.size inb_S12x256x512_S1x256x512_10_0_0).toLoadRect (harg8.unread xo7)) (fun _ _ _ => load_s harg8 xo7 10 (by decide) _) ?_ ?_ ?_ ?_ ?_ <;> [skip; rfl; rfl; rfl; rfl]
  refine Rows.step harg1 harg2 harg3 harg4 harg5 x0 x1 x2 x3 x4 xo7 9 3 1 (by decide) rfl rfl inb_S12x128x256_S1x128x256_9_0_0 inb_S6x2x128_S1x1x128_3_1_0 inb_S12x128x512_S1x64x512_9_0_0 inb_S12x128x512_S1x64x512_9_64_0 inb_S12x256x512_S1x256x512_9_0_0 arg8.view
    (fun _ => View.readAt (Elt F) arg8.view (Rect.unit (s := S12x256x512) ![9, 0, 0] S1x256x512.size inb_S12x256x512_S1x256x512_9_0_0).toLoadRect (harg8.unread xo7)) (fun _ _ _ => load_s harg8 xo7 9 (by decide) _) ?_ ?_ ?_ ?_ ?_ <;> [skip; rfl; rfl; rfl; rfl]
  refine Rows.step harg1 harg2 harg3 harg4 harg5 x0 x1 x2 x3 x4 xo7 8 2 1 (by decide) rfl rfl inb_S12x128x256_S1x128x256_8_0_0 inb_S6x2x128_S1x1x128_2_1_0 inb_S12x128x512_S1x64x512_8_0_0 inb_S12x128x512_S1x64x512_8_64_0 inb_S12x256x512_S1x256x512_8_0_0 arg8.view
    (fun _ => View.readAt (Elt F) arg8.view (Rect.unit (s := S12x256x512) ![8, 0, 0] S1x256x512.size inb_S12x256x512_S1x256x512_8_0_0).toLoadRect (harg8.unread xo7)) (fun _ _ _ => load_s harg8 xo7 8 (by decide) _) ?_ ?_ ?_ ?_ ?_ <;> [skip; rfl; rfl; rfl; rfl]
  refine Rows.step harg1 harg2 harg3 harg4 harg5 x0 x1 x2 x3 x4 xo7 7 1 1 (by decide) rfl rfl inb_S12x128x256_S1x128x256_7_0_0 inb_S6x2x128_S1x1x128_1_1_0 inb_S12x128x512_S1x64x512_7_0_0 inb_S12x128x512_S1x64x512_7_64_0 inb_S12x256x512_S1x256x512_7_0_0 arg8.view
    (fun _ => View.readAt (Elt F) arg8.view (Rect.unit (s := S12x256x512) ![7, 0, 0] S1x256x512.size inb_S12x256x512_S1x256x512_7_0_0).toLoadRect (harg8.unread xo7)) (fun _ _ _ => load_s harg8 xo7 7 (by decide) _) ?_ ?_ ?_ ?_ ?_ <;> [skip; rfl; rfl; rfl; rfl]
  refine Rows.step harg1 harg2 harg3 harg4 harg5 x0 x1 x2 x3 x4 xo7 6 0 1 (by decide) rfl rfl inb_S12x128x256_S1x128x256_6_0_0 inb_S6x2x128_S1x1x128_0_1_0 inb_S12x128x512_S1x64x512_6_0_0 inb_S12x128x512_S1x64x512_6_64_0 inb_S12x256x512_S1x256x512_6_0_0 arg8.view
    (fun _ => View.readAt (Elt F) arg8.view (Rect.unit (s := S12x256x512) ![6, 0, 0] S1x256x512.size inb_S12x256x512_S1x256x512_6_0_0).toLoadRect (harg8.unread xo7)) (fun _ _ _ => load_s harg8 xo7 6 (by decide) _) ?_ ?_ ?_ ?_ ?_ <;> [skip; rfl; rfl; rfl; rfl]
  refine Rows.step harg1 harg2 harg3 harg4 harg5 x0 x1 x2 x3 x4 xo7 5 5 0 (by decide) rfl rfl inb_S12x128x256_S1x128x256_5_0_0 inb_S6x2x128_S1x1x128_5_0_0 inb_S12x128x512_S1x64x512_5_0_0 inb_S12x128x512_S1x64x512_5_64_0 inb_S12x256x512_S1x256x512_5_0_0 arg8.view
    (fun _ => View.readAt (Elt F) arg8.view (Rect.unit (s := S12x256x512) ![5, 0, 0] S1x256x512.size inb_S12x256x512_S1x256x512_5_0_0).toLoadRect (harg8.unread xo7)) (fun _ _ _ => load_s harg8 xo7 5 (by decide) _) ?_ ?_ ?_ ?_ ?_ <;> [skip; rfl; rfl; rfl; rfl]
  refine Rows.step harg1 harg2 harg3 harg4 harg5 x0 x1 x2 x3 x4 xo7 4 4 0 (by decide) rfl rfl inb_S12x128x256_S1x128x256_4_0_0 inb_S6x2x128_S1x1x128_4_0_0 inb_S12x128x512_S1x64x512_4_0_0 inb_S12x128x512_S1x64x512_4_64_0 inb_S12x256x512_S1x256x512_4_0_0 arg8.view
    (fun _ => View.readAt (Elt F) arg8.view (Rect.unit (s := S12x256x512) ![4, 0, 0] S1x256x512.size inb_S12x256x512_S1x256x512_4_0_0).toLoadRect (harg8.unread xo7)) (fun _ _ _ => load_s harg8 xo7 4 (by decide) _) ?_ ?_ ?_ ?_ ?_ <;> [skip; rfl; rfl; rfl; rfl]
  refine Rows.step harg1 harg2 harg3 harg4 harg5 x0 x1 x2 x3 x4 xo7 3 3 0 (by decide) rfl rfl inb_S12x128x256_S1x128x256_3_0_0 inb_S6x2x128_S1x1x128_3_0_0 inb_S12x128x512_S1x64x512_3_0_0 inb_S12x128x512_S1x64x512_3_64_0 inb_S12x256x512_S1x256x512_3_0_0 arg8.view
    (fun _ => View.readAt (Elt F) arg8.view (Rect.unit (s := S12x256x512) ![3, 0, 0] S1x256x512.size inb_S12x256x512_S1x256x512_3_0_0).toLoadRect (harg8.unread xo7)) (fun _ _ _ => load_s harg8 xo7 3 (by decide) _) ?_ ?_ ?_ ?_ ?_ <;> [skip; rfl; rfl; rfl; rfl]
  refine Rows.step harg1 harg2 harg3 harg4 harg5 x0 x1 x2 x3 x4 xo7 2 2 0 (by decide) rfl rfl inb_S12x128x256_S1x128x256_2_0_0 inb_S6x2x128_S1x1x128_2_0_0 inb_S12x128x512_S1x64x512_2_0_0 inb_S12x128x512_S1x64x512_2_64_0 inb_S12x256x512_S1x256x512_2_0_0 arg8.view
    (fun _ => View.readAt (Elt F) arg8.view (Rect.unit (s := S12x256x512) ![2, 0, 0] S1x256x512.size inb_S12x256x512_S1x256x512_2_0_0).toLoadRect (harg8.unread xo7)) (fun _ _ _ => load_s harg8 xo7 2 (by decide) _) ?_ ?_ ?_ ?_ ?_ <;> [skip; rfl; rfl; rfl; rfl]
  refine Rows.step harg1 harg2 harg3 harg4 harg5 x0 x1 x2 x3 x4 xo7 1 1 0 (by decide) rfl rfl inb_S12x128x256_S1x128x256_1_0_0 inb_S6x2x128_S1x1x128_1_0_0 inb_S12x128x512_S1x64x512_1_0_0 inb_S12x128x512_S1x64x512_1_64_0 inb_S12x256x512_S1x256x512_1_0_0 arg8.view
    (fun _ => View.readAt (Elt F) arg8.view (Rect.unit (s := S12x256x512) ![1, 0, 0] S1x256x512.size inb_S12x256x512_S1x256x512_1_0_0).toLoadRect (harg8.unread xo7)) (fun _ _ _ => load_s harg8 xo7 1 (by decide) _) ?_ ?_ ?_ ?_ ?_ <;> [skip; rfl; rfl; rfl; rfl]
  refine Rows.step harg1 harg2 harg3 harg4 harg5 x0 x1 x2 x3 x4 xo7 0 0 0 (by decide) rfl rfl inb_S12x128x256_S1x128x256_0_0_0 inb_S6x2x128_S1x1x128_0_0_0 inb_S12x128x512_S1x64x512_0_0_0 inb_S12x128x512_S1x64x512_0_64_0 inb_S12x256x512_S1x256x512_0_0_0 arg8.view
    (fun _ => View.readAt (Elt F) arg8.view (Rect.unit (s := S12x256x512) ![0, 0, 0] S1x256x512.size inb_S12x256x512_S1x256x512_0_0_0).toLoadRect (harg8.unread xo7)) (fun _ _ _ => load_s harg8 xo7 0 (by decide) _) ?_ ?_ ?_ ?_ ?_ <;> [skip; rfl; rfl; rfl; rfl]
  exact ⟨pieces_nil, At.nil⟩

set_option maxHeartbeats 8000000 in
/-- The stores of k's codes. -/
theorem codesk_B : PiecesOf (outC x1) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).2.2.1 := by
  unfold kernelRun0_B
  dsimp only
  refine codes_row harg2 x1 11 (by decide) inb_S12x128x256_S1x128x256_11_0_0 inb_S12x128x256_S1x64x256_11_0_0 inb_S12x128x256_S1x64x256_11_64_0 ?_ ?_ ?_ <;> [skip; rfl; rfl]
  refine codes_row harg2 x1 10 (by decide) inb_S12x128x256_S1x128x256_10_0_0 inb_S12x128x256_S1x64x256_10_0_0 inb_S12x128x256_S1x64x256_10_64_0 ?_ ?_ ?_ <;> [skip; rfl; rfl]
  refine codes_row harg2 x1 9 (by decide) inb_S12x128x256_S1x128x256_9_0_0 inb_S12x128x256_S1x64x256_9_0_0 inb_S12x128x256_S1x64x256_9_64_0 ?_ ?_ ?_ <;> [skip; rfl; rfl]
  refine codes_row harg2 x1 8 (by decide) inb_S12x128x256_S1x128x256_8_0_0 inb_S12x128x256_S1x64x256_8_0_0 inb_S12x128x256_S1x64x256_8_64_0 ?_ ?_ ?_ <;> [skip; rfl; rfl]
  refine codes_row harg2 x1 7 (by decide) inb_S12x128x256_S1x128x256_7_0_0 inb_S12x128x256_S1x64x256_7_0_0 inb_S12x128x256_S1x64x256_7_64_0 ?_ ?_ ?_ <;> [skip; rfl; rfl]
  refine codes_row harg2 x1 6 (by decide) inb_S12x128x256_S1x128x256_6_0_0 inb_S12x128x256_S1x64x256_6_0_0 inb_S12x128x256_S1x64x256_6_64_0 ?_ ?_ ?_ <;> [skip; rfl; rfl]
  refine codes_row harg2 x1 5 (by decide) inb_S12x128x256_S1x128x256_5_0_0 inb_S12x128x256_S1x64x256_5_0_0 inb_S12x128x256_S1x64x256_5_64_0 ?_ ?_ ?_ <;> [skip; rfl; rfl]
  refine codes_row harg2 x1 4 (by decide) inb_S12x128x256_S1x128x256_4_0_0 inb_S12x128x256_S1x64x256_4_0_0 inb_S12x128x256_S1x64x256_4_64_0 ?_ ?_ ?_ <;> [skip; rfl; rfl]
  refine codes_row harg2 x1 3 (by decide) inb_S12x128x256_S1x128x256_3_0_0 inb_S12x128x256_S1x64x256_3_0_0 inb_S12x128x256_S1x64x256_3_64_0 ?_ ?_ ?_ <;> [skip; rfl; rfl]
  refine codes_row harg2 x1 2 (by decide) inb_S12x128x256_S1x128x256_2_0_0 inb_S12x128x256_S1x64x256_2_0_0 inb_S12x128x256_S1x64x256_2_64_0 ?_ ?_ ?_ <;> [skip; rfl; rfl]
  refine codes_row harg2 x1 1 (by decide) inb_S12x128x256_S1x128x256_1_0_0 inb_S12x128x256_S1x64x256_1_0_0 inb_S12x128x256_S1x64x256_1_64_0 ?_ ?_ ?_ <;> [skip; rfl; rfl]
  refine codes_row harg2 x1 0 (by decide) inb_S12x128x256_S1x128x256_0_0_0 inb_S12x128x256_S1x64x256_0_0_0 inb_S12x128x256_S1x64x256_0_64_0 ?_ ?_ ?_ <;> [skip; rfl; rfl]
  exact pieces_nil

set_option maxHeartbeats 8000000 in
/-- The stores of q's codes. -/
theorem codesq_B : PiecesOf (outC x0) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).2.2.2.2.1 := by
  unfold kernelRun0_B
  dsimp only
  refine codes_row harg1 x0 11 (by decide) inb_S12x128x256_S1x128x256_11_0_0 inb_S12x128x256_S1x64x256_11_0_0 inb_S12x128x256_S1x64x256_11_64_0 ?_ ?_ ?_ <;> [skip; rfl; rfl]
  refine codes_row harg1 x0 10 (by decide) inb_S12x128x256_S1x128x256_10_0_0 inb_S12x128x256_S1x64x256_10_0_0 inb_S12x128x256_S1x64x256_10_64_0 ?_ ?_ ?_ <;> [skip; rfl; rfl]
  refine codes_row harg1 x0 9 (by decide) inb_S12x128x256_S1x128x256_9_0_0 inb_S12x128x256_S1x64x256_9_0_0 inb_S12x128x256_S1x64x256_9_64_0 ?_ ?_ ?_ <;> [skip; rfl; rfl]
  refine codes_row harg1 x0 8 (by decide) inb_S12x128x256_S1x128x256_8_0_0 inb_S12x128x256_S1x64x256_8_0_0 inb_S12x128x256_S1x64x256_8_64_0 ?_ ?_ ?_ <;> [skip; rfl; rfl]
  refine codes_row harg1 x0 7 (by decide) inb_S12x128x256_S1x128x256_7_0_0 inb_S12x128x256_S1x64x256_7_0_0 inb_S12x128x256_S1x64x256_7_64_0 ?_ ?_ ?_ <;> [skip; rfl; rfl]
  refine codes_row harg1 x0 6 (by decide) inb_S12x128x256_S1x128x256_6_0_0 inb_S12x128x256_S1x64x256_6_0_0 inb_S12x128x256_S1x64x256_6_64_0 ?_ ?_ ?_ <;> [skip; rfl; rfl]
  refine codes_row harg1 x0 5 (by decide) inb_S12x128x256_S1x128x256_5_0_0 inb_S12x128x256_S1x64x256_5_0_0 inb_S12x128x256_S1x64x256_5_64_0 ?_ ?_ ?_ <;> [skip; rfl; rfl]
  refine codes_row harg1 x0 4 (by decide) inb_S12x128x256_S1x128x256_4_0_0 inb_S12x128x256_S1x64x256_4_0_0 inb_S12x128x256_S1x64x256_4_64_0 ?_ ?_ ?_ <;> [skip; rfl; rfl]
  refine codes_row harg1 x0 3 (by decide) inb_S12x128x256_S1x128x256_3_0_0 inb_S12x128x256_S1x64x256_3_0_0 inb_S12x128x256_S1x64x256_3_64_0 ?_ ?_ ?_ <;> [skip; rfl; rfl]
  refine codes_row harg1 x0 2 (by decide) inb_S12x128x256_S1x128x256_2_0_0 inb_S12x128x256_S1x64x256_2_0_0 inb_S12x128x256_S1x64x256_2_64_0 ?_ ?_ ?_ <;> [skip; rfl; rfl]
  refine codes_row harg1 x0 1 (by decide) inb_S12x128x256_S1x128x256_1_0_0 inb_S12x128x256_S1x64x256_1_0_0 inb_S12x128x256_S1x64x256_1_64_0 ?_ ?_ ?_ <;> [skip; rfl; rfl]
  refine codes_row harg1 x0 0 (by decide) inb_S12x128x256_S1x128x256_0_0_0 inb_S12x128x256_S1x64x256_0_0_0 inb_S12x128x256_S1x64x256_0_64_0 ?_ ?_ ?_ <;> [skip; rfl; rfl]
  exact pieces_nil

set_option maxHeartbeats 8000000 in
/-- The stores of k's scales. -/
theorem lanesk_B : At rhoL (outL (BitVec.ofNat 32 (i 0).val) x1 xo9) xo9 False 12 (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).2.2.2.1 := by
  unfold kernelRun0_B
  dsimp only
  refine lanes_row harg2 x1 (BitVec.ofNat 32 (i 0).val) xo9 11 5 1 (by decide) rfl rfl inb_S12x128x256_S1x128x256_11_0_0 inb_S6x2x16_S1x1x16_5_1_0 arg10.view
    (fun _ => View.readAt (Elt F) arg10.view (Rect.unit (s := S6x2x16) ![5, 1, 0] S1x1x16.size inb_S6x2x16_S1x1x16_5_1_0).toLoadRect (harg10.unread xo9)) (fun _ _ => load_l harg10 xo9 11 _ _ (by decide) rfl rfl _) ?_ ?_ ?_ <;> [skip; rfl; rfl]
  refine lanes_row harg2 x1 (BitVec.ofNat 32 (i 0).val) xo9 10 4 1 (by decide) rfl rfl inb_S12x128x256_S1x128x256_10_0_0 inb_S6x2x16_S1x1x16_4_1_0 arg10.view
    (fun _ => View.readAt (Elt F) arg10.view (Rect.unit (s := S6x2x16) ![4, 1, 0] S1x1x16.size inb_S6x2x16_S1x1x16_4_1_0).toLoadRect (harg10.unread xo9)) (fun _ _ => load_l harg10 xo9 10 _ _ (by decide) rfl rfl _) ?_ ?_ ?_ <;> [skip; rfl; rfl]
  refine lanes_row harg2 x1 (BitVec.ofNat 32 (i 0).val) xo9 9 3 1 (by decide) rfl rfl inb_S12x128x256_S1x128x256_9_0_0 inb_S6x2x16_S1x1x16_3_1_0 arg10.view
    (fun _ => View.readAt (Elt F) arg10.view (Rect.unit (s := S6x2x16) ![3, 1, 0] S1x1x16.size inb_S6x2x16_S1x1x16_3_1_0).toLoadRect (harg10.unread xo9)) (fun _ _ => load_l harg10 xo9 9 _ _ (by decide) rfl rfl _) ?_ ?_ ?_ <;> [skip; rfl; rfl]
  refine lanes_row harg2 x1 (BitVec.ofNat 32 (i 0).val) xo9 8 2 1 (by decide) rfl rfl inb_S12x128x256_S1x128x256_8_0_0 inb_S6x2x16_S1x1x16_2_1_0 arg10.view
    (fun _ => View.readAt (Elt F) arg10.view (Rect.unit (s := S6x2x16) ![2, 1, 0] S1x1x16.size inb_S6x2x16_S1x1x16_2_1_0).toLoadRect (harg10.unread xo9)) (fun _ _ => load_l harg10 xo9 8 _ _ (by decide) rfl rfl _) ?_ ?_ ?_ <;> [skip; rfl; rfl]
  refine lanes_row harg2 x1 (BitVec.ofNat 32 (i 0).val) xo9 7 1 1 (by decide) rfl rfl inb_S12x128x256_S1x128x256_7_0_0 inb_S6x2x16_S1x1x16_1_1_0 arg10.view
    (fun _ => View.readAt (Elt F) arg10.view (Rect.unit (s := S6x2x16) ![1, 1, 0] S1x1x16.size inb_S6x2x16_S1x1x16_1_1_0).toLoadRect (harg10.unread xo9)) (fun _ _ => load_l harg10 xo9 7 _ _ (by decide) rfl rfl _) ?_ ?_ ?_ <;> [skip; rfl; rfl]
  refine lanes_row harg2 x1 (BitVec.ofNat 32 (i 0).val) xo9 6 0 1 (by decide) rfl rfl inb_S12x128x256_S1x128x256_6_0_0 inb_S6x2x16_S1x1x16_0_1_0 arg10.view
    (fun _ => View.readAt (Elt F) arg10.view (Rect.unit (s := S6x2x16) ![0, 1, 0] S1x1x16.size inb_S6x2x16_S1x1x16_0_1_0).toLoadRect (harg10.unread xo9)) (fun _ _ => load_l harg10 xo9 6 _ _ (by decide) rfl rfl _) ?_ ?_ ?_ <;> [skip; rfl; rfl]
  refine lanes_row harg2 x1 (BitVec.ofNat 32 (i 0).val) xo9 5 5 0 (by decide) rfl rfl inb_S12x128x256_S1x128x256_5_0_0 inb_S6x2x16_S1x1x16_5_0_0 arg10.view
    (fun _ => View.readAt (Elt F) arg10.view (Rect.unit (s := S6x2x16) ![5, 0, 0] S1x1x16.size inb_S6x2x16_S1x1x16_5_0_0).toLoadRect (harg10.unread xo9)) (fun _ _ => load_l harg10 xo9 5 _ _ (by decide) rfl rfl _) ?_ ?_ ?_ <;> [skip; rfl; rfl]
  refine lanes_row harg2 x1 (BitVec.ofNat 32 (i 0).val) xo9 4 4 0 (by decide) rfl rfl inb_S12x128x256_S1x128x256_4_0_0 inb_S6x2x16_S1x1x16_4_0_0 arg10.view
    (fun _ => View.readAt (Elt F) arg10.view (Rect.unit (s := S6x2x16) ![4, 0, 0] S1x1x16.size inb_S6x2x16_S1x1x16_4_0_0).toLoadRect (harg10.unread xo9)) (fun _ _ => load_l harg10 xo9 4 _ _ (by decide) rfl rfl _) ?_ ?_ ?_ <;> [skip; rfl; rfl]
  refine lanes_row harg2 x1 (BitVec.ofNat 32 (i 0).val) xo9 3 3 0 (by decide) rfl rfl inb_S12x128x256_S1x128x256_3_0_0 inb_S6x2x16_S1x1x16_3_0_0 arg10.view
    (fun _ => View.readAt (Elt F) arg10.view (Rect.unit (s := S6x2x16) ![3, 0, 0] S1x1x16.size inb_S6x2x16_S1x1x16_3_0_0).toLoadRect (harg10.unread xo9)) (fun _ _ => load_l harg10 xo9 3 _ _ (by decide) rfl rfl _) ?_ ?_ ?_ <;> [skip; rfl; rfl]
  refine lanes_row harg2 x1 (BitVec.ofNat 32 (i 0).val) xo9 2 2 0 (by decide) rfl rfl inb_S12x128x256_S1x128x256_2_0_0 inb_S6x2x16_S1x1x16_2_0_0 arg10.view
    (fun _ => View.readAt (Elt F) arg10.view (Rect.unit (s := S6x2x16) ![2, 0, 0] S1x1x16.size inb_S6x2x16_S1x1x16_2_0_0).toLoadRect (harg10.unread xo9)) (fun _ _ => load_l harg10 xo9 2 _ _ (by decide) rfl rfl _) ?_ ?_ ?_ <;> [skip; rfl; rfl]
  refine lanes_row harg2 x1 (BitVec.ofNat 32 (i 0).val) xo9 1 1 0 (by decide) rfl rfl inb_S12x128x256_S1x128x256_1_0_0 inb_S6x2x16_S1x1x16_1_0_0 arg10.view
    (fun _ => View.readAt (Elt F) arg10.view (Rect.unit (s := S6x2x16) ![1, 0, 0] S1x1x16.size inb_S6x2x16_S1x1x16_1_0_0).toLoadRect (harg10.unread xo9)) (fun _ _ => load_l harg10 xo9 1 _ _ (by decide) rfl rfl _) ?_ ?_ ?_ <;> [skip; rfl; rfl]
  refine lanes_row harg2 x1 (BitVec.ofNat 32 (i 0).val) xo9 0 0 0 (by decide) rfl rfl inb_S12x128x256_S1x128x256_0_0_0 inb_S6x2x16_S1x1x16_0_0_0 arg10.view
    (fun _ => View.readAt (Elt F) arg10.view (Rect.unit (s := S6x2x16) ![0, 0, 0] S1x1x16.size inb_S6x2x16_S1x1x16_0_0_0).toLoadRect (harg10.unread xo9)) (fun _ _ => load_l harg10 xo9 0 _ _ (by decide) rfl rfl _) ?_ ?_ ?_ <;> [skip; rfl; rfl]
  exact At.nil

set_option maxHeartbeats 8000000 in
/-- The stores of q's scales. -/
theorem lanesq_B : At rhoL (outL (BitVec.ofNat 32 (i 0).val) x0 xo11) xo11 False 12 (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).2.2.2.2.2.val := by
  unfold kernelRun0_B
  dsimp only
  refine lanes_row harg1 x0 (BitVec.ofNat 32 (i 0).val) xo11 11 5 1 (by decide) rfl rfl inb_S12x128x256_S1x128x256_11_0_0 inb_S6x2x16_S1x1x16_5_1_0 arg12.view
    (fun _ => View.readAt (Elt F) arg12.view (Rect.unit (s := S6x2x16) ![5, 1, 0] S1x1x16.size inb_S6x2x16_S1x1x16_5_1_0).toLoadRect (harg12.unread xo11)) (fun _ _ => load_l harg12 xo11 11 _ _ (by decide) rfl rfl _) ?_ ?_ ?_ <;> [skip; rfl; rfl]
  refine lanes_row harg1 x0 (BitVec.ofNat 32 (i 0).val) xo11 10 4 1 (by decide) rfl rfl inb_S12x128x256_S1x128x256_10_0_0 inb_S6x2x16_S1x1x16_4_1_0 arg12.view
    (fun _ => View.readAt (Elt F) arg12.view (Rect.unit (s := S6x2x16) ![4, 1, 0] S1x1x16.size inb_S6x2x16_S1x1x16_4_1_0).toLoadRect (harg12.unread xo11)) (fun _ _ => load_l harg12 xo11 10 _ _ (by decide) rfl rfl _) ?_ ?_ ?_ <;> [skip; rfl; rfl]
  refine lanes_row harg1 x0 (BitVec.ofNat 32 (i 0).val) xo11 9 3 1 (by decide) rfl rfl inb_S12x128x256_S1x128x256_9_0_0 inb_S6x2x16_S1x1x16_3_1_0 arg12.view
    (fun _ => View.readAt (Elt F) arg12.view (Rect.unit (s := S6x2x16) ![3, 1, 0] S1x1x16.size inb_S6x2x16_S1x1x16_3_1_0).toLoadRect (harg12.unread xo11)) (fun _ _ => load_l harg12 xo11 9 _ _ (by decide) rfl rfl _) ?_ ?_ ?_ <;> [skip; rfl; rfl]
  refine lanes_row harg1 x0 (BitVec.ofNat 32 (i 0).val) xo11 8 2 1 (by decide) rfl rfl inb_S12x128x256_S1x128x256_8_0_0 inb_S6x2x16_S1x1x16_2_1_0 arg12.view
    (fun _ => View.readAt (Elt F) arg12.view (Rect.unit (s := S6x2x16) ![2, 1, 0] S1x1x16.size inb_S6x2x16_S1x1x16_2_1_0).toLoadRect (harg12.unread xo11)) (fun _ _ => load_l harg12 xo11 8 _ _ (by decide) rfl rfl _) ?_ ?_ ?_ <;> [skip; rfl; rfl]
  refine lanes_row harg1 x0 (BitVec.ofNat 32 (i 0).val) xo11 7 1 1 (by decide) rfl rfl inb_S12x128x256_S1x128x256_7_0_0 inb_S6x2x16_S1x1x16_1_1_0 arg12.view
    (fun _ => View.readAt (Elt F) arg12.view (Rect.unit (s := S6x2x16) ![1, 1, 0] S1x1x16.size inb_S6x2x16_S1x1x16_1_1_0).toLoadRect (harg12.unread xo11)) (fun _ _ => load_l harg12 xo11 7 _ _ (by decide) rfl rfl _) ?_ ?_ ?_ <;> [skip; rfl; rfl]
  refine lanes_row harg1 x0 (BitVec.ofNat 32 (i 0).val) xo11 6 0 1 (by decide) rfl rfl inb_S12x128x256_S1x128x256_6_0_0 inb_S6x2x16_S1x1x16_0_1_0 arg12.view
    (fun _ => View.readAt (Elt F) arg12.view (Rect.unit (s := S6x2x16) ![0, 1, 0] S1x1x16.size inb_S6x2x16_S1x1x16_0_1_0).toLoadRect (harg12.unread xo11)) (fun _ _ => load_l harg12 xo11 6 _ _ (by decide) rfl rfl _) ?_ ?_ ?_ <;> [skip; rfl; rfl]
  refine lanes_row harg1 x0 (BitVec.ofNat 32 (i 0).val) xo11 5 5 0 (by decide) rfl rfl inb_S12x128x256_S1x128x256_5_0_0 inb_S6x2x16_S1x1x16_5_0_0 arg12.view
    (fun _ => View.readAt (Elt F) arg12.view (Rect.unit (s := S6x2x16) ![5, 0, 0] S1x1x16.size inb_S6x2x16_S1x1x16_5_0_0).toLoadRect (harg12.unread xo11)) (fun _ _ => load_l harg12 xo11 5 _ _ (by decide) rfl rfl _) ?_ ?_ ?_ <;> [skip; rfl; rfl]
  refine lanes_row harg1 x0 (BitVec.ofNat 32 (i 0).val) xo11 4 4 0 (by decide) rfl rfl inb_S12x128x256_S1x128x256_4_0_0 inb_S6x2x16_S1x1x16_4_0_0 arg12.view
    (fun _ => View.readAt (Elt F) arg12.view (Rect.unit (s := S6x2x16) ![4, 0, 0] S1x1x16.size inb_S6x2x16_S1x1x16_4_0_0).toLoadRect (harg12.unread xo11)) (fun _ _ => load_l harg12 xo11 4 _ _ (by decide) rfl rfl _) ?_ ?_ ?_ <;> [skip; rfl; rfl]
  refine lanes_row harg1 x0 (BitVec.ofNat 32 (i 0).val) xo11 3 3 0 (by decide) rfl rfl inb_S12x128x256_S1x128x256_3_0_0 inb_S6x2x16_S1x1x16_3_0_0 arg12.view
    (fun _ => View.readAt (Elt F) arg12.view (Rect.unit (s := S6x2x16) ![3, 0, 0] S1x1x16.size inb_S6x2x16_S1x1x16_3_0_0).toLoadRect (harg12.unread xo11)) (fun _ _ => load_l harg12 xo11 3 _ _ (by decide) rfl rfl _) ?_ ?_ ?_ <;> [skip; rfl; rfl]
  refine lanes_row harg1 x0 (BitVec.ofNat 32 (i 0).val) xo11 2 2 0 (by decide) rfl rfl inb_S12x128x256_S1x128x256_2_0_0 inb_S6x2x16_S1x1x16_2_0_0 arg12.view
    (fun _ => View.readAt (Elt F) arg12.view (Rect.unit (s := S6x2x16) ![2, 0, 0] S1x1x16.size inb_S6x2x16_S1x1x16_2_0_0).toLoadRect (harg12.unread xo11)) (fun _ _ => load_l harg12 xo11 2 _ _ (by decide) rfl rfl _) ?_ ?_ ?_ <;> [skip; rfl; rfl]
  refine lanes_row harg1 x0 (BitVec.ofNat 32 (i 0).val) xo11 1 1 0 (by decide) rfl rfl inb_S12x128x256_S1x128x256_1_0_0 inb_S6x2x16_S1x1x16_1_0_0 arg12.view
    (fun _ => View.readAt (Elt F) arg12.view (Rect.unit (s := S6x2x16) ![1, 0, 0] S1x1x16.size inb_S6x2x16_S1x1x16_1_0_0).toLoadRect (harg12.unread xo11)) (fun _ _ => load_l harg12 xo11 1 _ _ (by decide) rfl rfl _) ?_ ?_ ?_ <;> [skip; rfl; rfl]
  refine lanes_row harg1 x0 (BitVec.ofNat 32 (i 0).val) xo11 0 0 0 (by decide) rfl rfl inb_S12x128x256_S1x128x256_0_0_0 inb_S6x2x16_S1x1x16_0_0_0 arg12.view
    (fun _ => View.readAt (Elt F) arg12.view (Rect.unit (s := S6x2x16) ![0, 0, 0] S1x1x16.size inb_S6x2x16_S1x1x16_0_0_0).toLoadRect (harg12.unread xo11)) (fun _ _ => load_l harg12 xo11 0 _ _ (by decide) rfl rfl _) ?_ ?_ ?_ <;> [skip; rfl; rfl]
  exact At.nil

end

end Cert.KernelIdeal.Step

end
-- ==== Proof.Left.lean ====
/- What each point of the grid leaves: the blocks of `Step.lean` of what it read. -/
module

public import proofs.«01_k».proof.Proof.RunA
public import proofs.«01_k».proof.Proof.RunB
public import proofs.«01_k».proof.Proof.Gen.KernelIdeal.Frame

@[expose] public section

noncomputable section

namespace Cert.KernelIdeal.Step

open Cert.KernelIdeal Cert.KernelIdeal.Gen Cert.KernelIdeal.Row Idealize.ShloMosaic Idealize.ShloMosaic.TcCoe Idealize.SL.Sem
open Idealize.ShloMosaic.View (Piece PiecesOf)

variable {F : FTy → Type} [FloatOps F]

theorem pieces_all {s : Shape} {e : EltTy} {G : s.Idx → Elt F e} {L : List (Piece (Elt F) s e)} (h : PiecesOf G L)
    (hc : ∀ y : s.Idx, ∃ pc ∈ L, y ∈ pc.1.set) : View.canon L = G :=
  funext fun y => View.canon_apply_of_pieces G L (PiecesOf.mem h) y (hc y)

theorem at_all {s : Shape} {e : EltTy} {ρ : s.Idx → ℕ} {G x : s.Idx → Elt F e} {b : Prop} {r : ℕ} {L : List (Piece (Elt F) s e)}
    (h : At ρ G x b r L) (hr : ∀ y, ρ y < r) : View.canon L = G := funext fun y => h.done y (hr y)

theorem rho_lt (y : S12x256x512.Idx) : rho y < 12 := (y 0).isLt
theorem rhoL_lt (y : S6x2x16.Idx) : rhoL y < 12 := by
  have h0 : (y 0).val < 6 := (y 0).isLt
  have h1 : (y 1).val < 2 := (y 1).isLt
  show 6 * (y 1).val + (y 0).val < 12
  omega

/-- No scale yet. -/
def none0 : Vec F S6x2x16 .f32 := broadcast S6x2x16 (Scalar.ofBits .f32 0x00000000#32)

section
variable (c : Dev nD) (i : grid0.Coords) (arg1 : Memref sig .tc .vmem S12x128x256 .bf16) (harg1 : arg1.IsWhole) (arg2 : Memref sig .tc .vmem S12x128x256 .bf16) (harg2 : arg2.IsWhole) (arg3 : Memref sig .tc .vmem S12x128x512 .bf16) (harg3 : arg3.IsWhole) (arg4 : Memref sig .tc .vmem S6x2x128 .f32) (harg4 : arg4.IsWhole) (arg5 : Memref sig .tc .vmem S6x2x128 .f32) (harg5 : arg5.IsWhole) (arg6 : Memref sig .tc .vmem S12x256x512 .f32) (harg6 : arg6.IsWhole) (arg7 : Memref sig .tc .vmem S12x128x512 .bf16) (harg7 : arg7.IsWhole) (arg8 : Memref sig .tc .vmem S12x256x512 .f32) (harg8 : arg8.IsWhole) (arg9 : Memref sig .tc .vmem S12x128x256 .fp8e4m3) (harg9 : arg9.IsWhole) (arg10 : Memref sig .tc .vmem S6x2x16 .f32) (harg10 : arg10.IsWhole) (arg11 : Memref sig .tc .vmem S12x128x256 .fp8e4m3) (harg11 : arg11.IsWhole) (arg12 : Memref sig .tc .vmem S6x2x16 .f32) (harg12 : arg12.IsWhole) (hc0 : cond0_0 i)
    (x0 : Vec F S12x128x256 .bf16) (x1 : Vec F S12x128x256 .bf16) (x2 : Vec F S12x128x512 .bf16) (x3 : Vec F S6x2x128 .f32) (x4 : Vec F S6x2x128 .f32) (x5 : Vec F S12x256x512 .f32)

theorem left_A_6 : out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 = outO x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact pieces_all (rows_A c i arg1 harg1 arg2 harg2 arg3 harg3 arg4 harg4 arg5 harg5 arg6 harg6 arg7 harg7 arg8 harg8 arg9 harg9 arg10 harg10 arg11 harg11 arg12 harg12 hc0 x0 x1 x2 x3 x4 x5).1 (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5)

theorem left_A_7 : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 = outS x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact at_all (rows_A c i arg1 harg1 arg2 harg2 arg3 harg3 arg4 harg4 arg5 harg5 arg6 harg6 arg7 harg7 arg8 harg8 arg9 harg9 arg10 harg10 arg11 harg11 arg12 harg12 hc0 x0 x1 x2 x3 x4 x5).2 rho_lt

theorem left_A_8 : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 = outC x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact pieces_all (codesk_A c i arg1 harg1 arg2 harg2 arg3 harg3 arg4 harg4 arg5 harg5 arg6 harg6 arg7 harg7 arg8 harg8 arg9 harg9 arg10 harg10 arg11 harg11 arg12 harg12 hc0 x0 x1 x2 x3 x4 x5) (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5)

theorem left_A_9 : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 = outL (BitVec.ofNat 32 (i 0).val) x1 none0 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact at_all (lanesk_A c i arg1 harg1 arg2 harg2 arg3 harg3 arg4 harg4 arg5 harg5 arg6 harg6 arg7 harg7 arg8 harg8 arg9 harg9 arg10 harg10 arg11 harg11 arg12 harg12 hc0 x0 x1 x2 x3 x4 x5) rhoL_lt

theorem left_A_10 : out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 = outC x0 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact pieces_all (codesq_A c i arg1 harg1 arg2 harg2 arg3 harg3 arg4 harg4 arg5 harg5 arg6 harg6 arg7 harg7 arg8 harg8 arg9 harg9 arg10 harg10 arg11 harg11 arg12 harg12 hc0 x0 x1 x2 x3 x4 x5) (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5)

theorem left_A_11 : out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 = outL (BitVec.ofNat 32 (i 0).val) x0 none0 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5)]
  exact at_all (lanesq_A c i arg1 harg1 arg2 harg2 arg3 harg3 arg4 harg4 arg5 harg5 arg6 harg6 arg7 harg7 arg8 harg8 arg9 harg9 arg10 harg10 arg11 harg11 arg12 harg12 hc0 x0 x1 x2 x3 x4 x5) rhoL_lt

end

section
variable (c : Dev nD) (i : grid0.Coords) (arg1 : Memref sig .tc .vmem S12x128x256 .bf16) (harg1 : arg1.IsWhole) (arg2 : Memref sig .tc .vmem S12x128x256 .bf16) (harg2 : arg2.IsWhole) (arg3 : Memref sig .tc .vmem S12x128x512 .bf16) (harg3 : arg3.IsWhole) (arg4 : Memref sig .tc .vmem S6x2x128 .f32) (harg4 : arg4.IsWhole) (arg5 : Memref sig .tc .vmem S6x2x128 .f32) (harg5 : arg5.IsWhole) (arg6 : Memref sig .tc .vmem S12x256x512 .f32) (harg6 : arg6.IsWhole) (arg7 : Memref sig .tc .vmem S12x128x512 .bf16) (harg7 : arg7.IsWhole) (arg8 : Memref sig .tc .vmem S12x256x512 .f32) (harg8 : arg8.IsWhole) (arg9 : Memref sig .tc .vmem S12x128x256 .fp8e4m3) (harg9 : arg9.IsWhole) (arg10 : Memref sig .tc .vmem S6x2x16 .f32) (harg10 : arg10.IsWhole) (arg11 : Memref sig .tc .vmem S12x128x256 .fp8e4m3) (harg11 : arg11.IsWhole) (arg12 : Memref sig .tc .vmem S6x2x16 .f32) (harg12 : arg12.IsWhole) (hc0 : ¬cond0_0 i)
    (x0 : Vec F S12x128x256 .bf16) (x1 : Vec F S12x128x256 .bf16) (x2 : Vec F S12x128x512 .bf16) (x3 : Vec F S6x2x128 .f32) (x4 : Vec F S6x2x128 .f32) (x5 : Vec F S12x256x512 .f32) (xo7 : Vec F S12x256x512 .f32) (xo9 : Vec F S6x2x16 .f32) (xo11 : Vec F S6x2x16 .f32)

theorem left_B_6 : out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11 = outO x0 x1 x2 x3 x4 xo7 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)]
  exact pieces_all (rows_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).1 (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)

theorem left_B_7 : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11 = outS x0 x1 x2 x3 x4 xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)]
  exact at_all (rows_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11).2 rho_lt

theorem left_B_8 : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11 = outC x1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)]
  exact pieces_all (codesk_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11) (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)

theorem left_B_9 : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11 = outL (BitVec.ofNat 32 (i 0).val) x1 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)]
  exact at_all (lanesk_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11) rhoL_lt

theorem left_B_10 : out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11 = outC x0 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)]
  exact pieces_all (codesq_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11) (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)

theorem left_B_11 : out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11 = outL (BitVec.ofNat 32 (i 0).val) x0 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11)]
  exact at_all (lanesq_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo9 xo11) rhoL_lt

end

end Cert.KernelIdeal.Step

end
-- ==== Proof.Up.lean ====
/- Arrays of reals as arrays of extended reals, by rank. -/
module

public import Idealize.ShloMosaic.Lib.Pointwise

@[expose] public section

noncomputable section

namespace Cert.Up

open Idealize.ShloMosaic

/-- An array of rank two of reals. -/
def up2 {n0 n1 : ℕ} {φ : FTy} (f : Fin n0 → Fin n1 → ℝ) : FVec Ideal ⟨2, ![n0, n1]⟩ φ :=
  fun i => ((f (i 0) (i 1) : ℝ) : EReal)

/-- An array of rank three of reals. -/
def up3 {n0 n1 n2 : ℕ} {φ : FTy} (f : Fin n0 → Fin n1 → Fin n2 → ℝ) : FVec Ideal ⟨3, ![n0, n1, n2]⟩ φ :=
  fun i => ((f (i 0) (i 1) (i 2) : ℝ) : EReal)

/-- An array of rank four of reals. -/
def up4 {n0 n1 n2 n3 : ℕ} {φ : FTy} (f : Fin n0 → Fin n1 → Fin n2 → Fin n3 → ℝ) : FVec Ideal ⟨4, ![n0, n1, n2, n3]⟩ φ :=
  fun i => ((f (i 0) (i 1) (i 2) (i 3) : ℝ) : EReal)

variable {n0 n1 n2 n3 : ℕ} {φ : FTy}

theorem up2_apply (f : Fin n0 → Fin n1 → ℝ) (a : Fin n0) (b : Fin n1) :
    (up2 f : FVec Ideal ⟨2, ![n0, n1]⟩ φ) (ix2 a b) = ((f a b : ℝ) : EReal) := rfl

theorem up3_apply (f : Fin n0 → Fin n1 → Fin n2 → ℝ) (a : Fin n0) (b : Fin n1) (c : Fin n2) :
    (up3 f : FVec Ideal ⟨3, ![n0, n1, n2]⟩ φ) (ix3 a b c) = ((f a b c : ℝ) : EReal) := rfl

theorem up4_apply (f : Fin n0 → Fin n1 → Fin n2 → Fin n3 → ℝ) (a : Fin n0) (b : Fin n1) (c : Fin n2) (d : Fin n3) :
    (up4 f : FVec Ideal ⟨4, ![n0, n1, n2, n3]⟩ φ) (ix4 a b c d) = ((f a b c d : ℝ) : EReal) := rfl

theorem eq_up2 {x : FVec Ideal ⟨2, ![n0, n1]⟩ φ} {f : Fin n0 → Fin n1 → ℝ} (h : ∀ a b, x (ix2 a b) = ((f a b : ℝ) : EReal)) :
    x = up2 f := by
  funext i; rw [ValueIdx.eq_ix2 i]; exact h _ _

theorem eq_up3 {x : FVec Ideal ⟨3, ![n0, n1, n2]⟩ φ} {f : Fin n0 → Fin n1 → Fin n2 → ℝ}
    (h : ∀ a b c, x (ix3 a b c) = ((f a b c : ℝ) : EReal)) : x = up3 f := by
  funext i; rw [ValueIdx.eq_ix3 i]; exact h _ _ _

theorem eq_up4 {x : FVec Ideal ⟨4, ![n0, n1, n2, n3]⟩ φ} {f : Fin n0 → Fin n1 → Fin n2 → Fin n3 → ℝ}
    (h : ∀ a b c d, x (ix4 a b c d) = ((f a b c d : ℝ) : EReal)) : x = up4 f := by
  funext i; rw [ValueIdx.eq_ix4 i]; exact h _ _ _ _

/-- A sum of reals, each as an extended real. -/
theorem coe_sum {ι : Type*} (s : Finset ι) (f : ι → ℝ) : (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

end Cert.Up

end
-- ==== Proof.Masks.lean ====
/- The kernel's masks over a step's 128 tokens, as conditions on the token numbers. -/
module

public import proofs.«01_k».proof.Proof.Row
public import proofs.«01_k».proof.Proof.Up

@[expose] public section

noncomputable section

namespace Cert.KernelIdeal.Row

open Cert.Up Idealize.ShloMosaic Cert.KernelIdeal Cert.KernelIdeal.Gen

/-- Flooring division of words, as the kernel writes it. -/
def fdivW (x d : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

theorem fdiv_row (d : BitVec 32) (i j : Fin 128) : fdiv rowI d (ix2 i j) = fdivW (BitVec.ofNat 32 i.val) d := by
  pointwise [fdiv, rowI]
  rfl

theorem fdiv_col (d : BitVec 32) (i j : Fin 128) : fdiv colI d (ix2 i j) = fdivW (BitVec.ofNat 32 j.val) d := by
  pointwise [fdiv, colI]
  rfl

theorem fdivW_2 : ∀ i : Fin 128, fdivW (BitVec.ofNat 32 i.val) 2#32 = BitVec.ofNat 32 (i.val / 2) := by decide +kernel
theorem fdivW_4 : ∀ i : Fin 128, fdivW (BitVec.ofNat 32 i.val) 4#32 = BitVec.ofNat 32 (i.val / 4) := by decide +kernel
theorem fdivW_8 : ∀ i : Fin 128, fdivW (BitVec.ofNat 32 i.val) 8#32 = BitVec.ofNat 32 (i.val / 8) := by decide +kernel
theorem fdivW_16 : ∀ i : Fin 128, fdivW (BitVec.ofNat 32 i.val) 16#32 = BitVec.ofNat 32 (i.val / 16) := by decide +kernel
theorem fdivW_32 : ∀ i : Fin 128, fdivW (BitVec.ofNat 32 i.val) 32#32 = BitVec.ofNat 32 (i.val / 32) := by decide +kernel
theorem fdivW_64 : ∀ i : Fin 128, fdivW (BitVec.ofNat 32 i.val) 64#32 = BitVec.ofNat 32 (i.val / 64) := by decide +kernel

theorem eq_word (a b : ℕ) (ha : a < 128) (hb : b < 128) :
    IntOp.cmpi .eq (BitVec.ofNat 32 a) (BitVec.ofNat 32 b) = if a = b then 1#1 else 0#1 := by
  have h : ∀ a b : Fin 128, IntOp.cmpi .eq (BitVec.ofNat 32 a.val) (BitVec.ofNat 32 b.val) = if a.val = b.val then 1#1 else 0#1 := by
    decide +kernel
  exact h ⟨a, ha⟩ ⟨b, hb⟩

theorem ne_word (a b : ℕ) (ha : a < 128) (hb : b < 128) :
    IntOp.cmpi .ne (BitVec.ofNat 32 a) (BitVec.ofNat 32 b) = if a ≠ b then 1#1 else 0#1 := by
  have h : ∀ a b : Fin 128, IntOp.cmpi .ne (BitVec.ofNat 32 a.val) (BitVec.ofNat 32 b.val) = if a.val ≠ b.val then 1#1 else 0#1 := by
    decide +kernel
  exact h ⟨a, ha⟩ ⟨b, hb⟩

theorem ge_word : ∀ a b : Fin 128, IntOp.cmpi .sge (BitVec.ofNat 32 a.val) (BitVec.ofNat 32 b.val) = if b ≤ a then 1#1 else 0#1 := by
  decide +kernel

theorem gt_word : ∀ a b : Fin 128, IntOp.cmpi .sgt (BitVec.ofNat 32 a.val) (BitVec.ofNat 32 b.val) = if b < a then 1#1 else 0#1 := by
  decide +kernel

theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem same_of {d : BitVec 32} {n : ℕ} (h : ∀ i : Fin 128, fdivW (BitVec.ofNat 32 i.val) d = BitVec.ofNat 32 (i.val / n)) (i j : Fin 128) :
    same d (ix2 i j) = if i.val / n = j.val / n then 1#1 else 0#1 := by
  pointwise [same]
  rw [fdiv_row, fdiv_col, h, h]
  exact eq_word _ _ ((Nat.div_le_self _ _).trans_lt i.isLt) ((Nat.div_le_self _ _).trans_lt j.isLt)

theorem other_of {d : BitVec 32} {n : ℕ} (h : ∀ i : Fin 128, fdivW (BitVec.ofNat 32 i.val) d = BitVec.ofNat 32 (i.val / n)) (i j : Fin 128) :
    other d (ix2 i j) = if i.val / n ≠ j.val / n then 1#1 else 0#1 := by
  pointwise [other]
  rw [fdiv_row, fdiv_col, h, h]
  exact ne_word _ _ ((Nat.div_le_self _ _).trans_lt i.isLt) ((Nat.div_le_self _ _).trans_lt j.isLt)

theorem causal_apply (i j : Fin 128) : causal (ix2 i j) = if i.val / 64 = j.val / 64 ∧ j ≤ i then 1#1 else 0#1 := by
  pointwise [causal, rowI, colI]
  rw [same_of fdivW_64, ge_word, and_word]

theorem strict_apply (i j : Fin 128) : strict (ix2 i j) = if i.val / 64 = j.val / 64 ∧ j < i then 1#1 else 0#1 := by
  pointwise [strict, rowI, colI]
  rw [same_of fdivW_64, gt_word, and_word]

theorem diag_apply (i j : Fin 128) : diag (ix2 i j) = if i = j then 1#1 else 0#1 := by
  pointwise [diag, rowI, colI]
  rw [eq_word _ _ i.isLt j.isLt]
  simp only [Fin.ext_iff]

theorem between_of {d dd : BitVec 32} {n : ℕ} (h : ∀ i : Fin 128, fdivW (BitVec.ofNat 32 i.val) d = BitVec.ofNat 32 (i.val / n))
    (h2 : ∀ i : Fin 128, fdivW (BitVec.ofNat 32 i.val) dd = BitVec.ofNat 32 (i.val / (2 * n))) (i j : Fin 128) :
    andi (same dd) (other d) (ix2 i j) = if i.val / (2 * n) = j.val / (2 * n) ∧ i.val / n ≠ j.val / n then 1#1 else 0#1 := by
  pointwise
  rw [same_of h2, other_of h, and_word]

/-! ## Masked matrices -/

theorem select_up {m : IVec S128x128 1} {P : Fin 128 → Fin 128 → Prop} [∀ i j, Decidable (P i j)]
    (hm : ∀ i j, m (ix2 i j) = if P i j then 1#1 else 0#1) (f : Fin 128 → Fin 128 → ℝ) :
    select m (up2 f : FVec Ideal S128x128 .f32) zeros = up2 fun i j => if P i j then f i j else 0 := by
  refine eq_up2 fun i j => ?_
  pointwise [zeros]
  rw [hm]
  by_cases h : P i j
  · rw [if_pos h, if_pos h]; rfl
  · rw [if_neg h, if_neg h]; simp [Scalar.select]

end Cert.KernelIdeal.Row

end
-- ==== Proof.Spec.lean ====
/- The gated delta rule over quantised keys and queries, as real functions of one chunk of one head of one sequence: the
   quantiser, the chunk's triangular matrices, its output, and the state after it. -/
module

public import Mathlib.LinearAlgebra.Matrix.NonsingularInverse
public import Mathlib.Analysis.SpecialFunctions.Exp
public import Mathlib.Analysis.SpecialFunctions.Pow.Real
public import Mathlib.Algebra.Order.Archimedean.Basic

@[expose] public section

noncomputable section

namespace Cert.Spec

/-! ## The quantiser -/

/-- The f32 nearest to one over 448. -/
def c448 : ℝ := 9586981 / 4294967296

/-- The f32 nearest to a millionth. -/
def eps : ℝ := 8796093 / 8796093022208

/-- The largest absolute value of a chunk. -/
def amax (x : Fin 64 → Fin 256 → ℝ) : ℝ := Finset.univ.sup' Finset.univ_nonempty fun p : Fin 64 × Fin 256 => |x p.1 p.2|

/-- The greatest power of two not above a positive number. -/
def lg (y : ℝ) : ℤ := if h : 0 < y then Classical.choose (exists_mem_Ico_zpow h one_lt_two) else 0

theorem lg_spec {y : ℝ} (h : 0 < y) : (2 : ℝ) ^ lg y ≤ y ∧ y < (2 : ℝ) ^ (lg y + 1) := by
  rw [lg, dif_pos h]
  exact Classical.choose_spec (exists_mem_Ico_zpow h one_lt_two)

/-- The exponent of the scale: the least power of two above the quotient, or zero when the quotient is subnormal. -/
def expo (y : ℝ) : ℤ := if y < 2 ^ (-126 : ℤ) then 0 else lg y + 1

/-- The scale of a chunk. -/
def sc (x : Fin 64 → Fin 256 → ℝ) : ℝ := 2 ^ expo (amax x * c448)

/-- The code of an entry of a chunk. -/
def code (x : Fin 64 → Fin 256 → ℝ) (i : Fin 64) (d : Fin 256) : ℝ := min 448 (max (-448) (x i d * (sc x)⁻¹))

/-- One over the norm of a token. -/
def rn {n : ℕ} (x : Fin n → Fin 256 → ℝ) (i : Fin n) : ℝ := (√(∑ d, x i d * x i d + eps))⁻¹

/-! ## One chunk -/

/-- The sum of the gates up to a token. -/
def gsum (g : Fin 64 → ℝ) (i : Fin 64) : ℝ := ∑ j, if j ≤ i then g j else 0

section
variable (k q : Fin 64 → Fin 256 → ℝ) (v : Fin 64 → Fin 512 → ℝ) (g b : Fin 64 → ℝ) (S : Fin 256 → Fin 512 → ℝ)

/-- The keys, quantised and normalised. -/
def kn (i : Fin 64) (d : Fin 256) : ℝ := code k i d * sc k * rn k i
/-- The queries, quantised, normalised and scaled. -/
def qn (i : Fin 64) (d : Fin 256) : ℝ := code q i d * sc q * rn q i * (1 / 16)
/-- The products of the keys. -/
def kk (i j : Fin 64) : ℝ := (∑ d, code k i d * code k j d) * (sc k * sc k) * rn k i * rn k j
/-- The products of the queries with the keys. -/
def qk (i j : Fin 64) : ℝ := (∑ d, code q i d * code k j d) * (sc q * sc k) * rn q i * rn k j * (1 / 16)
/-- The decay from one token to a later one. -/
def decay (i j : Fin 64) : ℝ := if j ≤ i then Real.exp (if j ≤ i then gsum g i - gsum g j else 0) else 0
/-- The strictly lower triangular matrix of the chunk. -/
def amat : Matrix (Fin 64) (Fin 64) ℝ := fun i j => if j < i then b i * kk k i j * decay g i j else 0
/-- The masked scores. -/
def pmat (i j : Fin 64) : ℝ := if j ≤ i then qk k q i j * decay g i j else 0
/-- The inverse of the unit triangular matrix. -/
def tmat : Matrix (Fin 64) (Fin 64) ℝ := (1 + amat k g b)⁻¹
/-- What multiplies the state in the new values. -/
def wmat (i : Fin 64) (d : Fin 256) : ℝ := ∑ j, tmat k g b i j * (b j * Real.exp (gsum g j) * kn k j d)
/-- What does not. -/
def umat (i : Fin 64) (e : Fin 512) : ℝ := ∑ j, tmat k g b i j * (b j * v j e)
/-- The new values. -/
def vnew (i : Fin 64) (e : Fin 512) : ℝ := umat k v g b i e - ∑ d, wmat k g b i d * S d e
/-- The output. -/
def out (i : Fin 64) (e : Fin 512) : ℝ :=
  ∑ d, Real.exp (gsum g i) * qn q i d * S d e + ∑ j, pmat k q g i j * vnew k v g b S j e
/-- The state after the chunk. -/
def next (d : Fin 256) (e : Fin 512) : ℝ :=
  Real.exp (gsum g 63) * S d e + ∑ i, Real.exp (gsum g 63 - gsum g i) * kn k i d * vnew k v g b S i e

/-! ## The same with the norms and the scales taken out of the products -/

/-- A chunk's values less what the state already answers. -/
def xmat (j : Fin 64) (e : Fin 512) : ℝ := v j e - Real.exp (gsum g j) * (rn k j * sc k) * ∑ d, code k j d * S d e

theorem vnew_eq (i : Fin 64) (e : Fin 512) :
    vnew k v g b S i e = ∑ j, tmat k g b i j * b j * xmat k v g S j e := by
  have h : ∑ d, wmat k g b i d * S d e
      = ∑ j, tmat k g b i j * b j * (Real.exp (gsum g j) * (rn k j * sc k) * ∑ d, code k j d * S d e) := by
    simp only [wmat, Finset.sum_mul, Finset.mul_sum]
    rw [Finset.sum_comm]
    refine Finset.sum_congr rfl fun j _ => Finset.sum_congr rfl fun d _ => ?_
    simp only [kn]; ring
  rw [vnew, h, umat, ← Finset.sum_sub_distrib]
  refine Finset.sum_congr rfl fun j _ => ?_
  rw [xmat]; ring

theorem out_eq (i : Fin 64) (e : Fin 512) :
    Real.exp (gsum g i) * (rn q i * sc q * (1 / 16)) * ∑ d, code q i d * S d e
      + ∑ j, (∑ l, pmat k q g i l * (tmat k g b l j * b j)) * xmat k v g S j e = out k q v g b S i e := by
  rw [out]
  congr 1
  · rw [Finset.mul_sum]
    refine Finset.sum_congr rfl fun d _ => ?_
    simp only [qn]; ring
  · simp only [vnew_eq, Finset.sum_mul, Finset.mul_sum]
    rw [Finset.sum_comm]
    refine Finset.sum_congr rfl fun j _ => Finset.sum_congr rfl fun l _ => ?_
    ring

theorem next_eq (d : Fin 256) (e : Fin 512) :
    Real.exp (gsum g 63) * S d e
      + ∑ i, code k i d * ∑ j, Real.exp (gsum g 63 - gsum g i) * (rn k i * sc k) * (tmat k g b i j * b j) * xmat k v g S j e
      = next k v g b S d e := by
  rw [next]
  congr 1
  refine Finset.sum_congr rfl fun i _ => ?_
  rw [vnew_eq, Finset.mul_sum, Finset.mul_sum]
  refine Finset.sum_congr rfl fun j _ => ?_
  simp only [kn]; ring

theorem amat_eq (i j : Fin 64) :
    (if j < i then (∑ d, code k i d * code k j d) * (decay g i j * (rn k j * sc k) * (rn k i * sc k * b i)) else 0)
      = amat k g b i j := by
  simp only [amat, kk]
  split
  · ring
  · rfl

theorem pmat_eq (i j : Fin 64) :
    (if j ≤ i then (∑ d, code q i d * code k j d) * (decay g i j * (rn k j * sc k) * (rn q i * sc q * (1 / 16))) else 0)
      = pmat k q g i j := by
  simp only [pmat, qk]
  split
  · ring
  · rfl

end

/-! ## Chunk after chunk -/

/-- The state before chunk `n`. -/
def state (k : ℕ → Fin 64 → Fin 256 → ℝ) (v : ℕ → Fin 64 → Fin 512 → ℝ) (g b : ℕ → Fin 64 → ℝ) (S : Fin 256 → Fin 512 → ℝ) :
    ℕ → Fin 256 → Fin 512 → ℝ
  | 0 => S
  | n + 1 => next (k n) (v n) (g n) (b n) (state k v g b S n)

end Cert.Spec

end
-- ==== Proof.Quant.lean ====
/- The quantiser on real inputs: the kernel's scale (an exponent counted out of the powers of two the quotient reaches) and the
   reference's (the least power of two above the quotient) are both `Spec.sc`. -/
module

public import proofs.«01_k».proof.Proof.Row
public import proofs.«01_k».proof.Proof.Up
public import proofs.«01_k».proof.Proof.Spec

@[expose] public section

noncomputable section

namespace Cert.Quant

open Cert.Up Idealize.ShloMosaic

/-! ## Constants -/

theorem w_c448 : Ideal.ofBits .f32 991054117#32 = ((Spec.c448 : ℝ) : EReal) := by
  simp [Ideal.ofBits, Ideal.ieee, Spec.c448, -EReal.coe_mul]; norm_num
theorem w_eps : Ideal.ofBits .f32 897988541#32 = ((Spec.eps : ℝ) : EReal) := by
  simp [Ideal.ofBits, Ideal.ieee, Spec.eps, -EReal.coe_mul]; norm_num
theorem w_448 : Ideal.ofBits .f32 1138753536#32 = ((448 : ℝ) : EReal) := by
  simp [Ideal.ofBits, Ideal.ieee, -EReal.coe_mul]; norm_num
theorem w_neg448 : Ideal.ofBits .f32 3286237184#32 = ((-448 : ℝ) : EReal) := by
  simp [Ideal.ofBits, Ideal.ieee, -EReal.coe_mul]; norm_num
theorem w_sixteenth : Ideal.ofBits .f32 1031798784#32 = ((1 / 16 : ℝ) : EReal) := by
  simp [Ideal.ofBits, Ideal.ieee, -EReal.coe_mul]; norm_num
theorem w_one : Ideal.ofBits .f32 1065353216#32 = ((1 : ℝ) : EReal) := by
  simp [Ideal.ofBits, Ideal.ieee, -EReal.coe_mul]; norm_num
theorem w_tiny : Ideal.ofBits .f32 8388608#32 = (((2 : ℝ) ^ (-126 : ℤ) : ℝ) : EReal) := by
  simp [Ideal.ofBits, Ideal.ieee, -EReal.coe_mul]; norm_num
theorem w_top : Ideal.ofBits .f32 2139095040#32 = ⊤ := by
  simp [Ideal.ofBits, Ideal.ieee]
theorem w_bot : Ideal.ofBits .f32 4286578688#32 = ⊥ := by
  simp [Ideal.ofBits, Ideal.ieee]

/-! ## The largest absolute value -/

theorem abs_coe (r : ℝ) : FloatOps.absf (F := Ideal) (φ := .f32) ((r : ℝ) : EReal) = ((|r| : ℝ) : EReal) := by
  show max ((r : ℝ) : EReal) (-((r : ℝ) : EReal)) = _
  rw [← EReal.coe_neg]
  exact (EReal.coe_strictMono.monotone.map_max).symm

theorem amax_attained (x : Fin 64 → Fin 256 → ℝ) : ∃ i d, Spec.amax x = |x i d| := by
  obtain ⟨p, _, hp⟩ := Finset.exists_mem_eq_sup' Finset.univ_nonempty fun p : Fin 64 × Fin 256 => |x p.1 p.2|
  exact ⟨p.1, p.2, hp⟩

theorem le_amax (x : Fin 64 → Fin 256 → ℝ) (i : Fin 64) (d : Fin 256) : |x i d| ≤ Spec.amax x :=
  Finset.le_sup' (fun p : Fin 64 × Fin 256 => |x p.1 p.2|) (Finset.mem_univ (i, d))

theorem amax_nonneg (x : Fin 64 → Fin 256 → ℝ) : 0 ≤ Spec.amax x := (abs_nonneg _).trans (le_amax x 0 0)

theorem fold_max {ι κ : Type} [Fintype ι] [Fintype κ] (f : ι → κ → ℝ) (m : ℝ) (hm : ∃ i d, m = f i d) (hle : ∀ i d, f i d ≤ m) :
    Finset.fold max (⊥ : EReal) (fun i => Finset.fold max (⊥ : EReal) (fun d => ((f i d : ℝ) : EReal)) Finset.univ) Finset.univ
      = ((m : ℝ) : EReal) := by
  apply le_antisymm
  · refine (Finset.fold_max_le _).mpr ⟨bot_le, fun i _ => (Finset.fold_max_le _).mpr ⟨bot_le, fun d _ => EReal.coe_le_coe_iff.mpr (hle i d)⟩⟩
  · obtain ⟨i, d, rfl⟩ := hm
    exact (Finset.le_fold_max _).mpr (.inr ⟨i, Finset.mem_univ i, (Finset.le_fold_max _).mpr (.inr ⟨d, Finset.mem_univ d, le_rfl⟩)⟩)

/-! ## The exponent -/

/-- The quotient's biased exponent. -/
def count (y : ℝ) : ℕ := if y < 2 ^ (-126 : ℤ) then 0 else (Spec.lg y + 127).toNat

theorem tiny_pos : (0 : ℝ) < 2 ^ (-126 : ℤ) := by positivity

theorem zpow_le_iff {y : ℝ} (hy : 0 < y) (k : ℤ) : (2 : ℝ) ^ k ≤ y ↔ k ≤ Spec.lg y := by
  have h := Spec.lg_spec hy
  constructor
  · intro hk
    have : (2 : ℝ) ^ k < 2 ^ (Spec.lg y + 1) := hk.trans_lt h.2
    have := (zpow_lt_zpow_iff_right₀ (one_lt_two (α := ℝ))).mp this
    omega
  · intro hk
    exact (zpow_le_zpow_right₀ (one_le_two (α := ℝ)) hk).trans h.1

theorem lg_lt {y : ℝ} (hy : 0 < y) {k : ℤ} (h : y < 2 ^ k) : Spec.lg y < k := by
  by_contra hc
  exact absurd ((zpow_le_iff hy k).mpr (not_lt.mp hc)) (not_le.mpr h)

theorem lg_ge {y : ℝ} (h : ¬ y < 2 ^ (-126 : ℤ)) : -126 ≤ Spec.lg y :=
  (zpow_le_iff (tiny_pos.trans_le (not_lt.mp h)) _).mp (not_lt.mp h)

theorem count_le {y : ℝ} (h : y < 2 ^ (120 : ℤ)) : count y ≤ 246 := by
  unfold count
  split
  · omega
  · rename_i hy
    have := lg_lt (tiny_pos.trans_le (not_lt.mp hy)) h
    omega

theorem expo_count (y : ℝ) : Spec.expo y = if count y = 0 then 0 else (count y : ℤ) - 126 := by
  unfold Spec.expo count
  split
  · simp
  · rename_i hy
    have := lg_ge hy
    rw [if_neg (by omega)]
    omega

theorem power_fields : ∀ p : Fin 256, ((IntOp.shli .vector (BitVec.ofNat 32 p.val) 23#32).extractLsb' 31 1 == 1#1) = false
    ∧ ((IntOp.shli .vector (BitVec.ofNat 32 p.val) 23#32).extractLsb' 23 8).toNat = p.val
    ∧ ((IntOp.shli .vector (BitVec.ofNat 32 p.val) 23#32).extractLsb' 0 23).toNat = 0 := by decide +kernel

theorem ieee_power (b : BitVec 32) (n : ℕ) (h1 : (b.extractLsb' 31 1 == 1#1) = false) (h2 : (b.extractLsb' 23 8).toNat = n)
    (h3 : (b.extractLsb' 0 23).toNat = 0) :
    Ideal.ofBits .f32 b = if n = 0 then 0 else if n = 255 then ⊤ else (((2 : ℝ) ^ ((n : ℤ) - 127) : ℝ) : EReal) := by
  have e : Ideal.ofBits .f32 b = Ideal.ieee 8 23 b := rfl
  rw [e]
  unfold Ideal.ieee
  simp only [h1, h2, h3]
  by_cases h0 : n = 0
  · simp [h0]
  by_cases h255 : n = 255
  · simp [h255]
  have h : ((n : ℤ) - 127) = ((n : ℤ) - 127 - 23) + 23 := by ring
  rw [if_neg h0, if_neg h255, if_neg (by omega), if_neg h0, h, zpow_add₀ two_ne_zero]
  norm_num [mul_comm]

/-- The `p`-th power of two the kernel compares with. -/
theorem power_word (p : Fin 256) : Ideal.ofBits .f32 (IntOp.shli .vector (BitVec.ofNat 32 p.val) 23#32)
    = if p.val = 0 then 0 else if p.val = 255 then ⊤ else (((2 : ℝ) ^ ((p.val : ℤ) - 127) : ℝ) : EReal) := by
  exact ieee_power _ _ (power_fields p).1 (power_fields p).2.1 (power_fields p).2.2

theorem positive_word : ∀ p : Fin 256, IntOp.cmpi .sgt (BitVec.ofNat 32 p.val) 0#32 = if 0 < p.val then 1#1 else 0#1 := by
  decide +kernel

theorem reached_iff {y : ℝ} (h0 : 0 ≤ y) (h : y < 2 ^ (120 : ℤ)) (p : Fin 256) :
    (0 < p.val ∧ Ideal.ofBits .f32 (IntOp.shli .vector (BitVec.ofNat 32 p.val) 23#32) ≤ ((y : ℝ) : EReal))
      ↔ (1 ≤ p.val ∧ p.val ≤ count y) := by
  rw [power_word]
  refine and_congr_right fun hp => ?_
  rw [if_neg (by omega)]
  have hc := count_le h
  split
  · simp; omega
  · rw [EReal.coe_le_coe_iff]
    unfold count
    split
    · rename_i hy
      constructor
      · intro hk
        have : (2 : ℝ) ^ (-126 : ℤ) ≤ 2 ^ ((p.val : ℤ) - 127) := zpow_le_zpow_right₀ one_le_two (by omega)
        exact absurd hy (not_lt.mpr (this.trans hk))
      · intro hk; omega
    · rename_i hy
      rw [zpow_le_iff (tiny_pos.trans_le (not_lt.mp hy))]
      have := lg_ge hy
      omega

theorem fold_count : ∀ N : Fin 256, Finset.fold IntOp.addi 0#32
    (fun p : Fin 256 => if 1 ≤ p.val ∧ p.val ≤ N.val then 1#32 else 0#32) Finset.univ = BitVec.ofNat 32 N.val := by
  decide +kernel

theorem expo_words : ∀ N : Fin 248,
    IntOp.shli .vector (IntOp.addi (Scalar.select (IntOp.cmpi .eq (BitVec.ofNat 32 N.val) 0#32) 0#32
        (IntOp.subi (BitVec.ofNat 32 N.val) 126#32)) 127#32) 23#32
      = IntOp.shli .vector (BitVec.ofNat 32 (if N.val = 0 then 127 else N.val + 1)) 23#32
    ∧ IntOp.shli .vector (IntOp.addi (IntOp.subi 0#32 (Scalar.select (IntOp.cmpi .eq (BitVec.ofNat 32 N.val) 0#32) 0#32
        (IntOp.subi (BitVec.ofNat 32 N.val) 126#32))) 127#32) 23#32
      = IntOp.shli .vector (BitVec.ofNat 32 (if N.val = 0 then 127 else 253 - N.val)) 23#32 := by
  decide +kernel

theorem scale_word (N : ℕ) (h : N ≤ 246) : Ideal.ofBits .f32 (IntOp.shli .vector (IntOp.addi
      (Scalar.select (IntOp.cmpi .eq (BitVec.ofNat 32 N) 0#32) 0#32 (IntOp.subi (BitVec.ofNat 32 N) 126#32)) 127#32) 23#32)
    = (((2 : ℝ) ^ (if N = 0 then 0 else (N : ℤ) - 126) : ℝ) : EReal) := by
  rw [(expo_words ⟨N, by omega⟩).1]
  rw [power_word ⟨if N = 0 then 127 else N + 1, by split <;> omega⟩]
  by_cases h0 : N = 0
  · subst h0; simp
  · simp only [if_neg h0]
    rw [if_neg (by omega), if_neg (by omega)]
    congr 2
    push_cast; ring

theorem inv_scale_word (N : ℕ) (h : N ≤ 246) : Ideal.ofBits .f32 (IntOp.shli .vector (IntOp.addi (IntOp.subi 0#32
      (Scalar.select (IntOp.cmpi .eq (BitVec.ofNat 32 N) 0#32) 0#32 (IntOp.subi (BitVec.ofNat 32 N) 126#32))) 127#32) 23#32)
    = ((((2 : ℝ) ^ (if N = 0 then 0 else (N : ℤ) - 126))⁻¹ : ℝ) : EReal) := by
  rw [(expo_words ⟨N, by omega⟩).2]
  rw [power_word ⟨if N = 0 then 127 else 253 - N, by split <;> omega⟩]
  by_cases h0 : N = 0
  · subst h0; simp
  · simp only [if_neg h0]
    rw [if_neg (by omega), if_neg (by omega), ← zpow_neg]
    congr 2
    omega

/-! ## The reference's scale -/

theorem exp2_word (p : Fin 256) : FloatOps.exp2 (F := Ideal) (φ := .f32)
    (FloatOps.sitofp .f32 (IntOp.subi (BitVec.ofNat 32 p.val) 128#32)) = (((2 : ℝ) ^ ((p.val : ℤ) - 128) : ℝ) : EReal) := by
  have key : ∀ p : Fin 256, (IntOp.subi (BitVec.ofNat 32 p.val) 128#32).toInt = (p.val : ℤ) - 128 := by decide +kernel
  show Ideal.exp2 ((((IntOp.subi (BitVec.ofNat 32 p.val) 128#32).toInt : ℝ) : EReal)) = _
  rw [key, Ideal.exp2_coe]
  exact congrArg _ (Real.rpow_intCast 2 _)

theorem least_power {y : ℝ} (hy : ¬ y < 2 ^ (-126 : ℤ)) (h : y < 2 ^ (120 : ℤ)) :
    Finset.fold min (⊤ : EReal) (fun p : Fin 256 => if ((y : ℝ) : EReal) < (((2 : ℝ) ^ ((p.val : ℤ) - 128) : ℝ) : EReal)
      then (((2 : ℝ) ^ ((p.val : ℤ) - 128) : ℝ) : EReal) else ⊤) Finset.univ = (((2 : ℝ) ^ Spec.expo y : ℝ) : EReal) := by
  have hp := tiny_pos.trans_le (not_lt.mp hy)
  have h1 := lg_ge hy
  have h2 := lg_lt hp h
  have he : Spec.expo y = Spec.lg y + 1 := if_neg hy
  rw [he]
  apply le_antisymm
  · refine (Finset.fold_min_le _).mpr (.inr ⟨⟨(Spec.lg y + 129).toNat, by omega⟩, Finset.mem_univ _, ?_⟩)
    have e : (((Spec.lg y + 129).toNat : ℕ) : ℤ) - 128 = Spec.lg y + 1 := by omega
    dsimp only
    rw [e, if_pos (EReal.coe_lt_coe_iff.mpr (Spec.lg_spec hp).2)]
  · refine (Finset.le_fold_min _).mpr ⟨le_top, fun p _ => ?_⟩
    split
    · rename_i hlt
      have := lg_lt hp (EReal.coe_lt_coe_iff.mp hlt)
      exact EReal.coe_le_coe_iff.mpr (zpow_le_zpow_right₀ one_le_two (by omega))
    · exact le_top

theorem clip_coe (r : ℝ) : min ((448 : ℝ) : EReal) (max ((-448 : ℝ) : EReal) ((r : ℝ) : EReal)) = ((min 448 (max (-448) r) : ℝ) : EReal) := by
  rw [← EReal.coe_strictMono.monotone.map_max, ← EReal.coe_strictMono.monotone.map_min]

theorem c448_pos : 0 < Spec.c448 := by unfold Spec.c448; norm_num

/-- What the quotient is below, for inputs in the range of bf16. -/
theorem quotient_lt (x : Fin 64 → Fin 256 → ℝ) (hx : ∀ i d, |x i d| < 2 ^ (128 : ℤ)) :
    0 ≤ Spec.amax x * Spec.c448 ∧ Spec.amax x * Spec.c448 < 2 ^ (120 : ℤ) := by
  refine ⟨mul_nonneg (amax_nonneg x) c448_pos.le, ?_⟩
  obtain ⟨i, d, h⟩ := amax_attained x
  rw [h]
  have h1 : |x i d| * Spec.c448 < 2 ^ (128 : ℤ) * Spec.c448 := mul_lt_mul_of_pos_right (hx i d) c448_pos
  refine h1.trans ?_
  unfold Spec.c448
  norm_num

theorem sc_pos (x : Fin 64 → Fin 256 → ℝ) : 0 < Spec.sc x := zpow_pos two_pos _

end Cert.Quant

/-! ## The kernel's scale and codes -/

namespace Cert.KernelIdeal.Row

open Cert.Up Cert.Quant Idealize.ShloMosaic Cert.KernelIdeal Cert.KernelIdeal.Gen

theorem amax_up (x : Fin 64 → Fin 256 → ℝ) : amax (F := Ideal) (up2 x) = up2 fun _ _ => Spec.amax x := by
  refine eq_up2 fun a b => ?_
  pointwise [amax]
  simp only [up2_apply, abs_coe, w_bot]
  refine fold_max (fun d i => |x i d|) _ ?_ (fun d i => le_amax x i d)
  obtain ⟨i, d, h⟩ := amax_attained x
  exact ⟨d, i, h⟩

theorem biased_up (m : ℝ) (h0 : 0 ≤ m * Spec.c448) (h : m * Spec.c448 < 2 ^ (120 : ℤ)) (a b : Fin 1) :
    biased (F := Ideal) (up2 fun _ _ => m) (ix2 a b) = BitVec.ofNat 32 (count (m * Spec.c448)) := by
  pointwise [biased]
  have hc := count_le h
  rw [← fold_count ⟨count (m * Spec.c448), by omega⟩]
  refine Finset.fold_congr fun p _ => ?_
  have hr : reached (F := Ideal) (up2 fun _ _ => m) (ix2 0 p)
      = if 1 ≤ p.val ∧ p.val ≤ count (m * Spec.c448) then 1#1 else 0#1 := by
    have hi := reached_iff h0 h p
    have hs := positive_word p
    pointwise [reached, powIdx]
    simp only [up2_apply, w_c448, ← EReal.coe_mul, hs]
    by_cases h1 : 0 < p.val
    · by_cases h2 : Ideal.ofBits .f32 (IntOp.shli .vector (BitVec.ofNat 32 p.val) 23#32) ≤ ((m * Spec.c448 : ℝ) : EReal)
      · rw [if_pos (hi.mp ⟨h1, h2⟩), if_pos h1]; simp [h2, IntOp.andi, -EReal.coe_mul]
      · rw [if_neg (fun hh => h2 (hi.mpr hh).2), if_pos h1]; simp [h2, IntOp.andi, -EReal.coe_mul]
    · rw [if_neg (fun hh => h1 (hi.mpr hh).1), if_neg h1]; simp [IntOp.andi]
  rw [hr]
  by_cases h1 : 1 ≤ p.val ∧ p.val ≤ count (m * Spec.c448)
  · rw [if_pos h1, if_pos h1]; rfl
  · rw [if_neg h1, if_neg h1]; rfl

theorem scale_up (x : Fin 64 → Fin 256 → ℝ) (hx : ∀ i d, |x i d| < 2 ^ (128 : ℤ)) :
    scale (F := Ideal) (up2 x) = up2 fun _ _ => Spec.sc x := by
  obtain ⟨h0, h⟩ := quotient_lt x hx
  refine eq_up2 fun a b => ?_
  unfold scale
  rw [amax_up]
  pointwise [pow2, expo]
  rw [biased_up _ h0 h, scale_word _ (count_le h), ← expo_count]
  rfl

theorem inv_scale_up (x : Fin 64 → Fin 256 → ℝ) (hx : ∀ i d, |x i d| < 2 ^ (128 : ℤ)) :
    pow2 (F := Ideal) (subi (broadcast S1x1 0#32) (expo (amax (up2 x)))) = up2 fun _ _ => (Spec.sc x)⁻¹ := by
  obtain ⟨h0, h⟩ := quotient_lt x hx
  refine eq_up2 fun a b => ?_
  rw [amax_up]
  pointwise [pow2, expo]
  rw [biased_up _ h0 h, inv_scale_word _ (count_le h), ← expo_count]
  rfl

theorem codes_up (x : Fin 64 → Fin 256 → ℝ) (hx : ∀ i d, |x i d| < 2 ^ (128 : ℤ)) :
    codes (F := Ideal) (up2 x) = up2 (Spec.code x) := by
  refine eq_up2 fun a b => ?_
  unfold codes
  rw [inv_scale_up x hx]
  pointwise
  simp only [up2_apply, w_448, w_neg448, ← EReal.coe_mul, clip_coe]
  rfl

end Cert.KernelIdeal.Row

end
-- ==== Proof.Inverse.lean ====
/- Two ways to invert a unit lower triangular matrix: sixty-four sweeps of `T ↦ 1 - A T`, and block doubling. -/
module

public import Mathlib.LinearAlgebra.Matrix.NonsingularInverse
public import Mathlib.Data.Real.Basic
public import Mathlib.Tactic.NoncommRing
public import Mathlib.Tactic.Linarith

@[expose] public section

noncomputable section

namespace Cert.Inverse

open Matrix

variable {n : ℕ}

/-- Strictly lower triangular. -/
def Lower (A : Matrix (Fin n) (Fin n) ℝ) : Prop := ∀ i j, ¬ (j.val < i.val) → A i j = 0

/-! ## Sweeps -/

/-- `m` sweeps from the identity. -/
def sweep (A : Matrix (Fin n) (Fin n) ℝ) : ℕ → Matrix (Fin n) (Fin n) ℝ
  | 0 => 1
  | m + 1 => 1 - A * sweep A m

theorem mul_sweep (A : Matrix (Fin n) (Fin n) ℝ) (m : ℕ) : (1 + A) * sweep A m = 1 - (-A) ^ (m + 1) := by
  induction m with
  | zero => simp [sweep]
  | succ m ih =>
    have h : (1 + A) * sweep A (m + 1) = 1 + A - A * ((1 + A) * sweep A m) := by
      simp only [sweep]; noncomm_ring
    rw [h, ih, pow_succ' (-A) (m + 1)]; noncomm_ring

theorem Lower.pow {A : Matrix (Fin n) (Fin n) ℝ} (hA : Lower A) (m : ℕ) (i j : Fin n) (h : ¬ (j.val + m ≤ i.val)) :
    (A ^ m) i j = 0 := by
  induction m generalizing i j with
  | zero =>
    rw [pow_zero, Matrix.one_apply_ne]
    intro e; subst e; simp at h
  | succ m ih =>
    rw [pow_succ', Matrix.mul_apply]
    refine Finset.sum_eq_zero fun k _ => ?_
    by_cases hk : k.val < i.val
    · rw [ih k j (by omega), mul_zero]
    · rw [hA i k hk, zero_mul]

/-- After at least `n` sweeps the matrix is inverted. -/
theorem sweep_eq {A : Matrix (Fin n) (Fin n) ℝ} (hA : Lower A) {m : ℕ} (hm : n ≤ m) : sweep A m = (1 + A)⁻¹ := by
  have h0 : (-A) ^ (m + 1) = 0 := by
    ext i j
    rw [neg_pow, ← Matrix.diagonal_one, ]
    have := hA.pow (m + 1) i j (by omega)
    rcases Nat.even_or_odd (m + 1) with e | e
    · simp [e.neg_one_pow, this]
    · simp [e.neg_one_pow, this]
  have h := mul_sweep A m
  rw [h0, sub_zero] at h
  exact (Matrix.inv_eq_right_inv h).symm

/-! ## Doubling -/

/-- `A` on diagonal blocks of size `s`. -/
def onBlocks (s : ℕ) (A : Matrix (Fin n) (Fin n) ℝ) : Matrix (Fin n) (Fin n) ℝ :=
  fun i j => if i.val / s = j.val / s then A i j else 0

/-- `A` on what blocks of size `2 s` hold beyond blocks of size `s`. -/
def between (s : ℕ) (A : Matrix (Fin n) (Fin n) ℝ) : Matrix (Fin n) (Fin n) ℝ :=
  fun i j => if i.val / (2 * s) = j.val / (2 * s) ∧ i.val / s ≠ j.val / s then A i j else 0

/-- Nothing outside diagonal blocks of size `s`. -/
def Blocky (s : ℕ) (T : Matrix (Fin n) (Fin n) ℝ) : Prop := ∀ i j, i.val / s ≠ j.val / s → T i j = 0

/-- `T` inverts `1 + A` block by block. -/
def Inverts (s : ℕ) (A T : Matrix (Fin n) (Fin n) ℝ) : Prop := T * (1 + onBlocks s A) = 1 ∧ Blocky s T

theorem div_two_mul (a s : ℕ) : a / (2 * s) = a / s / 2 := by rw [mul_comm, Nat.div_div_eq_div_mul]

theorem between_parity {A : Matrix (Fin n) (Fin n) ℝ} (hA : Lower A) {s : ℕ} {i j : Fin n} (h : between s A i j ≠ 0) :
    i.val / s % 2 = 1 ∧ j.val / s % 2 = 0 := by
  unfold between at h
  split at h
  · rename_i hc
    rw [div_two_mul, div_two_mul] at hc
    have hlt : j.val < i.val := by by_contra hn; exact h (hA i j hn)
    have : j.val / s ≤ i.val / s := Nat.div_le_div_right hlt.le
    omega
  · exact absurd rfl h

theorem onBlocks_double (A : Matrix (Fin n) (Fin n) ℝ) (s : ℕ) : onBlocks (2 * s) A = onBlocks s A + between s A := by
  ext i j
  simp only [onBlocks, between, Matrix.add_apply]
  by_cases h : i.val / s = j.val / s
  · have : i.val / (2 * s) = j.val / (2 * s) := by rw [div_two_mul, div_two_mul, h]
    simp [h, this]
  · simp [h]

theorem Blocky.double {T : Matrix (Fin n) (Fin n) ℝ} {s : ℕ} (h : Blocky s T) : Blocky (2 * s) T := by
  intro i j hij
  exact h i j fun e => hij (by rw [div_two_mul, div_two_mul, e])

theorem Blocky.mul {T U : Matrix (Fin n) (Fin n) ℝ} {s : ℕ} (hT : Blocky s T) (hU : Blocky s U) : Blocky s (T * U) := by
  intro i j hij
  rw [Matrix.mul_apply]
  refine Finset.sum_eq_zero fun k _ => ?_
  by_cases h : i.val / s = k.val / s
  · rw [hU k j (fun e => hij (h.trans e)), mul_zero]
  · rw [hT i k h, zero_mul]

theorem blocky_between (A : Matrix (Fin n) (Fin n) ℝ) (s : ℕ) : Blocky (2 * s) (between s A) := by
  intro i j hij
  simp [between, hij]

theorem Blocky.sub {T U : Matrix (Fin n) (Fin n) ℝ} {s : ℕ} (hT : Blocky s T) (hU : Blocky s U) : Blocky s (T - U) := by
  intro i j hij
  rw [Matrix.sub_apply, hT i j hij, hU i j hij, sub_zero]

theorem between_mul_between {A T : Matrix (Fin n) (Fin n) ℝ} (hA : Lower A) {s : ℕ} (hT : Blocky s T) :
    between s A * T * between s A = 0 := by
  ext i j
  rw [Matrix.mul_apply, Matrix.zero_apply]
  refine Finset.sum_eq_zero fun b _ => ?_
  by_cases hb : between s A b j = 0
  · rw [hb, mul_zero]
  rw [Matrix.mul_apply, Finset.sum_eq_zero, zero_mul]
  intro a _
  by_cases ha : between s A i a = 0
  · rw [ha, zero_mul]
  rw [hT a b, mul_zero]
  have h1 := between_parity hA ha
  have h2 := between_parity hA hb
  omega

/-- One doubling. -/
theorem Inverts.step {A T : Matrix (Fin n) (Fin n) ℝ} (hA : Lower A) {s : ℕ} (h : Inverts s A T) :
    Inverts (2 * s) A (T - T * (between s A * T)) := by
  refine ⟨?_, h.2.double.sub (h.2.double.mul ((blocky_between A s).mul h.2.double))⟩
  have h0 := between_mul_between hA h.2
  have e : (T - T * (between s A * T)) * (1 + onBlocks (2 * s) A)
      = T * (1 + onBlocks s A) - T * between s A * (T * (1 + onBlocks s A)) + T * between s A
        - T * (between s A * T * between s A) := by
    rw [onBlocks_double]; noncomm_ring
  rw [e, h.1, h0]; noncomm_ring

/-- Blocks of two. -/
theorem inverts_two {A : Matrix (Fin n) (Fin n) ℝ} (hA : Lower A) : Inverts 2 A (1 - onBlocks 2 A) := by
  constructor
  · have h : onBlocks 2 A * onBlocks 2 A = 0 := by
      ext i j
      rw [Matrix.mul_apply, Matrix.zero_apply]
      refine Finset.sum_eq_zero fun k _ => ?_
      have hz : ∀ a b : Fin n, onBlocks 2 A a b ≠ 0 → a.val % 2 = 1 ∧ b.val % 2 = 0 := by
        intro a b hab
        unfold onBlocks at hab
        split at hab
        · have : b.val < a.val := by by_contra hn; exact hab (hA a b hn)
          omega
        · exact absurd rfl hab
      by_cases h1 : onBlocks 2 A i k = 0
      · rw [h1, zero_mul]
      by_cases h2 : onBlocks 2 A k j = 0
      · rw [h2, mul_zero]
      have := hz _ _ h1
      have := hz _ _ h2
      omega
    have e : (1 - onBlocks 2 A) * (1 + onBlocks 2 A) = 1 - onBlocks 2 A * onBlocks 2 A := by noncomm_ring
    rw [e, h, sub_zero]
  · intro i j hij
    rw [Matrix.sub_apply, Matrix.one_apply_ne (fun e => hij (by rw [e]))]
    simp [onBlocks, hij]

/-- The five doublings from blocks of two to blocks of sixty-four. -/
def doubled (A : Matrix (Fin n) (Fin n) ℝ) : ℕ → Matrix (Fin n) (Fin n) ℝ
  | 0 => 1 - onBlocks 2 A
  | m + 1 => doubled A m - doubled A m * (between (2 ^ (m + 1)) A * doubled A m)

theorem inverts_doubled {A : Matrix (Fin n) (Fin n) ℝ} (hA : Lower A) (m : ℕ) : Inverts (2 ^ (m + 1)) A (doubled A m) := by
  induction m with
  | zero => simpa [doubled] using inverts_two hA
  | succ m ih =>
    have := ih.step hA
    rwa [← pow_succ'] at this

/-! ## One of two chunks -/

/-- Token `i` of chunk `c`. -/
def tok (c : Fin 2) (i : Fin 64) : Fin 128 := ⟨64 * c.val + i.val, by omega⟩

theorem tok_div (c : Fin 2) (i : Fin 64) : (tok c i).val / 64 = c.val := by simp only [tok]; omega

theorem tok_injective (c : Fin 2) : Function.Injective (tok c) := by
  intro i j h
  simp only [tok, Fin.mk.injEq] at h
  exact Fin.ext (by omega)

/-- A sum over tokens is one over chunk `c`'s when the others' terms are zero. -/
theorem sum_tok (c : Fin 2) (f : Fin 128 → ℝ) (h : ∀ t : Fin 128, t.val / 64 ≠ c.val → f t = 0) :
    ∑ t, f t = ∑ i, f (tok c i) := by
  rw [← Finset.sum_image (f := f) (g := tok c) (s := Finset.univ) (fun i _ j _ e => tok_injective c e)]
  symm
  refine Finset.sum_subset (Finset.subset_univ _) fun t _ ht => h t fun e => ht ?_
  refine Finset.mem_image.2 ⟨⟨t.val % 64, Nat.mod_lt _ (by norm_num)⟩, Finset.mem_univ _, ?_⟩
  apply Fin.ext
  simp only [tok]
  omega

/-- The chunk's block of the doubled inverse is the inverse of the chunk's block. -/
theorem doubled_block {A : Matrix (Fin 128) (Fin 128) ℝ} (hA : Lower A) (hB : Blocky 64 A) (c : Fin 2)
    {B : Matrix (Fin 64) (Fin 64) ℝ} (hAB : ∀ i j, A (tok c i) (tok c j) = B i j) (i j : Fin 64) :
    doubled A 5 (tok c i) (tok c j) = ((1 + B)⁻¹ : Matrix (Fin 64) (Fin 64) ℝ) i j := by
  have h := inverts_doubled hA 5
  have e : onBlocks (2 ^ (5 + 1)) A = A := by
    ext a b
    unfold onBlocks
    split
    · rfl
    · rename_i hn; exact (hB a b hn).symm
  obtain ⟨h1, h2⟩ := h
  rw [e] at h1
  have key : (Matrix.of fun i j => doubled A 5 (tok c i) (tok c j)) * (1 + B) = 1 := by
    ext a b
    have hab := congrFun (congrFun h1 (tok c a)) (tok c b)
    rw [Matrix.mul_apply, sum_tok c] at hab
    · rw [Matrix.mul_apply]
      convert hab using 1
      · refine Finset.sum_congr rfl fun k _ => ?_
        rw [Matrix.add_apply, Matrix.add_apply, hAB, Matrix.of_apply]
        simp only [Matrix.one_apply, (tok_injective c).eq_iff]
      · simp only [Matrix.one_apply, (tok_injective c).eq_iff]
    · intro t ht
      rw [h2 (tok c a) t (by rw [show (2 : ℕ) ^ (5 + 1) = 64 by norm_num, tok_div]; exact fun e => ht e.symm), zero_mul]
  rw [Matrix.inv_eq_left_inv key, Matrix.of_apply]

end Cert.Inverse

end
-- ==== Proof.RowValue.lean ====
/- A row of the kernel on real inputs: its two chunks' outputs and the states after them are those of `Spec.lean`. -/
module

public import proofs.«01_k».proof.Proof.Masks
public import proofs.«01_k».proof.Proof.Quant
public import proofs.«01_k».proof.Proof.Inverse

@[expose] public section

noncomputable section

namespace Cert.KernelIdeal.Row

open Cert Cert.Up Cert.Quant Cert.Inverse Idealize.ShloMosaic Cert.KernelIdeal Cert.KernelIdeal.Gen

/-! ## The real functions over a step's 128 tokens -/

/-- A token's chunk. -/
def cnk (t : Fin 128) : Fin 2 := ⟨t.val / 64, by omega⟩
/-- A token's number in its chunk. -/
def pos (t : Fin 128) : Fin 64 := ⟨t.val % 64, Nat.mod_lt _ (by decide)⟩

theorem cnk_tok (c : Fin 2) (i : Fin 64) : cnk (tok c i) = c := Fin.ext (tok_div c i)
theorem pos_tok (c : Fin 2) (i : Fin 64) : pos (tok c i) = i := Fin.ext (by simp only [pos, tok]; omega)
theorem tok_le (c : Fin 2) (i j : Fin 64) : tok c j ≤ tok c i ↔ j ≤ i := by
  simp only [tok, Fin.le_def]; omega
theorem tok_lt (c : Fin 2) (i j : Fin 64) : tok c j < tok c i ↔ j < i := by
  simp only [tok, Fin.lt_def]; omega

/-- One chunk of an array over tokens. -/
def ch {α : Type} (K : Fin 128 → α) (c : Fin 2) : Fin 64 → α := fun i => K (tok c i)

variable (K Q : Fin 128 → Fin 256 → ℝ) (G B : Fin 128 → ℝ)

def code2 (t : Fin 128) (d : Fin 256) : ℝ := Spec.code (ch K (cnk t)) (pos t) d
def rs (t : Fin 128) : ℝ := Spec.rn K t * Spec.sc (ch K (cnk t))
def gs (t : Fin 128) : ℝ := ∑ s, if t.val / 64 = s.val / 64 ∧ s ≤ t then G s else 0
def dec (s t : Fin 128) : ℝ :=
  (if s.val / 64 = t.val / 64 ∧ t ≤ s then Real.exp (if s.val / 64 = t.val / 64 ∧ t ≤ s then gs G s - gs G t else 0) else 0) * rs K t
def am : Matrix (Fin 128) (Fin 128) ℝ := fun s t =>
  if s.val / 64 = t.val / 64 ∧ t < s then (∑ d, code2 K s d * code2 K t d) * (dec K G s t * (rs K s * B s)) else 0
def pm (s t : Fin 128) : ℝ :=
  if s.val / 64 = t.val / 64 ∧ t ≤ s then (∑ d, code2 Q s d * code2 K t d) * (dec K G s t * (rs Q s * (1 / 16))) else 0

theorem code2_tok (c : Fin 2) (i : Fin 64) (d : Fin 256) : code2 K (tok c i) d = Spec.code (ch K c) i d := by
  rw [code2, cnk_tok, pos_tok]
theorem rs_tok (c : Fin 2) (i : Fin 64) : rs K (tok c i) = Spec.rn (ch K c) i * Spec.sc (ch K c) := by
  rw [rs, cnk_tok]; rfl
theorem gs_tok (c : Fin 2) (i : Fin 64) : gs G (tok c i) = Spec.gsum (ch G c) i := by
  rw [gs, sum_tok c]
  · refine Finset.sum_congr rfl fun j _ => ?_
    simp only [tok_div, tok_le, true_and]; rfl
  · intro t ht
    rw [if_neg]
    rw [tok_div]; exact fun h => ht h.1.symm
theorem dec_tok (c : Fin 2) (i j : Fin 64) : dec K G (tok c i) (tok c j)
    = Spec.decay (ch G c) i j * (Spec.rn (ch K c) j * Spec.sc (ch K c)) := by
  rw [dec, rs_tok]
  simp only [tok_div, tok_le, true_and, gs_tok]; rfl
theorem am_tok (c : Fin 2) (i j : Fin 64) : am K G B (tok c i) (tok c j) = Spec.amat (ch K c) (ch G c) (ch B c) i j := by
  rw [← Spec.amat_eq, am, dec_tok, rs_tok]
  simp only [tok_div, tok_lt, true_and, code2_tok]; rfl
theorem pm_tok (c : Fin 2) (i j : Fin 64) : pm K Q G (tok c i) (tok c j) = Spec.pmat (ch K c) (ch Q c) (ch G c) i j := by
  rw [← Spec.pmat_eq, pm, dec_tok, rs_tok]
  simp only [tok_div, tok_le, true_and, code2_tok]

theorem lower_am : Lower (am K G B) := fun i j h => if_neg fun hh => h hh.2
theorem blocky_am : Blocky 64 (am K G B) := fun i j h => if_neg fun hh => h hh.1

theorem tm_tok (c : Fin 2) (i j : Fin 64) : doubled (am K G B) 5 (tok c i) (tok c j) = Spec.tmat (ch K c) (ch G c) (ch B c) i j :=
  doubled_block (lower_am K G B) (blocky_am K G B) c (am_tok K G B c) i j

/-- The scores times the inverse with its columns times beta. -/
def pt (s t : Fin 128) : ℝ := ∑ l, pm K Q G s l * (doubled (am K G B) 5 l t * B t)

theorem pt_tok (c : Fin 2) (i j : Fin 64) : pt K Q G B (tok c i) (tok c j)
    = ∑ l, Spec.pmat (ch K c) (ch Q c) (ch G c) i l * (Spec.tmat (ch K c) (ch G c) (ch B c) l j * ch B c j) := by
  rw [pt, sum_tok c]
  · refine Finset.sum_congr rfl fun l _ => ?_
    rw [pm_tok, tm_tok]; rfl
  · intro t ht
    have h : pm K Q G (tok c i) t = 0 := if_neg (by rw [tok_div]; exact fun h => ht h.1.symm)
    rw [h, zero_mul]

/-- A matrix's entries. -/
def ent (A : Matrix (Fin 128) (Fin 128) ℝ) : Fin 128 → Fin 128 → ℝ := A

/-! ## The row's arrays are these functions -/

variable {K Q}

section
variable (hK : ∀ t d, |K t d| < 2 ^ (128 : ℤ)) (hQ : ∀ t d, |Q t d| < 2 ^ (128 : ℤ))

theorem lo_up (K : Fin 128 → Fin 256 → ℝ) : lo (F := Ideal) (up2 K) = up2 (ch K 0) := by
  refine eq_up2 fun a b => ?_
  pointwise [lo]
  exact congrArg (fun t => ((K t b : ℝ) : EReal)) (Fin.ext (by simp [tok]))
theorem hi_up (K : Fin 128 → Fin 256 → ℝ) : hi (F := Ideal) (up2 K) = up2 (ch K 1) := by
  refine eq_up2 fun a b => ?_
  pointwise [hi]
  exact congrArg (fun t => ((K t b : ℝ) : EReal)) (Fin.ext (by simp [tok]))

include hK in
theorem codes2_up : codes2 (F := Ideal) (up2 K) = up2 (code2 K) := by
  refine eq_up2 fun a b => ?_
  unfold codes2
  rw [lo_up, hi_up, codes_up (ch K 0) (fun i d => hK _ d), codes_up (ch K 1) (fun i d => hK _ d)]
  pointwise
  by_cases h : a.val < 64
  · have e : a = tok 0 ⟨a.val, h⟩ := Fin.ext (by simp [tok])
    rw [dif_pos h, up2_apply]
    conv_rhs => rw [e, code2_tok]
  · have e : a = tok 1 ⟨a.val - 64, by omega⟩ := Fin.ext (by simp [tok]; omega)
    rw [dif_neg h, up2_apply]
    conv_rhs => rw [e, code2_tok]

include hK in
theorem scale2_up : scale2 (F := Ideal) (up2 K) = up2 fun t _ => Spec.sc (ch K (cnk t)) := by
  refine eq_up2 fun a b => ?_
  unfold scale2
  rw [lo_up, hi_up, scale_up (ch K 0) (fun i d => hK _ d), scale_up (ch K 1) (fun i d => hK _ d)]
  pointwise
  by_cases h : a.val < 64
  · have e : cnk a = 0 := Fin.ext (by simp only [cnk]; omega)
    rw [dif_pos h, e]; rfl
  · have e : cnk a = 1 := Fin.ext (by simp only [cnk]; omega)
    rw [dif_neg h, e]; rfl

theorem rsqrt_pos {r : ℝ} (h : 0 < r) : Ideal.rsqrt (r : EReal) = (((√r)⁻¹ : ℝ) : EReal) := by
  rw [Ideal.rsqrt_coe, if_neg (not_lt.mpr h.le), if_neg h.ne']

theorem norm_pos {n : ℕ} (x : Fin n → Fin 256 → ℝ) (i : Fin n) : 0 < ∑ d, x i d * x i d + Spec.eps := by
  have h : 0 ≤ ∑ d, x i d * x i d := Finset.sum_nonneg fun d _ => mul_self_nonneg _
  have : 0 < Spec.eps := by unfold Spec.eps; norm_num
  linarith

include hK in
theorem rnorm_up : rnorm (F := Ideal) (up2 K) = up2 fun t _ => rs K t := by
  refine eq_up2 fun a b => ?_
  unfold rnorm
  rw [scale2_up hK]
  pointwise
  simp only [up2_apply, w_eps]
  simp only [← EReal.coe_mul, coe_sum, zero_add]
  rw [← EReal.coe_add, rsqrt_pos (norm_pos K a), ← EReal.coe_mul]
  rfl

include hQ in
theorem rnormq_up : rnormq (F := Ideal) (up2 Q) = up2 fun t _ => rs Q t * (1 / 16) := by
  refine eq_up2 fun a b => ?_
  unfold rnormq
  rw [rnorm_up hQ]
  pointwise
  rw [up2_apply, w_sixteenth, ← EReal.coe_mul]

theorem mulf_up {m n : ℕ} (f g : Fin m → Fin n → ℝ) :
    mulf (up2 f : FVec Ideal ⟨2, ![m, n]⟩ .f32) (up2 g) = up2 fun a b => f a b * g a b :=
  funext fun _ => (EReal.coe_mul _ _).symm
theorem subf_up {m n : ℕ} (f g : Fin m → Fin n → ℝ) :
    subf (up2 f : FVec Ideal ⟨2, ![m, n]⟩ .f32) (up2 g) = up2 fun a b => f a b - g a b :=
  funext fun _ => (EReal.coe_sub _ _).symm
theorem addf_up {m n : ℕ} (f g : Fin m → Fin n → ℝ) :
    addf (up2 f : FVec Ideal ⟨2, ![m, n]⟩ .f32) (up2 g) = up2 fun a b => f a b + g a b :=
  funext fun _ => (EReal.coe_add _ _).symm
theorem exp_up {m n : ℕ} (f : Fin m → Fin n → ℝ) :
    exp (up2 f : FVec Ideal ⟨2, ![m, n]⟩ .f32) = up2 fun a b => Real.exp (f a b) :=
  funext fun _ => Ideal.exp_coe _

theorem rowSum_up (f : Fin 128 → Fin 128 → ℝ) : rowSum (F := Ideal) (up2 f) = up2 fun i _ => ∑ j, f i j := by
  refine eq_up2 fun a b => ?_
  pointwise [rowSum]
  simp only [up2_apply, coe_sum, zero_add]
theorem down_up (r : Fin 1 → Fin 128 → ℝ) : down (F := Ideal) (up2 r) = up2 fun _ j => r 0 j := by
  refine eq_up2 fun a b => ?_
  pointwise [down]
  rfl
theorem across_up (c : Fin 128 → Fin 1 → ℝ) :
    broadcastTo S128x128 (up2 c : FVec Ideal S128x1 .f32) broadcasts_S128x1_S128x128 = up2 fun i _ => c i 0 := by
  refine eq_up2 fun a b => ?_
  pointwise
  rfl
theorem along_up (c : Fin 1 → Fin 128 → ℝ) :
    broadcastTo S128x128 (up2 c : FVec Ideal S1x128 .f32) broadcasts_S1x128_S128x128 = up2 fun _ j => c 0 j := by
  refine eq_up2 fun a b => ?_
  pointwise
  rfl

theorem gcum_up : gcum (F := Ideal) (up2 fun _ j => G j) = up2 fun t _ => gs G t := by
  rw [gcum, down_up, select_up causal_apply, rowSum_up]
  rfl

theorem toCol_up : toCol (F := Ideal) (up2 fun _ j => B j) = up2 fun t _ => B t := by
  rw [toCol, down_up, select_up diag_apply, rowSum_up]
  simp

theorem toRow_up (c : Fin 128 → Fin 1 → ℝ) : toRow (F := Ideal) (up2 c) = up2 fun _ t => c t 0 := by
  have h : broadcastTo S128x128 (shapeCast S128x1 (up2 c : FVec Ideal S128x1 .f32) shapeCasts_S128x1_S128x1) broadcasts_S128x1_S128x128
      = up2 fun i _ => c i 0 := by
    refine eq_up2 fun a b => ?_
    pointwise
    rfl
  rw [toRow, h, select_up diag_apply]
  refine eq_up2 fun a b => ?_
  pointwise
  simp only [up2_apply, coe_sum, zero_add]
  simp

include hK in
theorem decay_up : decay (F := Ideal) (gcum (up2 fun _ j => G j)) (rnorm (up2 K)) = up2 (dec K G) := by
  rw [decay, gcum_up, rnorm_up hK, toRow_up, toRow_up, along_up, along_up, across_up, subf_up, select_up causal_apply, exp_up,
    select_up causal_apply, mulf_up]
  rfl

include hK in
theorem kq_lo : extractStridedSlice S128x128 ![0, 0] (kq (F := Ideal) (up2 K) (up2 Q)) slices_S256x128_o0_0_S128x128
    = up2 fun s t => ∑ d, code2 K s d * code2 K t d := by
  refine eq_up2 fun a b => ?_
  unfold kq
  rw [codes2_up hK]
  generalize codes2 (F := Ideal) (up2 Q) = y
  pointwise
  simp only [up2_apply, ← EReal.coe_mul, coe_sum]

include hK hQ in
theorem kq_hi : extractStridedSlice S128x128 ![128, 0] (kq (F := Ideal) (up2 K) (up2 Q)) slices_S256x128_o128_0_S128x128
    = up2 fun s t => ∑ d, code2 Q s d * code2 K t d := by
  refine eq_up2 fun a b => ?_
  unfold kq
  rw [codes2_up hK, codes2_up hQ]
  pointwise
  simp only [up2_apply, ← EReal.coe_mul, coe_sum]

include hK in
theorem amat_up : amat (F := Ideal) (up2 K) (up2 Q) (up2 fun _ j => G j) (up2 fun _ j => B j) = up2 (ent (am K G B)) := by
  rw [amat, kq_lo hK, decay_up G hK, rnorm_up hK, toCol_up, mulf_up, across_up, mulf_up, mulf_up, select_up strict_apply]
  rfl

include hK hQ in
theorem pmat_up : pmat (F := Ideal) (up2 K) (up2 Q) (up2 fun _ j => G j) = up2 (pm K Q G) := by
  rw [pmat, kq_hi hK hQ, decay_up G hK, rnormq_up hQ, across_up, mulf_up, mulf_up, select_up causal_apply]
  rfl

theorem mm_up (X Y : Fin 128 → Fin 128 → ℝ) : mm (F := Ideal) (up2 X) (up2 Y) = up2 fun i j => ∑ l, X i l * Y l j := by
  refine eq_up2 fun a b => ?_
  pointwise [mm]
  simp only [up2_apply, ← EReal.coe_mul, coe_sum, zero_add]

theorem eye_up : eye (F := Ideal) = up2 (ent 1) := by
  refine eq_up2 fun a b => ?_
  pointwise [eye]
  rw [diag_apply]
  by_cases h : a = b
  · subst h
    rw [if_pos rfl, ent, Matrix.one_apply_eq]
    show ((((BitVec.setWidth 32 1#1).toInt : ℝ)) : EReal) = _
    norm_num
  · rw [if_neg h, ent, Matrix.one_apply_ne h]
    show ((((BitVec.setWidth 32 0#1).toInt : ℝ)) : EReal) = _
    norm_num

theorem inv0_up (A : Matrix (Fin 128) (Fin 128) ℝ) : inv0 (F := Ideal) (up2 (ent A)) = up2 (ent (doubled A 0)) := by
  rw [inv0, eye_up, select_up (same_of fdivW_2), subf_up]
  rfl

theorem invStep_up {d dd : BitVec 32} (m : ℕ)
    (h : ∀ i : Fin 128, fdivW (BitVec.ofNat 32 i.val) d = BitVec.ofNat 32 (i.val / 2 ^ (m + 1)))
    (h2 : ∀ i : Fin 128, fdivW (BitVec.ofNat 32 i.val) dd = BitVec.ofNat 32 (i.val / (2 * 2 ^ (m + 1))))
    (A : Matrix (Fin 128) (Fin 128) ℝ) : invStep (F := Ideal) (up2 (ent A)) d dd (up2 (ent (doubled A m))) = up2 (ent (doubled A (m + 1))) := by
  rw [invStep, select_up (between_of h h2)]
  have e : (fun i j : Fin 128 => if i.val / (2 * 2 ^ (m + 1)) = j.val / (2 * 2 ^ (m + 1)) ∧ i.val / 2 ^ (m + 1) ≠ j.val / 2 ^ (m + 1)
      then ent A i j else 0) = ent (between (2 ^ (m + 1)) A) := rfl
  rw [e, mm_up, mm_up, subf_up]
  rfl

theorem inv_up (A : Matrix (Fin 128) (Fin 128) ℝ) : inv (F := Ideal) (up2 (ent A)) = up2 (ent (doubled A 5)) := by
  rw [inv, inv0_up, invStep_up 0 fdivW_2 fdivW_4, invStep_up 1 fdivW_4 fdivW_8, invStep_up 2 fdivW_8 fdivW_16,
    invStep_up 3 fdivW_16 fdivW_32, invStep_up 4 fdivW_32 fdivW_64]

include hK in
theorem tmat_up : tmat (F := Ideal) (up2 K) (up2 Q) (up2 fun _ j => G j) (up2 fun _ j => B j)
    = up2 fun s t => ent (doubled (am K G B) 5) s t * B t := by
  rw [tmat, amat_up G B hK, inv_up, along_up, mulf_up]

include hK hQ in
theorem ptmat_up : ptmat (F := Ideal) (up2 K) (up2 Q) (up2 fun _ j => G j) (up2 fun _ j => B j) = up2 (pt K Q G B) := by
  rw [ptmat, pmat_up G hK hQ, tmat_up G B hK, mm_up]
  rfl

end

end Cert.KernelIdeal.Row

end
-- ==== Proof.ChunkValue.lean ====
/- One chunk of a row of the kernel on real inputs: its output and the state after it are those of `Spec.lean`. -/
module

public import proofs.«01_k».proof.Proof.RowValue

@[expose] public section

noncomputable section

namespace Cert.KernelIdeal.Row

open Cert Cert.Up Cert.Quant Cert.Inverse Idealize.ShloMosaic Cert.KernelIdeal Cert.KernelIdeal.Gen

/-! ## Sums over stacked copies -/

theorem sum_three {n : ℕ} (f : Fin (n + n + n) → EReal) : ∑ x, f x
    = (∑ i : Fin n, f ⟨i.val, by omega⟩) + (∑ i : Fin n, f ⟨n + i.val, by omega⟩) + ∑ i : Fin n, f ⟨n + n + i.val, by omega⟩ := by
  rw [Fin.sum_univ_add, Fin.sum_univ_add]
  rfl

/-- Three copies against a value, what its rounding left, and what that left in turn: only the value counts. -/
theorem sum_stacked {n : ℕ} (f g : Fin n → ℝ) (h2 : ∀ (x : Fin (n + n + n)), ¬ x.val < n → ¬ x.val - n < n → x.val - n - n < n) :
    (∑ x : Fin (n + n + n),
      (if h : x.val < n then ((f ⟨x.val, h⟩ : ℝ) : EReal)
        else if h' : x.val - n < n then ((f ⟨x.val - n, h'⟩ : ℝ) : EReal) else ((f ⟨x.val - n - n, h2 x h h'⟩ : ℝ) : EReal)) *
      (if h : x.val < n then ((g ⟨x.val, h⟩ : ℝ) : EReal)
        else if h' : x.val - n < n then 0
        else ((g ⟨x.val - n - n, h2 x h h'⟩ : ℝ) : EReal) - ((g ⟨x.val - n - n, h2 x h h'⟩ : ℝ) : EReal) - 0))
      = ((∑ i, f i * g i : ℝ) : EReal) := by
  rw [sum_three]
  have e1 : ∀ i : Fin n, ¬ n + i.val < n := fun i => by omega
  have e2 : ∀ i : Fin n, n + i.val - n < n := fun i => by omega
  have e3 : ∀ i : Fin n, ¬ n + n + i.val < n := fun i => by omega
  have e4 : ∀ i : Fin n, ¬ n + n + i.val - n < n := fun i => by omega
  simp only [Fin.is_lt, e1, e2, e3, e4, dif_pos, dif_neg, not_false_eq_true, mul_zero, Finset.sum_const_zero, add_zero,
    ← EReal.coe_sub, sub_self, EReal.coe_zero, sub_zero, ← EReal.coe_mul, coe_sum]

theorem top_up {m n : ℕ} (f : Fin m → Fin n → ℝ) : top (up2 f : FVec Ideal ⟨2, ![m, n]⟩ .f32) = up2 f := rfl
theorem left_up {m n : ℕ} (f : Fin m → Fin n → ℝ) (i) :
    top (subf (up2 f : FVec Ideal ⟨2, ![m, n]⟩ .f32) (up2 f)) i = 0 := by
  rw [subf_up]
  show (((f (i 0) (i 1) - f (i 0) (i 1) : ℝ)) : EReal) = 0
  rw [sub_self, EReal.coe_zero]
theorem trunc_up {m n : ℕ} (f : Fin m → Fin n → ℝ) (h) :
    truncf .bf16 (up2 f : FVec Ideal ⟨2, ![m, n]⟩ .f32) h = up2 f := rfl

/-- One chunk over another. -/
def stack (kc qc : Fin 64 → Fin 256 → ℝ) (a : Fin 128) (d : Fin 256) : ℝ :=
  if h : a.val < 64 then kc ⟨a.val, h⟩ d else qc ⟨a.val - 64, by omega⟩ d

theorem ksqs_apply (kc qc : Fin 64 → Fin 256 → ℝ) (S : Fin 256 → Fin 512 → ℝ) :
    ksqs (F := Ideal) (up2 kc) (up2 qc) (up2 S)
      = up2 fun a e => ∑ d, (if h : a.val < 64 then kc ⟨a.val, h⟩ d else qc ⟨a.val - 64, by omega⟩ d) * S d e := by
  have hc : concatenate S128x256 0 [⟨S64x256, (up2 kc : FVec Ideal S64x256 .bf16)⟩, ⟨S64x256, (up2 qc : FVec Ideal S64x256 .bf16)⟩]
      concatenates_S64x256_S64x256_S128x256_d0
      = up2 (stack kc qc) := by
    refine eq_up2 fun a d => ?_
    pointwise
    unfold stack
    by_cases h : a.val < 64
    · rw [dif_pos h, dif_pos h]; rfl
    · rw [dif_neg h, dif_neg h]; rfl
  unfold ksqs
  rw [hc]
  show _ = up2 fun a e => ∑ d, stack kc qc a d * S d e
  simp only [top_up]
  refine eq_up2 fun a e => ?_
  pointwise
  have hz : ∀ i, top (subf (up2 S : FVec Ideal S256x512 .f32) (up2 S)) i = 0 := left_up S
  simp only [hz]
  exact sum_stacked (fun d => stack kc qc a d) (fun d => S d e) fun x h h' => by omega

theorem upd_apply (kc : Fin 64 → Fin 256 → ℝ) (dV : Fin 64 → Fin 512 → ℝ) :
    upd (F := Ideal) (up2 kc) (up2 dV) = up2 fun d e => ∑ i, kc i d * dV i e := by
  unfold upd
  simp only [top_up]
  refine eq_up2 fun a e => ?_
  pointwise
  have hz : ∀ i, top (subf (up2 dV : FVec Ideal S64x512 .f32) (up2 dV)) i = 0 := left_up dV
  simp only [hz]
  exact sum_stacked (fun i => kc i a) (fun i => dV i e) fun x h h' => by omega

theorem mx_apply (d : Fin 64 → Fin 1 → ℝ) (T PT : Fin 64 → Fin 64 → ℝ) (X : Fin 64 → Fin 512 → ℝ) :
    mx (F := Ideal) (up2 d) (up2 T) (up2 PT) (up2 X)
      = up2 fun a e => ∑ j, (if h : a.val < 64 then d ⟨a.val, h⟩ 0 * T ⟨a.val, h⟩ j else PT ⟨a.val - 64, by omega⟩ j) * X j e := by
  refine eq_up2 fun a e => ?_
  pointwise [mx]
  rw [← coe_sum]
  refine Finset.sum_congr rfl fun j _ => ?_
  by_cases h : a.val < 64
  · rw [dif_pos h, dif_pos h, EReal.coe_mul, EReal.coe_mul]; rfl
  · rw [dif_neg h, dif_neg h, EReal.coe_mul]; rfl

/-! ## One chunk -/

theorem xmat_up (v : Fin 64 → Fin 512 → ℝ) (c : Fin 64 → ℝ) (m : Fin 128 → Fin 512 → ℝ) :
    xmat (F := Ideal) (up3 fun _ i e => v i e) (up2 fun i _ => c i) (up2 m)
      = up2 fun i e => v i e - c i * m ⟨i.val, by omega⟩ e := by
  refine eq_up2 fun a e => ?_
  pointwise [xmat]
  rw [up2_apply, up2_apply, up3_apply, ← EReal.coe_mul, ← EReal.coe_sub]

theorem dcol_up (l : ℝ) (g r : Fin 64 → ℝ) :
    dcol (F := Ideal) (up2 fun _ _ => l) (up2 fun i _ => g i) (up2 fun i _ => r i) = up2 fun i _ => Real.exp (l - g i) * r i := by
  refine eq_up2 fun a e => ?_
  pointwise [dcol]
  rw [up2_apply, up2_apply, up2_apply, ← EReal.coe_sub, Ideal.exp_coe, ← EReal.coe_mul]

theorem oOf_up (a : Fin 64 → ℝ) (m n : Fin 128 → Fin 512 → ℝ) :
    oOf (F := Ideal) (up2 fun i _ => a i) (up2 m) (up2 n) = up2 fun i e => a i * m ⟨64 + i.val, by omega⟩ e + n ⟨64 + i.val, by omega⟩ e := by
  refine eq_up2 fun b e => ?_
  pointwise [oOf]
  rw [up2_apply, up2_apply, up2_apply, ← EReal.coe_mul, ← EReal.coe_add]

theorem dvOf_up (m : Fin 128 → Fin 512 → ℝ) : dvOf (F := Ideal) (up2 m) = up2 fun i e => m ⟨i.val, by omega⟩ e := by
  refine eq_up2 fun b e => ?_
  pointwise [dvOf]
  rw [up2_apply]

theorem sOf_up (l : ℝ) (S u : Fin 256 → Fin 512 → ℝ) :
    sOf (F := Ideal) (up2 fun _ _ => l) (up2 S) (up2 u) = up2 fun d e => Real.exp l * S d e + u d e := by
  refine eq_up2 fun b e => ?_
  pointwise [sOf]
  rw [up2_apply, up2_apply, up2_apply, Ideal.exp_coe, ← EReal.coe_mul, ← EReal.coe_add]

section
variable {K Q : Fin 128 → Fin 256 → ℝ} {G B : Fin 128 → ℝ} (hK : ∀ t d, |K t d| < 2 ^ (128 : ℤ)) (hQ : ∀ t d, |Q t d| < 2 ^ (128 : ℤ))
  (v : Fin 64 → Fin 512 → ℝ) (S : Fin 256 → Fin 512 → ℝ) (c : Fin 2)

/-- The products of a chunk's codes with the state. -/
def ksr (K Q : Fin 128 → Fin 256 → ℝ) (S : Fin 256 → Fin 512 → ℝ) (c : Fin 2) : FVec Ideal S128x512 .f32 :=
  ksqs (up2 (ch (code2 K) c)) (up2 (ch (code2 Q) c)) (up2 S)

/-- The products of a chunk with its values. -/
def mxr (K Q : Fin 128 → Fin 256 → ℝ) (G B : Fin 128 → ℝ) (v : Fin 64 → Fin 512 → ℝ) (S : Fin 256 → Fin 512 → ℝ) (c : Fin 2) :
    FVec Ideal S128x512 .f32 :=
  mx (dcol (up2 fun _ _ => gs G (tok c 63)) (up2 fun i _ => ch (gs G) c i) (up2 fun i _ => ch (rs K) c i))
    (up2 fun i j => doubled (am K G B) 5 (tok c i) (tok c j) * B (tok c j)) (up2 fun i j => pt K Q G B (tok c i) (tok c j))
    (xmat (up3 fun _ i e => v i e) (up2 fun i _ => Real.exp (gs G (tok c i)) * rs K (tok c i)) (ksr K Q S c))

theorem ksr_eq : ksr K Q S c = up2 fun a e => ∑ d, (if h : a.val < 64 then Spec.code (ch K c) ⟨a.val, h⟩ d
      else Spec.code (ch Q c) ⟨a.val - 64, by omega⟩ d) * S d e := by
  have e : ∀ K : Fin 128 → Fin 256 → ℝ, ch (code2 K) c = Spec.code (ch K c) := fun K => by
    funext i d; exact code2_tok K c i d
  rw [ksr, e, e, ksqs_apply]

theorem ksr_x : xmat (F := Ideal) (up3 fun _ i e => v i e) (up2 fun i _ => Real.exp (gs G (tok c i)) * rs K (tok c i)) (ksr K Q S c)
    = up2 (Spec.xmat (ch K c) v (ch G c) S) := by
  rw [ksr_eq, xmat_up]
  congr 1
  funext i e
  have h : ∀ d, (if h : i.val < 64 then Spec.code (ch K c) ⟨i.val, h⟩ d else Spec.code (ch Q c) ⟨i.val - 64, by omega⟩ d)
      = Spec.code (ch K c) i d := fun d => dif_pos i.isLt
  simp only [h, gs_tok, rs_tok, Spec.xmat]

theorem mxr_eq : mxr K Q G B v S c = up2 fun a e => ∑ j, (if h : a.val < 64 then
        Real.exp (Spec.gsum (ch G c) 63 - Spec.gsum (ch G c) ⟨a.val, h⟩) * (Spec.rn (ch K c) ⟨a.val, h⟩ * Spec.sc (ch K c))
          * (Spec.tmat (ch K c) (ch G c) (ch B c) ⟨a.val, h⟩ j * ch B c j)
      else ∑ l, Spec.pmat (ch K c) (ch Q c) (ch G c) ⟨a.val - 64, by omega⟩ l * (Spec.tmat (ch K c) (ch G c) (ch B c) l j * ch B c j))
        * Spec.xmat (ch K c) v (ch G c) S j e := by
  rw [mxr, ksr_x, dcol_up, mx_apply]
  simp only [ch, gs_tok, rs_tok, tm_tok, pt_tok]

/-- A chunk's output. -/
theorem chunk_out : oOf (up2 fun i _ => Real.exp (gs G (tok c i)) * (rs Q (tok c i) * (1 / 16))) (ksr K Q S c) (mxr K Q G B v S c)
    = up2 (Spec.out (ch K c) (ch Q c) v (ch G c) (ch B c) S) := by
  rw [mxr_eq, ksr_eq, oOf_up]
  congr 1
  funext i e
  rw [← Spec.out_eq]
  have h1 : ¬ 64 + i.val < 64 := by omega
  have h2 : ∀ p, (⟨64 + i.val - 64, p⟩ : Fin 64) = i := fun p => Fin.ext (by show 64 + i.val - 64 = i.val; omega)
  simp only [h1, dif_neg, not_false_eq_true, h2, gs_tok, rs_tok]

/-- The state after a chunk. -/
theorem chunk_next : sOf (up2 fun _ _ => gs G (tok c 63)) (up2 S) (upd (up2 (ch (code2 K) c)) (dvOf (mxr K Q G B v S c)))
    = up2 (Spec.next (ch K c) v (ch G c) (ch B c) S) := by
  rw [mxr_eq, dvOf_up, upd_apply, sOf_up]
  congr 1
  funext d e
  rw [← Spec.next_eq]
  have h1 : ∀ i : Fin 64, i.val < 64 := fun i => i.isLt
  simp only [h1, dif_pos, gs_tok, ch, code2_tok]

/-! ## Cutting the chunk out of the row -/

theorem cutC_0 (f : Fin 128 → Fin 256 → ℝ) (φ : FTy) : extractStridedSlice S64x256 ![0, 0] (up2 f : FVec Ideal S128x256 φ) slices_S128x256_o0_0_S64x256
    = up2 (ch f 0) := by
  refine eq_up2 fun a b => ?_
  pointwise
  exact congrArg (fun t => ((f t b : ℝ) : EReal)) (Fin.ext (by simp [tok]))
theorem cutC_1 (f : Fin 128 → Fin 256 → ℝ) (φ : FTy) : extractStridedSlice S64x256 ![64, 0] (up2 f : FVec Ideal S128x256 φ) slices_S128x256_o64_0_S64x256
    = up2 (ch f 1) := by
  refine eq_up2 fun a b => ?_
  pointwise
  exact congrArg (fun t => ((f t b : ℝ) : EReal)) (Fin.ext (by simp [tok]))
theorem cutR_0 (f : Fin 128 → Fin 1 → ℝ) (φ : FTy) : extractStridedSlice S64x1 ![0, 0] (up2 f : FVec Ideal S128x1 φ) slices_S128x1_o0_0_S64x1
    = up2 (ch f 0) := by
  refine eq_up2 fun a b => ?_
  pointwise
  exact congrArg₂ (fun t u => ((f t u : ℝ) : EReal)) (show _ = tok 0 a from Fin.ext (by simp [tok])) (Subsingleton.elim _ _)
theorem cutR_1 (f : Fin 128 → Fin 1 → ℝ) (φ : FTy) : extractStridedSlice S64x1 ![64, 0] (up2 f : FVec Ideal S128x1 φ) slices_S128x1_o64_0_S64x1
    = up2 (ch f 1) := by
  refine eq_up2 fun a b => ?_
  pointwise
  exact congrArg₂ (fun t u => ((f t u : ℝ) : EReal)) (show _ = tok 1 a from Fin.ext (by simp [tok])) (Subsingleton.elim _ _)

theorem cutM_0 (f : Fin 128 → Fin 128 → ℝ) : extractStridedSlice S64x64 ![0, 0] (up2 f : FVec Ideal S128x128 .f32) slices_S128x128_o0_0_S64x64
    = up2 fun i j => f (tok 0 i) (tok 0 j) := by
  refine eq_up2 fun a b => ?_
  pointwise
  exact congrArg₂ (fun s t => ((f s t : ℝ) : EReal)) (Fin.ext (by simp [tok])) (Fin.ext (by simp [tok]))
theorem cutM_1 (f : Fin 128 → Fin 128 → ℝ) : extractStridedSlice S64x64 ![64, 64] (up2 f : FVec Ideal S128x128 .f32) slices_S128x128_o64_64_S64x64
    = up2 fun i j => f (tok 1 i) (tok 1 j) := by
  refine eq_up2 fun a b => ?_
  pointwise
  exact congrArg₂ (fun s t => ((f s t : ℝ) : EReal)) (Fin.ext (by simp [tok])) (Fin.ext (by simp [tok]))
theorem cutL_0 (f : Fin 128 → Fin 1 → ℝ) : extractStridedSlice S1x1 ![63, 0] (up2 f : FVec Ideal S128x1 .f32) slices_S128x1_o63_0_S1x1
    = up2 fun _ _ => f (tok 0 63) 0 := by
  refine eq_up2 fun a b => ?_
  pointwise
  exact congrArg₂ (fun s t => ((f s t : ℝ) : EReal)) (Fin.ext (by simp [tok])) (Subsingleton.elim _ _)
theorem cutL_1 (f : Fin 128 → Fin 1 → ℝ) : extractStridedSlice S1x1 ![127, 0] (up2 f : FVec Ideal S128x1 .f32) slices_S128x1_o127_0_S1x1
    = up2 fun _ _ => f (tok 1 63) 0 := by
  refine eq_up2 fun a b => ?_
  pointwise
  exact congrArg₂ (fun s t => ((f s t : ℝ) : EReal)) (Fin.ext (by simp [tok])) (Subsingleton.elim _ _)

theorem codesB_up : codesB (F := Ideal) (up2 K) = codes2 (up2 K) := rfl

include hK hQ

theorem o0_up : o0 (F := Ideal) (up2 K) (up2 Q) (up2 fun _ j => G j) (up2 fun _ j => B j) (up3 fun _ i e => v i e) (up2 S)
    = up2 (Spec.out (ch K 0) (ch Q 0) v (ch G 0) (ch B 0) S) := by
  rw [← chunk_out]
  unfold o0 mx0 ksqs0
  rw [codesB_up, codesB_up, codes2_up hK, codes2_up hQ, gcum_up, rnorm_up hK, rnormq_up hQ, exp_up, mulf_up, mulf_up, tmat_up G B hK, ptmat_up G B hK hQ,
    cutM_0, cutM_0, cutL_0]
  erw [cutC_0, cutC_0, cutR_0, cutR_0, cutR_0, cutR_0]
  rfl

theorem s0_up : s0 (F := Ideal) (up2 K) (up2 Q) (up2 fun _ j => G j) (up2 fun _ j => B j) (up3 fun _ i e => v i e) (up2 S)
    = up2 (Spec.next (ch K 0) v (ch G 0) (ch B 0) S) := by
  rw [← chunk_next (Q := Q)]
  unfold s0 mx0 ksqs0
  rw [codesB_up, codesB_up, codes2_up hK, codes2_up hQ, gcum_up, rnorm_up hK, exp_up, mulf_up, tmat_up G B hK, ptmat_up G B hK hQ,
    cutM_0, cutM_0, cutL_0]
  erw [cutC_0, cutC_0, cutR_0, cutR_0, cutR_0]
  rfl

theorem o1_up : o1 (F := Ideal) (up2 K) (up2 Q) (up2 fun _ j => G j) (up2 fun _ j => B j) (up3 fun _ i e => v i e) (up2 S)
    = up2 (Spec.out (ch K 1) (ch Q 1) v (ch G 1) (ch B 1) S) := by
  rw [← chunk_out]
  unfold o1 mx1 ksqs1
  rw [codesB_up, codesB_up, codes2_up hK, codes2_up hQ, gcum_up, rnorm_up hK, rnormq_up hQ, exp_up, mulf_up, mulf_up, tmat_up G B hK, ptmat_up G B hK hQ,
    cutM_1, cutM_1, cutL_1]
  erw [cutC_1, cutC_1, cutR_1, cutR_1, cutR_1, cutR_1]
  rfl

theorem s1_up : s1 (F := Ideal) (up2 K) (up2 Q) (up2 fun _ j => G j) (up2 fun _ j => B j) (up3 fun _ i e => v i e) (up2 S)
    = up2 (Spec.next (ch K 1) v (ch G 1) (ch B 1) S) := by
  rw [← chunk_next (Q := Q)]
  unfold s1 mx1 ksqs1
  rw [codesB_up, codesB_up, codes2_up hK, codes2_up hQ, gcum_up, rnorm_up hK, exp_up, mulf_up, tmat_up G B hK, ptmat_up G B hK hQ,
    cutM_1, cutM_1, cutL_1]
  erw [cutC_1, cutC_1, cutR_1, cutR_1, cutR_1]
  rfl
end

end Cert.KernelIdeal.Row

end
-- ==== Proof.RefValue.lean ====
/- The reference's values on real inputs, chunk by chunk, up to its loop over chunks: they are those of `Spec.lean`. -/
module

public import proofs.«01_k».proof.Proof.Gen.ReferenceIdeal.Frame
public import proofs.«01_k».proof.Proof.Quant
public import proofs.«01_k».proof.Proof.Inverse

@[expose] public section

noncomputable section

namespace Cert.ReferenceIdeal.Ref

open Cert Cert.Up Cert.Quant Cert.Inverse Idealize.ShloMosaic Cert.ReferenceIdeal Cert.ReferenceIdeal.Gen

/-! ## The quantiser -/

variable (K Q : Fin 192 → Fin 64 → Fin 256 → ℝ) (V : Fin 192 → Fin 64 → Fin 512 → ℝ) (G B : Fin 192 → Fin 64 → ℝ)
variable (hK : ∀ m i d, |K m i d| < 2 ^ (128 : ℤ)) (hQ : ∀ m i d, |Q m i d| < 2 ^ (128 : ℤ))

theorem pay3_up : k0_pay3 (F := Ideal) (up3 (φ := .bf16) K) = up3 K := by
  refine eq_up3 fun m i d => ?_
  pointwise [k0_pay3]
  rfl

theorem pay7_up : k0_pay7 (F := Ideal) (up3 (φ := .bf16) K) = up2 fun m _ => Spec.amax (K m) := by
  refine eq_up2 fun m b => ?_
  pointwise [k0_pay7, k0_pay4]
  simp only [up3_apply, abs_coe, w_bot]
  exact fold_max (fun i d => |K m i d|) _ (amax_attained (K m)) (le_amax (K m))

include hK in
theorem pay8_up : k0_pay8 (F := Ideal) (k0_pay7 (up3 (φ := .bf16) K)) = up2 fun m _ => Spec.sc (K m) := by
  rw [pay7_up]
  refine eq_up2 fun m b => ?_
  pointwise [k0_pay8]
  obtain ⟨h0, h⟩ := quotient_lt (K m) (hK m)
  simp only [up2_apply, w_c448, w_tiny, w_one, w_top, exp2_word, ← EReal.coe_mul]
  by_cases ht : Spec.amax (K m) * Spec.c448 < 2 ^ (-126 : ℤ)
  · rw [if_pos (EReal.coe_lt_coe_iff.mpr ht), Spec.sc, Spec.expo, if_pos ht, zpow_zero]
    rfl
  · rw [if_neg fun h' => ht (EReal.coe_lt_coe_iff.mp h'), least_power ht h]
    rfl

include hK in
theorem pay9_up : k0_pay9 (F := Ideal) (up3 K) (k0_pay7 (up3 (φ := .bf16) K)) = up3 fun m => Spec.code (K m) := by
  refine eq_up3 fun m i d => ?_
  unfold k0_pay9
  rw [pay8_up K hK]
  pointwise
  simp only [up2_apply, up3_apply, w_448, w_neg448, w_one]
  rw [Ideal.div_coe (sc_pos (K m)).ne', one_mul, ← EReal.coe_mul, clip_coe, one_div]
  rfl

include hK in
theorem pay5_up : k0_pay5 (F := Ideal) (up3 (φ := .bf16) K) = up2 fun m _ => Spec.sc (K m) := pay8_up K hK
include hK in
theorem pay6_up : k0_pay6 (F := Ideal) (up3 (φ := .bf16) K) = up3 fun m => Spec.code (K m) := by
  have h : k0_pay6 (F := Ideal) (up3 (φ := .bf16) K) = k0_pay9 (k0_pay4 (up3 (φ := .bf16) K)) (k0_pay7 (up3 (φ := .bf16) K)) := by
    with_unfolding_all rfl
  rw [h]
  exact (congrArg (fun y => k0_pay9 (F := Ideal) y _) (pay3_up K)).trans (pay9_up K hK)

/-! ## Norms, keys, queries -/

theorem pay39_up (s : Fin 192 → ℝ) : k0_pay39 (F := Ideal) (up2 fun m _ => s m) = up3 fun m _ _ => s m := by
  refine eq_up3 fun m i d => ?_
  pointwise [k0_pay39]
  rfl

theorem pay41_up : k0_pay41 (F := Ideal) (up3 K) = up2 fun m i => Spec.rn (K m) i := by
  refine eq_up2 fun m i => ?_
  pointwise [k0_pay41]
  simp only [up3_apply, w_one, w_eps, ← EReal.coe_mul, coe_sum, zero_add, ← EReal.coe_add]
  have h : 0 < ∑ d, K m i d * K m i d + Spec.eps := by
    have h1 : 0 ≤ ∑ d, K m i d * K m i d := Finset.sum_nonneg fun d _ => mul_self_nonneg _
    have h2 : 0 < Spec.eps := by unfold Spec.eps; norm_num
    linarith
  rw [Ideal.sqrt_coe, if_neg (not_lt.mpr h.le), Ideal.div_coe (Real.sqrt_pos.mpr h).ne', one_mul, one_div]
  rfl

theorem pay43_up : k0_pay43 (F := Ideal) (up3 K) (up2 fun m _ => Spec.sc (K m)) (up3 fun m => Spec.code (K m))
    = up3 fun m => Spec.kn (K m) := by
  refine eq_up3 fun m i d => ?_
  unfold k0_pay43
  rw [pay39_up, pay41_up]
  pointwise
  simp only [up2_apply, up3_apply, ← EReal.coe_mul]
  rfl

theorem pay46_up : k0_pay46 (F := Ideal) (k0_pay44 (up3 Q) (up2 fun m _ => Spec.sc (Q m)) (up3 fun m => Spec.code (Q m))) k0_pay45
    = up3 fun m => Spec.qn (Q m) := by
  refine eq_up3 fun m i d => ?_
  have h : k0_pay44 (F := Ideal) (up3 Q) (up2 fun m _ => Spec.sc (Q m)) (up3 fun m => Spec.code (Q m))
      = up3 fun m => Spec.kn (Q m) := pay43_up Q
  rw [h]
  pointwise [k0_pay46, k0_pay45]
  simp only [up3_apply, w_sixteenth, ← EReal.coe_mul]
  rfl

/-! ## Masks -/

theorem ge_word : ∀ a b : Fin 64, IntOp.cmpi .sge (BitVec.ofNat 32 a.val) (BitVec.ofNat 32 b.val) = if b ≤ a then 1#1 else 0#1 := by
  decide +kernel
theorem gt_word : ∀ a b : Fin 64, IntOp.cmpi .sgt (BitVec.ofNat 32 a.val) (BitVec.ofNat 32 b.val) = if b < a then 1#1 else 0#1 := by
  decide +kernel
theorem eq_word : ∀ a b : Fin 64, IntOp.cmpi .eq (BitVec.ofNat 32 a.val) (BitVec.ofNat 32 b.val) = if a = b then 1#1 else 0#1 := by
  decide +kernel

theorem pay47_apply (m : Fin 192) (i j : Fin 64) : k0_pay47 (ix3 m i j) = if j ≤ i then 1#1 else 0#1 := by
  pointwise [k0_pay47]
  exact ge_word i j
theorem pay48_apply (m : Fin 192) (i j : Fin 64) : k0_pay48 (ix3 m i j) = if j < i then 1#1 else 0#1 := by
  pointwise [k0_pay48]
  exact gt_word i j

theorem pick {p : Prop} [Decidable p] (a b : EReal) : Scalar.select (if p then 1#1 else 0#1) a b = if p then a else b := by
  by_cases h : p
  · rw [if_pos h, if_pos h]; rfl
  · rw [if_neg h, if_neg h]; rfl

theorem coe_if {p : Prop} [Decidable p] (a b : ℝ) : (if p then (a : EReal) else (b : EReal)) = ((if p then a else b : ℝ) : EReal) := by
  split <;> rfl

theorem zero_word : Ideal.ofBits .f32 0#32 = ((0 : ℝ) : EReal) := by simp [Ideal.ofBits, Ideal.ieee]

/-! ## Gates, decays, products -/

theorem pay50_up : k0_pay50 (F := Ideal) (up2 (φ := .f32) G) = up2 fun m i => Spec.gsum (G m) i := by
  refine eq_up2 fun m i => ?_
  pointwise [k0_pay50]
  simp only [pay47_apply, pick, up2_apply, zero_add]
  simp only [← EReal.coe_zero, coe_if, coe_sum]
  rfl

theorem pay51_up : k0_pay51 (F := Ideal) (up3 fun m => Spec.code (K m)) (up3 fun m _ _ => Spec.sc (K m)) (up2 fun m i => Spec.rn (K m) i)
    = up3 fun m => Spec.kk (K m) := by
  refine eq_up3 fun m i j => ?_
  pointwise [k0_pay51]
  simp only [up3_apply, up2_apply, ← EReal.coe_mul, coe_sum, zero_add]
  rfl

theorem pay52_up : k0_pay52 (F := Ideal) (up3 fun m => Spec.code (K m)) (up3 fun m => Spec.code (Q m)) (up3 fun m _ _ => Spec.sc (K m))
      (up3 fun m _ _ => Spec.sc (Q m)) (up2 fun m i => Spec.rn (K m) i) (up2 fun m i => Spec.rn (Q m) i)
    = up3 fun m => Spec.qk (K m) (Q m) := by
  refine eq_up3 fun m i j => ?_
  pointwise [k0_pay52]
  simp only [up3_apply, up2_apply, w_sixteenth, ← EReal.coe_mul, coe_sum, zero_add]
  rfl

theorem pay53_up : k0_pay53 (F := Ideal) (up2 (φ := .f32) G) = up3 fun m => Spec.decay (G m) := by
  refine eq_up3 fun m i j => ?_
  unfold k0_pay53
  rw [pay50_up]
  pointwise
  simp only [pay47_apply, pick, up2_apply, ← EReal.coe_sub]
  simp only [← EReal.coe_zero, coe_if, Ideal.exp_coe]
  rw [Spec.decay]

theorem pay55_up : k0_pay55 (F := Ideal) k0_pay48 (up3 fun m => Spec.kk (K m)) (up3 fun m => Spec.decay (G m)) (k0_pay54 (up2 (φ := .f32) B))
    = up3 fun m => Spec.amat (K m) (G m) (B m) := by
  refine eq_up3 fun m i j => ?_
  pointwise [k0_pay55, k0_pay54, k0_pay49]
  simp only [pay48_apply, pick, up2_apply, up3_apply, ← EReal.coe_mul]
  simp only [← EReal.coe_zero, coe_if]
  rfl

theorem pay56_up : k0_pay56 (F := Ideal) k0_pay47 (up3 fun m => Spec.qk (K m) (Q m)) (up3 fun m => Spec.decay (G m))
    = up3 fun m => Spec.pmat (K m) (Q m) (G m) := by
  refine eq_up3 fun m i j => ?_
  pointwise [k0_pay56]
  simp only [pay47_apply, pick, up3_apply, ← EReal.coe_mul]
  simp only [← EReal.coe_zero, coe_if]
  rfl

/-! ## The inverse by sweeps -/

/-- The entries of a family of matrices. -/
def ents (A : Fin 192 → Matrix (Fin 64) (Fin 64) ℝ) : Fin 192 → Fin 64 → Fin 64 → ℝ := A

theorem pay57_up : k0_pay57 (F := Ideal) (iota .tc S192x64x64 32 [1] iota_S192x64x64_d1_w32) (iota .tc S192x64x64 32 [2] iota_S192x64x64_d2_w32)
    = up3 (ents fun _ => 1) := by
  refine eq_up3 fun m i j => ?_
  pointwise [k0_pay57]
  rw [eq_word]
  by_cases h : i = j
  · subst h
    rw [if_pos rfl, ents, Matrix.one_apply_eq]
    show ((((BitVec.setWidth 32 1#1).toInt : ℝ)) : EReal) = _
    norm_num
  · rw [if_neg h, ents, Matrix.one_apply_ne h]
    show ((((BitVec.setWidth 32 0#1).toInt : ℝ)) : EReal) = _
    norm_num

/-- Sweeps from a given matrix. -/
def sweeps {F : FTy → Type} [FloatOps F] (A E T : FVec F S192x64x64 .f32) : ℕ → FVec F S192x64x64 .f32
  | 0 => T
  | n + 1 => subf E (matmul dot_S192x64x64_S192x64x64_S192x64x64_2_1_1_2_0_0 (some .fp32) A (sweeps A E T n) (constant S192x64x64 .f32 0x00000000#32))

theorem sweeps_up (A : Fin 192 → Matrix (Fin 64) (Fin 64) ℝ) (k n : ℕ) :
    sweeps (F := Ideal) (up3 (ents A)) (up3 (ents fun _ => 1)) (up3 (ents fun m => sweep (A m) k)) n
      = up3 (ents fun m => sweep (A m) (k + n)) := by
  induction n with
  | zero => rfl
  | succ n ih =>
    rw [sweeps, ih]
    refine eq_up3 fun m i j => ?_
    pointwise
    simp only [up3_apply, ← EReal.coe_mul, coe_sum, zero_add, ← EReal.coe_sub]
    rfl

theorem lower_amat (k : Fin 64 → Fin 256 → ℝ) (g b : Fin 64 → ℝ) : Lower (Spec.amat k g b) := fun i j h => if_neg h

theorem tmat_up (A E I1 I2 C KK D BB) (hA : A = up3 (ents fun m => Spec.amat (K m) (G m) (B m)))
    (hE : E = up3 (ents fun _ => 1)) (hA' : k0_pay55 (F := Ideal) C KK D BB = A) (hE' : k0_pay57 I1 I2 = E) :
    k0_pay61 (F := Ideal) A E (k0_pay60 A E (k0_pay59 A E (k0_pay58 I1 I2 C KK D BB))) = up3 (ents fun m => Spec.tmat (K m) (G m) (B m)) := by
  have h58 : k0_pay58 (F := Ideal) I1 I2 C KK D BB = sweeps A E E 16 := by rw [← hA', ← hE']; rfl
  have h59 : ∀ T, k0_pay59 (F := Ideal) A E T = sweeps A E T 20 := fun T => rfl
  have h60 : ∀ T, k0_pay60 (F := Ideal) A E T = sweeps A E T 20 := fun T => rfl
  have h61 : ∀ T, k0_pay61 (F := Ideal) A E T = sweeps A E T 8 := fun T => rfl
  rw [h61, h60, h59, h58, hA, hE]
  have h0 : (up3 (ents fun _ => 1) : FVec Ideal S192x64x64 .f32) = up3 (ents fun m => sweep (Spec.amat (K m) (G m) (B m)) 0) := rfl
  conv_lhs => arg 3; arg 3; arg 3; arg 3; rw [h0]
  rw [sweeps_up (fun m => Spec.amat (K m) (G m) (B m)), sweeps_up (fun m => Spec.amat (K m) (G m) (B m)),
    sweeps_up (fun m => Spec.amat (K m) (G m) (B m)), sweeps_up (fun m => Spec.amat (K m) (G m) (B m))]
  congr 1
  funext m
  exact sweep_eq (lower_amat (K m) (G m) (B m)) (by norm_num)

end Cert.ReferenceIdeal.Ref

end
-- ==== Proof.RefLoop.lean ====
/- The reference's loop over chunks on real inputs: the state after each chunk, and each chunk's output. -/
module

public import proofs.«01_k».proof.Proof.RefValue

@[expose] public section

noncomputable section

namespace Cert.ReferenceIdeal.Ref

open Cert Cert.Up Cert.Quant Cert.Inverse Idealize.ShloMosaic Cert.ReferenceIdeal Cert.ReferenceIdeal.Gen

/-! ## One chunk of the loop, over every row -/

section
variable {F : FTy → Type} [FloatOps F]
variable (n : Fin 16)
variable (hu : S12x16x64x512.Slices ![0, n.val, 0, 0] S12x1x64x512) (hw : S12x16x64x256.Slices ![0, n.val, 0, 0] S12x1x64x256)
variable (hp : S12x16x64x64.Slices ![0, n.val, 0, 0] S12x1x64x64) (hd : S12x16x1x1.Slices ![0, n.val, 0, 0] S12x1x1x1)
variable (w qg kd : FVec F S12x16x64x256 .f32) (u : FVec F S12x16x64x512 .f32) (P : FVec F S12x16x64x64 .f32) (dl : FVec F S12x16x1x1 .f32)
variable (S : FVec F S12x256x512 .f32)

/-- The chunk's new values. -/
def vnewOf : FVec F S12x64x512 .f32 :=
  subf (shapeCast S12x64x512 (extractStridedSlice S12x1x64x512 ![0, n.val, 0, 0] u hu) shapeCasts_S12x1x64x512_S12x64x512)
    (matmul dot_S12x64x256_S12x256x512_S12x64x512_2_1_1_2_0_0 (some .fp32)
      (shapeCast S12x64x256 (extractStridedSlice S12x1x64x256 ![0, n.val, 0, 0] w hw) shapeCasts_S12x1x64x256_S12x64x256) S
      (constant S12x64x512 .f32 0x00000000#32))

/-- The chunk's output. -/
def outOf : FVec F S12x64x512 .bf16 :=
  truncf .bf16 (addf
    (matmul dot_S12x64x256_S12x256x512_S12x64x512_2_1_1_2_0_0 (some .fp32)
      (shapeCast S12x64x256 (extractStridedSlice S12x1x64x256 ![0, n.val, 0, 0] qg hw) shapeCasts_S12x1x64x256_S12x64x256) S
      (constant S12x64x512 .f32 0x00000000#32))
    (matmul dot_S12x64x64_S12x64x512_S12x64x512_2_1_1_2_0_0 (some .fp32)
      (shapeCast S12x64x64 (extractStridedSlice S12x1x64x64 ![0, n.val, 0, 0] P hp) shapeCasts_S12x1x64x64_S12x64x64)
      (vnewOf n hu hw w u S) (constant S12x64x512 .f32 0x00000000#32))) bitsLt_bf16_f32

/-- The state after the chunk. -/
def nextOf : FVec F S12x256x512 .f32 :=
  addf (mulf (broadcastTo S12x256x512 (shapeCast S12x1x1 (extractStridedSlice S12x1x1x1 ![0, n.val, 0, 0] dl hd)
      shapeCasts_S12x1x1x1_S12x1x1) broadcasts_S12x1x1_S12x256x512) S)
    (matmul dot_S12x64x256_S12x64x512_S12x256x512_1_1_2_2_0_0 (some .fp32)
      (shapeCast S12x64x256 (extractStridedSlice S12x1x64x256 ![0, n.val, 0, 0] kd hw) shapeCasts_S12x1x64x256_S12x64x256)
      (vnewOf n hu hw w u S) (constant S12x256x512 .f32 0x00000000#32))

end

/-! ## A chunk of an array -/

section
variable (n : Fin 16)

theorem chunk512 (f : Fin 12 → Fin 16 → Fin 64 → Fin 512 → ℝ) (h : S12x16x64x512.Slices ![0, n.val, 0, 0] S12x1x64x512) :
    shapeCast S12x64x512 (extractStridedSlice S12x1x64x512 ![0, n.val, 0, 0] (up4 (φ := .f32) f) h) shapeCasts_S12x1x64x512_S12x64x512
      = up3 (φ := .f32) fun r i e => f r n i e := by
  refine eq_up3 fun r i e => ?_
  pointwise
  rfl

theorem chunk256 (f : Fin 12 → Fin 16 → Fin 64 → Fin 256 → ℝ) (h : S12x16x64x256.Slices ![0, n.val, 0, 0] S12x1x64x256) :
    shapeCast S12x64x256 (extractStridedSlice S12x1x64x256 ![0, n.val, 0, 0] (up4 (φ := .f32) f) h) shapeCasts_S12x1x64x256_S12x64x256
      = up3 (φ := .f32) fun r i e => f r n i e := by
  refine eq_up3 fun r i e => ?_
  pointwise
  rfl

theorem chunk64 (f : Fin 12 → Fin 16 → Fin 64 → Fin 64 → ℝ) (h : S12x16x64x64.Slices ![0, n.val, 0, 0] S12x1x64x64) :
    shapeCast S12x64x64 (extractStridedSlice S12x1x64x64 ![0, n.val, 0, 0] (up4 (φ := .f32) f) h) shapeCasts_S12x1x64x64_S12x64x64
      = up3 (φ := .f32) fun r i e => f r n i e := by
  refine eq_up3 fun r i e => ?_
  pointwise
  rfl

theorem chunk1 (f : Fin 12 → Fin 16 → ℝ) (h : S12x16x1x1.Slices ![0, n.val, 0, 0] S12x1x1x1) :
    shapeCast S12x1x1 (extractStridedSlice S12x1x1x1 ![0, n.val, 0, 0] (up4 (φ := .f32) fun r m _ _ => f r m) h) shapeCasts_S12x1x1x1_S12x1x1
      = up3 (φ := .f32) fun r _ _ => f r n := by
  refine eq_up3 fun r i e => ?_
  pointwise
  rfl

end

/-! ## The arrays the loop reads -/

/-- A row's chunk among all the chunks. -/
def cix (r : Fin 12) (n : Fin 16) : Fin 192 := ⟨r.val * 16 + n.val, by omega⟩

variable (K Q : Fin 192 → Fin 64 → Fin 256 → ℝ) (V : Fin 192 → Fin 64 → Fin 512 → ℝ) (G B : Fin 192 → Fin 64 → ℝ)
variable (S : Fin 12 → Fin 256 → Fin 512 → ℝ)

theorem pay64_up (T1 T2 T3) (hT : k0_pay61 (F := Ideal) T1 T2 T3 = up3 (ents fun m => Spec.tmat (K m) (G m) (B m))) :
    k0_pay64 (F := Ideal) (up3 fun m => Spec.kn (K m)) (k0_pay49 (up2 (φ := .f32) B)) (up2 fun m i => Spec.gsum (G m) i) T1 T2 T3
      = up4 fun r n => Spec.wmat (K (cix r n)) (G (cix r n)) (B (cix r n)) := by
  refine eq_up4 fun r n i d => ?_
  unfold k0_pay64
  rw [hT]
  pointwise [k0_pay49, k0_pay62]
  simp only [up3_apply, up2_apply, Ideal.exp_coe, ← EReal.coe_mul, coe_sum, zero_add]
  rfl

theorem pay65_up (T1 T2 T3) (hT : k0_pay61 (F := Ideal) T1 T2 T3 = up3 (ents fun m => Spec.tmat (K m) (G m) (B m))) :
    k0_pay65 (F := Ideal) (k0_pay49 (up2 (φ := .f32) B)) T1 T2 T3 (up3 (φ := .bf16) V)
      = up4 fun r n => Spec.umat (K (cix r n)) (V (cix r n)) (G (cix r n)) (B (cix r n)) := by
  refine eq_up4 fun r n i d => ?_
  unfold k0_pay65
  rw [hT]
  pointwise [k0_pay49, k0_pay62]
  simp only [up3_apply, up2_apply, Ideal.exp_coe, ← EReal.coe_mul, coe_sum, zero_add]
  rfl

theorem pay66_up : k0_pay66 (F := Ideal) (up3 fun m => Spec.qn (Q m)) (up2 fun m i => Spec.gsum (G m) i)
      = up4 fun r n i d => Real.exp (Spec.gsum (G (cix r n)) i) * Spec.qn (Q (cix r n)) i d := by
  refine eq_up4 fun r n i d => ?_
  pointwise [k0_pay66, k0_pay62]
  simp only [up3_apply, up2_apply, Ideal.exp_coe, ← EReal.coe_mul]
  rfl

theorem pay67_up : k0_pay67 (F := Ideal) (up3 fun m => Spec.kn (K m)) (up2 fun m i => Spec.gsum (G m) i)
      = up4 fun r n i d => Real.exp (Spec.gsum (G (cix r n)) 63 - Spec.gsum (G (cix r n)) i) * Spec.kn (K (cix r n)) i d := by
  refine eq_up4 fun r n i d => ?_
  pointwise [k0_pay67, k0_pay63]
  simp only [up3_apply, up2_apply, ← EReal.coe_sub, Ideal.exp_coe, ← EReal.coe_mul]
  rfl

theorem pay68_up : k0_pay68 (F := Ideal) (up3 fun m => Spec.pmat (K m) (Q m) (G m))
      = up4 fun r n => Spec.pmat (K (cix r n)) (Q (cix r n)) (G (cix r n)) := by
  refine eq_up4 fun r n i d => ?_
  pointwise [k0_pay68]
  rfl

theorem pay69_up : k0_pay69 (F := Ideal) (up2 fun m i => Spec.gsum (G m) i)
      = up4 fun r n _ _ => Real.exp (Spec.gsum (G (cix r n)) 63) := by
  refine eq_up4 fun r n i d => ?_
  pointwise [k0_pay69, k0_pay63]
  simp only [up3_apply, up2_apply, Ideal.exp_coe]
  rfl

/-! ## The loop -/

/-- The state of every row after some chunks. -/
def st (n : ℕ) (r : Fin 12) : Fin 256 → Fin 512 → ℝ :=
  Spec.state (fun m => K (cix r (Fin.ofNat 16 m))) (fun m => V (cix r (Fin.ofNat 16 m))) (fun m => G (cix r (Fin.ofNat 16 m)))
    (fun m => B (cix r (Fin.ofNat 16 m))) (S r) n

abbrev wA : FVec Ideal S12x16x64x256 .f32 := up4 fun r n => Spec.wmat (K (cix r n)) (G (cix r n)) (B (cix r n))
abbrev uA : FVec Ideal S12x16x64x512 .f32 := up4 fun r n => Spec.umat (K (cix r n)) (V (cix r n)) (G (cix r n)) (B (cix r n))
abbrev qA : FVec Ideal S12x16x64x256 .f32 := up4 fun r n i d => Real.exp (Spec.gsum (G (cix r n)) i) * Spec.qn (Q (cix r n)) i d
abbrev kA : FVec Ideal S12x16x64x256 .f32 :=
  up4 fun r n i d => Real.exp (Spec.gsum (G (cix r n)) 63 - Spec.gsum (G (cix r n)) i) * Spec.kn (K (cix r n)) i d
abbrev pA : FVec Ideal S12x16x64x64 .f32 := up4 fun r n => Spec.pmat (K (cix r n)) (Q (cix r n)) (G (cix r n))
abbrev dA : FVec Ideal S12x16x1x1 .f32 := up4 fun r n _ _ => Real.exp (Spec.gsum (G (cix r n)) 63)

variable (n : Fin 16)
variable (hu : S12x16x64x512.Slices ![0, n.val, 0, 0] S12x1x64x512) (hw : S12x16x64x256.Slices ![0, n.val, 0, 0] S12x1x64x256)
variable (hp : S12x16x64x64.Slices ![0, n.val, 0, 0] S12x1x64x64) (hd : S12x16x1x1.Slices ![0, n.val, 0, 0] S12x1x1x1)

theorem vnewOf_up (s : Fin 12 → Fin 256 → Fin 512 → ℝ) : vnewOf n hu hw (wA K G B) (uA K V G B) (up3 s)
    = up3 fun r => Spec.vnew (K (cix r n)) (V (cix r n)) (G (cix r n)) (B (cix r n)) (s r) := by
  unfold vnewOf
  rw [chunk512, chunk256]
  refine eq_up3 fun r i e => ?_
  pointwise
  simp only [up3_apply, ← EReal.coe_mul, coe_sum, zero_add, ← EReal.coe_sub]
  rfl

theorem outOf_up (s : Fin 12 → Fin 256 → Fin 512 → ℝ) : outOf n hu hw hp (wA K G B) (qA Q G) (uA K V G B) (pA K Q G) (up3 s)
    = up3 fun r => Spec.out (K (cix r n)) (Q (cix r n)) (V (cix r n)) (G (cix r n)) (B (cix r n)) (s r) := by
  unfold outOf
  rw [vnewOf_up, chunk64, chunk256]
  refine eq_up3 fun r i e => ?_
  pointwise
  simp only [up3_apply, ← EReal.coe_mul, coe_sum, zero_add, ← EReal.coe_add]
  rfl

theorem nextOf_up (s : Fin 12 → Fin 256 → Fin 512 → ℝ) : nextOf n hu hw hd (wA K G B) (kA K G) (uA K V G B) (dA G) (up3 s)
    = up3 fun r => Spec.next (K (cix r n)) (V (cix r n)) (G (cix r n)) (B (cix r n)) (s r) := by
  unfold nextOf
  rw [vnewOf_up, chunk256, chunk1]
  refine eq_up3 fun r i e => ?_
  pointwise
  simp only [up3_apply, ← EReal.coe_mul, coe_sum, zero_add, ← EReal.coe_add]
  rfl

theorem nextOf_st : nextOf n hu hw hd (wA K G B) (kA K G) (uA K V G B) (dA G) (up3 (st K V G B S n.val)) = up3 (st K V G B S (n.val + 1)) := by
  rw [nextOf_up]
  congr 1
  funext r
  have h : Fin.ofNat 16 n.val = n := Fin.ext (Nat.mod_eq_of_lt n.isLt)
  show _ = Spec.next _ _ _ _ _
  simp only [h]
  rfl

end Cert.ReferenceIdeal.Ref

end
-- ==== Proof.RefOut.lean ====
/- The reference's six results on real inputs: the quantiser's codes and scales, each chunk's output, the last state. -/
module

public import proofs.«01_k».proof.Proof.RefLoop
public import proofs.«01_k».proof.Proof.Step

@[expose] public section

noncomputable section

namespace Cert.ReferenceIdeal.Ref

open Cert Cert.Up Cert.Quant Cert.Inverse Idealize.ShloMosaic Cert.ReferenceIdeal Cert.ReferenceIdeal.Gen
open Idealize.ShloMosaic.View (Piece PiecesOf)

/-! ## The results, by row and token -/

section
variable (K Q : Fin 192 → Fin 64 → Fin 256 → ℝ) (V : Fin 192 → Fin 64 → Fin 512 → ℝ) (G B : Fin 192 → Fin 64 → ℝ)
variable (S : Fin 12 → Fin 256 → Fin 512 → ℝ)

/-- A token's chunk, and its place there. -/
def cOf (t : Fin 1024) : Fin 16 := ⟨t.val / 64, by omega⟩
def iOf (t : Fin 1024) : Fin 64 := ⟨t.val % 64, by omega⟩

/-- The output. -/
def outT (r : Fin 12) (t : Fin 1024) (e : Fin 512) : ℝ :=
  Spec.out (K (cix r (cOf t))) (Q (cix r (cOf t))) (V (cix r (cOf t))) (G (cix r (cOf t))) (B (cix r (cOf t)))
    (st K V G B S (cOf t).val r) (iOf t) e
/-- The codes. -/
def codeT (r : Fin 12) (t : Fin 1024) (d : Fin 256) : ℝ := Spec.code (K (cix r (cOf t))) (iOf t) d
/-- The scales, by head, sequence and chunk. -/
def scaleT (a : Fin 6) (b : Fin 2) (n : Fin 16) : ℝ := Spec.sc (K (cix ⟨b.val * 6 + a.val, by omega⟩ n))

theorem outT_place (n : Fin 16) (hin) (x : S12x64x512.Idx) :
    (up3 fun r => Spec.out (K (cix r n)) (Q (cix r n)) (V (cix r n)) (G (cix r n)) (B (cix r n)) (st K V G B S n.val r) :
        FVec Ideal S12x64x512 .bf16) x
      = up3 (φ := .bf16) (outT K Q V G B S) ((Rect.unit (s := S12x1024x512) ![0, 64 * n.val, 0] S12x64x512.size hin).emb x) := by
  obtain ⟨r, t, e, rfl⟩ : ∃ (r : Fin 12) (t : Fin 64) (e : Fin 512), x = ix3 r t e := ⟨x 0, x 1, x 2, ValueIdx.eq_ix3 x⟩
  have c : cOf ⟨64 * n.val + t.val, by omega⟩ = n := Fin.ext (show (64 * n.val + t.val) / 64 = n.val by omega)
  have i : iOf ⟨64 * n.val + t.val, by omega⟩ = t := Fin.ext (show (64 * n.val + t.val) % 64 = t.val by omega)
  rw [Cert.KernelIdeal.Step.emb3 hin (ix3 r t e) (ix3 r ⟨64 * n.val + t.val, by omega⟩ e) (by show r.val = 0 + r.val; omega) rfl
    (by show e.val = 0 + e.val; omega), up3_apply, up3_apply]
  unfold outT
  rw [c, i]

theorem pay10_up : k0_pay10 (F := Ideal) (up3 fun m => Spec.code (K m)) = up3 (φ := .fp8e4m3) (codeT K) := by
  refine eq_up3 fun r t d => ?_
  pointwise [k0_pay10]
  rfl

/-- A row's scales. -/
def laneOf {F : FTy → Type} [FloatOps F] (o : ℕ) (h : S192x1.Slices ![o, 0] S16x1) (v : FVec F S192x1 .f32) : FVec F S1x1x16 .f32 :=
  shapeCast S1x1x16 (shapeCast S16 (extractStridedSlice S16x1 ![o, 0] v h) shapeCasts_S16x1_S16) shapeCasts_S16_S1x1x16

theorem lane_place {K : Fin 192 → Fin 64 → Fin 256 → ℝ} (r : Fin 12) {v : FVec Ideal S192x1 .f32} (hv : v = up2 fun m _ => Spec.sc (K m))
    {p q : ℕ} (hin) {o : ℕ} (hs : S192x1.Slices ![o, 0] S16x1) (f : FVec Ideal S192x1 .f32 → FVec Ideal S1x1x16 .f32)
    (hf : f = laneOf o hs) (ho : o = 16 * r.val)
    (hp : p = r.val % 6) (hq : q = r.val / 6) (x : S1x1x16.Idx) :
    f v x = up3 (φ := .f32) (scaleT K) ((Rect.unit (s := S6x2x16) ![p, q, 0] S1x1x16.size hin).emb x) := by
  subst hf hv ho hp hq
  obtain ⟨a, b, n, rfl⟩ : ∃ (a b : Fin 1) (n : Fin 16), x = ix3 a b n := ⟨x 0, x 1, x 2, ValueIdx.eq_ix3 x⟩
  rw [Cert.KernelIdeal.Step.emb3 hin (ix3 a b n) (ix3 ⟨r.val % 6, by omega⟩ ⟨r.val / 6, by omega⟩ n)
    (by show r.val % 6 = r.val % 6 + a.val; omega) (by show r.val / 6 = r.val / 6 + b.val; omega)
    (by show n.val = 0 + n.val; omega), up3_apply]
  have e : (⟨r.val / 6 * 6 + r.val % 6, by omega⟩ : Fin 12) = r := Fin.ext (by show r.val / 6 * 6 + r.val % 6 = r.val; omega)
  unfold scaleT
  rw [e]
  pointwise [laneOf]
  rw [up2_apply]
  rw [show (⟨16 * r.val + n.val, by omega⟩ : Fin 192) = cix r n from Fin.ext (show 16 * r.val + n.val = r.val * 16 + n.val by omega)]

theorem lane_piece {K : Fin 192 → Fin 64 → Fin 256 → ℝ} (r : Fin 12) {v : FVec Ideal S192x1 .f32} (hv : v = up2 fun m _ => Spec.sc (K m))
    {p q : ℕ} (hin) {o : ℕ} (hs : S192x1.Slices ![o, 0] S16x1) (f : FVec Ideal S192x1 .f32 → FVec Ideal S1x1x16 .f32)
    (hf : f = laneOf o hs) (ho : o = 16 * r.val) (hp : p = r.val % 6) (hq : q = r.val / 6)
    {L : List (Piece (Elt Ideal) S6x2x16 .f32)} (hL : PiecesOf (up3 (φ := .f32) (scaleT K)) L) :
    PiecesOf (up3 (φ := .f32) (scaleT K)) (⟨Rect.unit (s := S6x2x16) ![p, q, 0] S1x1x16.size hin, f v⟩ :: L) :=
  ⟨fun x => lane_place r hv hin hs f hf ho hp hq x, hL⟩

end

/-- The blocks are blocks of reals, the keys and queries below the quantiser's range. -/
structure Ins (x0 x1 : Vec Ideal S192x64x256 .bf16) (x2 : Vec Ideal S192x64x512 .bf16) (x3 x4 : Vec Ideal S192x64 .f32)
    (x5 : Vec Ideal S12x256x512 .f32) (K Q : Fin 192 → Fin 64 → Fin 256 → ℝ) (V : Fin 192 → Fin 64 → Fin 512 → ℝ)
    (G B : Fin 192 → Fin 64 → ℝ) (S : Fin 12 → Fin 256 → Fin 512 → ℝ) : Prop where
  q : x0 = up3 (φ := .bf16) Q
  k : x1 = up3 (φ := .bf16) K
  v : x2 = up3 (φ := .bf16) V
  g : x3 = up2 (φ := .f32) G
  b : x4 = up2 (φ := .f32) B
  s : x5 = up3 (φ := .f32) S
  hK : ∀ m i d, |K m i d| < 2 ^ (128 : ℤ)
  hQ : ∀ m i d, |Q m i d| < 2 ^ (128 : ℤ)

namespace Ins

variable {x0 x1 : Vec Ideal S192x64x256 .bf16} {x2 : Vec Ideal S192x64x512 .bf16} {x3 x4 : Vec Ideal S192x64 .f32}
variable {x5 : Vec Ideal S12x256x512 .f32} {K Q : Fin 192 → Fin 64 → Fin 256 → ℝ} {V : Fin 192 → Fin 64 → Fin 512 → ℝ}
variable {G B : Fin 192 → Fin 64 → ℝ} {S : Fin 12 → Fin 256 → Fin 512 → ℝ} (h : Ins x0 x1 x2 x3 x4 x5 K Q V G B S)
include h

/-! ## The values stated apart -/

theorem l0 : View.ld (Val := Elt Ideal) x0 r0_0 = up3 (φ := .bf16) Q := (View.ld_unit_zero (by decide) _ _).trans h.q
theorem l1 : View.ld (Val := Elt Ideal) x1 r0_0 = up3 (φ := .bf16) K := (View.ld_unit_zero (by decide) _ _).trans h.k
theorem l2 : View.ld (Val := Elt Ideal) x2 r0_15 = up3 (φ := .bf16) V := (View.ld_unit_zero (by decide) _ _).trans h.v
theorem l3 : View.ld (Val := Elt Ideal) x3 r0_14 = up2 (φ := .f32) G := (View.ld_unit_zero (by decide) _ _).trans h.g
theorem l4 : View.ld (Val := Elt Ideal) x4 r0_14 = up2 (φ := .f32) B := (View.ld_unit_zero (by decide) _ _).trans h.b
theorem l5 : View.ld (Val := Elt Ideal) x5 r0_16 = up3 (φ := .f32) S := (View.ld_unit_zero (by decide) _ _).trans h.s

theorem p124 : k0_pay124 x0 x1 x2 x3 x4 x5 = up3 K := by
  unfold k0_pay124
  rw [h.l1]; exact pay3_up K
theorem p125 : k0_pay125 x0 x1 x2 x3 x4 x5 = up3 Q := by
  unfold k0_pay125
  rw [h.l0]; exact pay3_up Q
theorem p126 : k0_pay126 x0 x1 x2 x3 x4 x5 = up2 fun m _ => Spec.sc (K m) := by
  unfold k0_pay126
  rw [h.l1]; exact pay5_up K h.hK
theorem p127 : k0_pay127 x0 x1 x2 x3 x4 x5 = up3 fun m => Spec.code (K m) := by
  unfold k0_pay127
  rw [h.l1]; exact pay6_up K h.hK
theorem p129 : k0_pay129 x0 x1 x2 x3 x4 x5 = up2 fun m _ => Spec.sc (Q m) := by
  unfold k0_pay129 k0_pay128
  rw [h.l0]; exact pay8_up Q h.hQ
theorem p130 : k0_pay130 x0 x1 x2 x3 x4 x5 = up3 fun m => Spec.code (Q m) := by
  unfold k0_pay130 k0_pay128
  rw [h.p125, h.l0]; exact pay9_up Q h.hQ
theorem p131 : k0_pay131 x0 x1 x2 x3 x4 x5 = up3 fun m _ _ => Spec.sc (K m) := by
  unfold k0_pay131
  rw [h.p126]; exact pay39_up fun m => Spec.sc (K m)
theorem p132 : k0_pay132 x0 x1 x2 x3 x4 x5 = up2 fun m i => Spec.rn (K m) i := by
  unfold k0_pay132
  rw [h.p124]; exact pay41_up K
theorem p133 : k0_pay133 x0 x1 x2 x3 x4 x5 = up3 fun m => Spec.kn (K m) := by
  unfold k0_pay133
  rw [h.p124, h.p126, h.p127]; exact pay43_up K
theorem p138 : k0_pay138 x0 x1 x2 x3 x4 x5 = up2 fun m i => Spec.gsum (G m) i := by
  unfold k0_pay138
  rw [h.l3]; exact pay50_up G
theorem p139 : k0_pay139 x0 x1 x2 x3 x4 x5 = up3 fun m => Spec.kk (K m) := by
  unfold k0_pay139
  rw [h.p127, h.p131, h.p132]; exact pay51_up K
theorem p140 : k0_pay140 x0 x1 x2 x3 x4 x5 = up3 fun m => Spec.decay (G m) := by
  unfold k0_pay140
  rw [h.l3]; exact pay53_up G
theorem p142 : k0_pay142 x0 x1 x2 x3 x4 x5 = up3 (ents fun m => Spec.amat (K m) (G m) (B m)) := by
  unfold k0_pay142 k0_pay141 k0_pay136
  rw [h.p139, h.p140, h.l4]; exact pay55_up K G B
theorem tinv : k0_pay61 (k0_pay142 x0 x1 x2 x3 x4 x5) (k0_pay143 x0 x1 x2 x3 x4 x5) (k0_pay144 x0 x1 x2 x3 x4 x5)
    = up3 (ents fun m => Spec.tmat (K m) (G m) (B m)) :=
  tmat_up K G B _ _ _ _ _ _ _ _ h.p142 pay57_up rfl rfl
theorem p145 : k0_pay145 x0 x1 x2 x3 x4 x5 = wA K G B := by
  unfold k0_pay145 k0_pay137
  rw [h.p133, h.p138, h.l4]; exact pay64_up K G B _ _ _ h.tinv
theorem p146 : k0_pay146 x0 x1 x2 x3 x4 x5 = uA K V G B := by
  unfold k0_pay146 k0_pay137
  rw [h.l2, h.l4]; exact pay65_up K V G B _ _ _ h.tinv
theorem p147 : k0_pay147 x0 x1 x2 x3 x4 x5 = qA Q G := by
  unfold k0_pay147
  rw [h.p125, h.p129, h.p130, h.p138, pay46_up]; exact pay66_up Q G
theorem p148 : k0_pay148 x0 x1 x2 x3 x4 x5 = kA K G := by
  unfold k0_pay148
  rw [h.p133, h.p138]; exact pay67_up K G
theorem p149 : k0_pay149 x0 x1 x2 x3 x4 x5 = pA K Q G := by
  unfold k0_pay149
  have e1 : k0_pay40 (F := Ideal) (up2 fun m _ => Spec.sc (Q m)) = up3 fun m _ _ => Spec.sc (Q m) := pay39_up fun m => Spec.sc (Q m)
  have e2 : k0_pay42 (F := Ideal) (up3 Q) = up2 fun m i => Spec.rn (Q m) i := pay41_up Q
  rw [h.p127, h.p130, h.p131, h.p129, h.p132, h.p125, h.p140, e1, e2, pay52_up, pay56_up]; exact pay68_up K Q G
theorem p150 : k0_pay150 x0 x1 x2 x3 x4 x5 = dA G := by
  unfold k0_pay150
  rw [h.p138]; exact pay69_up G

/-! ## The states -/

theorem l5x : k0_pay70 (View.ld (Val := Elt Ideal) x5 r0_16) = up3 S := (shapeCast_self _ _).trans h.l5

/-- A chunk's step from the state before it. -/
theorem step (n : Fin 16) (hu hw hd) : nextOf n hu hw hd (k0_pay145 x0 x1 x2 x3 x4 x5) (k0_pay148 x0 x1 x2 x3 x4 x5) (k0_pay146 x0 x1 x2 x3 x4 x5) (k0_pay150 x0 x1 x2 x3 x4 x5)
    (up3 (st K V G B S n.val)) = up3 (st K V G B S (n.val + 1)) := by
  rw [h.p145, h.p148, h.p146, h.p150]
  exact nextOf_st K V G B S n hu hw hd

/-- A chunk's output from the state before it. -/
theorem emit (n : Fin 16) (hu hw hp) : outOf n hu hw hp (k0_pay145 x0 x1 x2 x3 x4 x5) (k0_pay147 x0 x1 x2 x3 x4 x5) (k0_pay146 x0 x1 x2 x3 x4 x5) (k0_pay149 x0 x1 x2 x3 x4 x5)
    (up3 (st K V G B S n.val)) = up3 fun r => Spec.out (K (cix r n)) (Q (cix r n)) (V (cix r n)) (G (cix r n)) (B (cix r n)) (st K V G B S n.val r) := by
  rw [h.p145, h.p147, h.p146, h.p149]
  exact outOf_up K Q V G B n hu hw hp _

theorem s1 : k0_pay151 x0 x1 x2 x3 x4 x5 = up3 (st K V G B S 1) :=
  (congrArg (nextOf 0 slices_S12x16x64x512_o0_0_0_0_S12x1x64x512 slices_S12x16x64x256_o0_0_0_0_S12x1x64x256 slices_S12x16x1x1_o0_0_0_0_S12x1x1x1 (k0_pay145 x0 x1 x2 x3 x4 x5) (k0_pay148 x0 x1 x2 x3 x4 x5) (k0_pay146 x0 x1 x2 x3 x4 x5) (k0_pay150 x0 x1 x2 x3 x4 x5)) h.l5x).trans (h.step 0 _ _ _)

theorem s3 : k0_pay154 x0 x1 x2 x3 x4 x5 = up3 (st K V G B S 3) := by
  have e : k0_pay154 x0 x1 x2 x3 x4 x5 = nextOf 2 slices_S12x16x64x512_o0_2_0_0_S12x1x64x512 slices_S12x16x64x256_o0_2_0_0_S12x1x64x256 slices_S12x16x1x1_o0_2_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 1 slices_S12x16x64x512_o0_1_0_0_S12x1x64x512 slices_S12x16x64x256_o0_1_0_0_S12x1x64x256 slices_S12x16x1x1_o0_1_0_0_S12x1x1x1 (k0_pay145 x0 x1 x2 x3 x4 x5) (k0_pay148 x0 x1 x2 x3 x4 x5) (k0_pay146 x0 x1 x2 x3 x4 x5) (k0_pay150 x0 x1 x2 x3 x4 x5) (k0_pay151 x0 x1 x2 x3 x4 x5)) := rfl
  rw [e, h.s1]
  exact (congrArg _ (h.step 1 _ _ _)).trans (h.step 2 _ _ _)

theorem s5 : k0_pay156 x0 x1 x2 x3 x4 x5 = up3 (st K V G B S 5) := by
  have e : k0_pay156 x0 x1 x2 x3 x4 x5 = nextOf 4 slices_S12x16x64x512_o0_4_0_0_S12x1x64x512 slices_S12x16x64x256_o0_4_0_0_S12x1x64x256 slices_S12x16x1x1_o0_4_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 3 slices_S12x16x64x512_o0_3_0_0_S12x1x64x512 slices_S12x16x64x256_o0_3_0_0_S12x1x64x256 slices_S12x16x1x1_o0_3_0_0_S12x1x1x1 (k0_pay145 x0 x1 x2 x3 x4 x5) (k0_pay148 x0 x1 x2 x3 x4 x5) (k0_pay146 x0 x1 x2 x3 x4 x5) (k0_pay150 x0 x1 x2 x3 x4 x5) (k0_pay154 x0 x1 x2 x3 x4 x5)) := rfl
  rw [e, h.s3]
  exact (congrArg _ (h.step 3 _ _ _)).trans (h.step 4 _ _ _)

theorem s7 : k0_pay158 x0 x1 x2 x3 x4 x5 = up3 (st K V G B S 7) := by
  have e : k0_pay158 x0 x1 x2 x3 x4 x5 = nextOf 6 slices_S12x16x64x512_o0_6_0_0_S12x1x64x512 slices_S12x16x64x256_o0_6_0_0_S12x1x64x256 slices_S12x16x1x1_o0_6_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 5 slices_S12x16x64x512_o0_5_0_0_S12x1x64x512 slices_S12x16x64x256_o0_5_0_0_S12x1x64x256 slices_S12x16x1x1_o0_5_0_0_S12x1x1x1 (k0_pay145 x0 x1 x2 x3 x4 x5) (k0_pay148 x0 x1 x2 x3 x4 x5) (k0_pay146 x0 x1 x2 x3 x4 x5) (k0_pay150 x0 x1 x2 x3 x4 x5) (k0_pay156 x0 x1 x2 x3 x4 x5)) := rfl
  rw [e, h.s5]
  exact (congrArg _ (h.step 5 _ _ _)).trans (h.step 6 _ _ _)

theorem s9 : k0_pay160 x0 x1 x2 x3 x4 x5 = up3 (st K V G B S 9) := by
  have e : k0_pay160 x0 x1 x2 x3 x4 x5 = nextOf 8 slices_S12x16x64x512_o0_8_0_0_S12x1x64x512 slices_S12x16x64x256_o0_8_0_0_S12x1x64x256 slices_S12x16x1x1_o0_8_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 7 slices_S12x16x64x512_o0_7_0_0_S12x1x64x512 slices_S12x16x64x256_o0_7_0_0_S12x1x64x256 slices_S12x16x1x1_o0_7_0_0_S12x1x1x1 (k0_pay145 x0 x1 x2 x3 x4 x5) (k0_pay148 x0 x1 x2 x3 x4 x5) (k0_pay146 x0 x1 x2 x3 x4 x5) (k0_pay150 x0 x1 x2 x3 x4 x5) (k0_pay158 x0 x1 x2 x3 x4 x5)) := rfl
  rw [e, h.s7]
  exact (congrArg _ (h.step 7 _ _ _)).trans (h.step 8 _ _ _)

theorem s11 : k0_pay162 x0 x1 x2 x3 x4 x5 = up3 (st K V G B S 11) := by
  have e : k0_pay162 x0 x1 x2 x3 x4 x5 = nextOf 10 slices_S12x16x64x512_o0_10_0_0_S12x1x64x512 slices_S12x16x64x256_o0_10_0_0_S12x1x64x256 slices_S12x16x1x1_o0_10_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 9 slices_S12x16x64x512_o0_9_0_0_S12x1x64x512 slices_S12x16x64x256_o0_9_0_0_S12x1x64x256 slices_S12x16x1x1_o0_9_0_0_S12x1x1x1 (k0_pay145 x0 x1 x2 x3 x4 x5) (k0_pay148 x0 x1 x2 x3 x4 x5) (k0_pay146 x0 x1 x2 x3 x4 x5) (k0_pay150 x0 x1 x2 x3 x4 x5) (k0_pay160 x0 x1 x2 x3 x4 x5)) := rfl
  rw [e, h.s9]
  exact (congrArg _ (h.step 9 _ _ _)).trans (h.step 10 _ _ _)

theorem s13 : k0_pay164 x0 x1 x2 x3 x4 x5 = up3 (st K V G B S 13) := by
  have e : k0_pay164 x0 x1 x2 x3 x4 x5 = nextOf 12 slices_S12x16x64x512_o0_12_0_0_S12x1x64x512 slices_S12x16x64x256_o0_12_0_0_S12x1x64x256 slices_S12x16x1x1_o0_12_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 11 slices_S12x16x64x512_o0_11_0_0_S12x1x64x512 slices_S12x16x64x256_o0_11_0_0_S12x1x64x256 slices_S12x16x1x1_o0_11_0_0_S12x1x1x1 (k0_pay145 x0 x1 x2 x3 x4 x5) (k0_pay148 x0 x1 x2 x3 x4 x5) (k0_pay146 x0 x1 x2 x3 x4 x5) (k0_pay150 x0 x1 x2 x3 x4 x5) (k0_pay162 x0 x1 x2 x3 x4 x5)) := rfl
  rw [e, h.s11]
  exact (congrArg _ (h.step 11 _ _ _)).trans (h.step 12 _ _ _)

theorem s15 : k0_pay166 x0 x1 x2 x3 x4 x5 = up3 (st K V G B S 15) := by
  have e : k0_pay166 x0 x1 x2 x3 x4 x5 = nextOf 14 slices_S12x16x64x512_o0_14_0_0_S12x1x64x512 slices_S12x16x64x256_o0_14_0_0_S12x1x64x256 slices_S12x16x1x1_o0_14_0_0_S12x1x1x1 (k0_pay145 x0 x1 x2 x3 x4 x5) (k0_pay148 x0 x1 x2 x3 x4 x5) (k0_pay146 x0 x1 x2 x3 x4 x5) (k0_pay150 x0 x1 x2 x3 x4 x5)
      (nextOf 13 slices_S12x16x64x512_o0_13_0_0_S12x1x64x512 slices_S12x16x64x256_o0_13_0_0_S12x1x64x256 slices_S12x16x1x1_o0_13_0_0_S12x1x1x1 (k0_pay145 x0 x1 x2 x3 x4 x5) (k0_pay148 x0 x1 x2 x3 x4 x5) (k0_pay146 x0 x1 x2 x3 x4 x5) (k0_pay150 x0 x1 x2 x3 x4 x5) (k0_pay164 x0 x1 x2 x3 x4 x5)) := rfl
  rw [e, h.s13]
  exact (congrArg _ (h.step 13 _ _ _)).trans (h.step 14 _ _ _)

/-! ## The results -/

/-- The states of the even chunks, one step after those of the odd ones. -/
theorem after (n : Fin 16) {s : FVec Ideal S12x256x512 .f32} (hs : s = up3 (st K V G B S n.val)) (hu hw hd) :
    nextOf n hu hw hd (k0_pay145 x0 x1 x2 x3 x4 x5) (k0_pay148 x0 x1 x2 x3 x4 x5) (k0_pay146 x0 x1 x2 x3 x4 x5)
      (k0_pay150 x0 x1 x2 x3 x4 x5) s = up3 (st K V G B S (n.val + 1)) := by
  rw [hs]; exact h.step n hu hw hd

/-- A chunk's piece of the output. -/
theorem piece (n : Fin 16) {o : ℕ} (hin) {s : FVec Ideal S12x256x512 .f32} {P : Vec Ideal S12x64x512 .bf16}
    (hs : s = up3 (st K V G B S n.val)) (hu hw hp)
    (hP : P = outOf n hu hw hp (k0_pay145 x0 x1 x2 x3 x4 x5) (k0_pay147 x0 x1 x2 x3 x4 x5) (k0_pay146 x0 x1 x2 x3 x4 x5)
      (k0_pay149 x0 x1 x2 x3 x4 x5) s) (ho : o = 64 * n.val) (x : S12x64x512.Idx) :
    P x = up3 (φ := .bf16) (outT K Q V G B S) ((Rect.unit (s := S12x1024x512) ![0, o, 0] S12x64x512.size hin).emb x) := by
  rw [hP, hs, h.emit n hu hw hp]
  subst ho
  exact outT_place K Q V G B S n hin x

theorem o : out0_6 x0 x1 x2 x3 x4 x5 = up3 (φ := .bf16) (outT K Q V G B S) := by
  funext y
  unfold out0_6
  refine View.canon_apply_of_pieces _ _ (PiecesOf.mem ?_) y (cover0_6 _ _ _ _ _ _ _ _ _ _ _ _ _ _ _ _ y)
  exact ⟨h.piece 15 inb_S12x1024x512_S12x64x512_0_960_0 h.s15 (by decide) (by decide) (by decide) rfl rfl,
    h.piece 14 inb_S12x1024x512_S12x64x512_0_896_0 (h.after 13 h.s13 (by decide) (by decide) (by decide)) (by decide) (by decide) (by decide) rfl rfl,
    h.piece 13 inb_S12x1024x512_S12x64x512_0_832_0 h.s13 (by decide) (by decide) (by decide) rfl rfl,
    h.piece 12 inb_S12x1024x512_S12x64x512_0_768_0 (h.after 11 h.s11 (by decide) (by decide) (by decide)) (by decide) (by decide) (by decide) rfl rfl,
    h.piece 11 inb_S12x1024x512_S12x64x512_0_704_0 h.s11 (by decide) (by decide) (by decide) rfl rfl,
    h.piece 10 inb_S12x1024x512_S12x64x512_0_640_0 (h.after 9 h.s9 (by decide) (by decide) (by decide)) (by decide) (by decide) (by decide) rfl rfl,
    h.piece 9 inb_S12x1024x512_S12x64x512_0_576_0 h.s9 (by decide) (by decide) (by decide) rfl rfl,
    h.piece 8 inb_S12x1024x512_S12x64x512_0_512_0 (h.after 7 h.s7 (by decide) (by decide) (by decide)) (by decide) (by decide) (by decide) rfl rfl,
    h.piece 7 inb_S12x1024x512_S12x64x512_0_448_0 h.s7 (by decide) (by decide) (by decide) rfl rfl,
    h.piece 6 inb_S12x1024x512_S12x64x512_0_384_0 (h.after 5 h.s5 (by decide) (by decide) (by decide)) (by decide) (by decide) (by decide) rfl rfl,
    h.piece 5 inb_S12x1024x512_S12x64x512_0_320_0 h.s5 (by decide) (by decide) (by decide) rfl rfl,
    h.piece 4 inb_S12x1024x512_S12x64x512_0_256_0 (h.after 3 h.s3 (by decide) (by decide) (by decide)) (by decide) (by decide) (by decide) rfl rfl,
    h.piece 3 inb_S12x1024x512_S12x64x512_0_192_0 h.s3 (by decide) (by decide) (by decide) rfl rfl,
    h.piece 2 inb_S12x1024x512_S12x64x512_0_128_0 (h.after 1 h.s1 (by decide) (by decide) (by decide)) (by decide) (by decide) (by decide) rfl rfl,
    h.piece 1 inb_S12x1024x512_S12x64x512_0_64_0 h.s1 (by decide) (by decide) (by decide) rfl rfl,
    h.piece 0 inb_S12x1024x512_S12x64x512_0_0_0 h.l5x (by decide) (by decide) (by decide) rfl rfl, trivial⟩

theorem state : out0_7 x0 x1 x2 x3 x4 x5 = up3 (φ := .f32) (st K V G B S 16) := by
  unfold out0_7
  refine (View.canon_unit_zero (by decide) _ _).trans ?_
  exact h.after 15 h.s15 _ _ _

theorem kc : out0_8 x0 x1 x2 x3 x4 x5 = up3 (φ := .fp8e4m3) (codeT K) := by
  unfold out0_8
  refine (View.canon_unit_zero (by decide) _ _).trans ?_
  rw [h.p127]
  exact pay10_up _

theorem qc : out0_10 x0 x1 x2 x3 x4 x5 = up3 (φ := .fp8e4m3) (codeT Q) := by
  unfold out0_10
  refine (View.canon_unit_zero (by decide) _ _).trans ?_
  have e : k0_pay11 (k0_pay125 x0 x1 x2 x3 x4 x5) (k0_pay128 x0 x1 x2 x3 x4 x5)
      = k0_pay10 (k0_pay130 x0 x1 x2 x3 x4 x5) := rfl
  rw [e, h.p130]
  exact pay10_up _

theorem ks : out0_9 x0 x1 x2 x3 x4 x5 = up3 (φ := .f32) (scaleT K) := by
  funext y
  unfold out0_9
  refine View.canon_apply_of_pieces _ _ (PiecesOf.mem ?_) y (cover0_9 _ _ _ _ _ _ _ _ _ _ _ _ y)
  refine lane_piece 11 h.p126 inb_S6x2x16_S1x1x16_5_1_0 slices_S192x1_o176_0_S16x1 k0_pay37 rfl rfl rfl rfl <|
    lane_piece 10 h.p126 inb_S6x2x16_S1x1x16_4_1_0 slices_S192x1_o160_0_S16x1 k0_pay34 rfl rfl rfl rfl <|
    lane_piece 9 h.p126 inb_S6x2x16_S1x1x16_3_1_0 slices_S192x1_o144_0_S16x1 k0_pay32 rfl rfl rfl rfl <|
    lane_piece 8 h.p126 inb_S6x2x16_S1x1x16_2_1_0 slices_S192x1_o128_0_S16x1 k0_pay30 rfl rfl rfl rfl <|
    lane_piece 7 h.p126 inb_S6x2x16_S1x1x16_1_1_0 slices_S192x1_o112_0_S16x1 (fun v => k0_pay28 (k0_pay27 v)) rfl rfl rfl rfl <|
    lane_piece 6 h.p126 inb_S6x2x16_S1x1x16_0_1_0 slices_S192x1_o96_0_S16x1 k0_pay25 rfl rfl rfl rfl <|
    lane_piece 5 h.p126 inb_S6x2x16_S1x1x16_5_0_0 slices_S192x1_o80_0_S16x1 k0_pay23 rfl rfl rfl rfl <|
    lane_piece 4 h.p126 inb_S6x2x16_S1x1x16_4_0_0 slices_S192x1_o64_0_S16x1 k0_pay21 rfl rfl rfl rfl <|
    lane_piece 3 h.p126 inb_S6x2x16_S1x1x16_3_0_0 slices_S192x1_o48_0_S16x1 k0_pay19 rfl rfl rfl rfl <|
    lane_piece 2 h.p126 inb_S6x2x16_S1x1x16_2_0_0 slices_S192x1_o32_0_S16x1 k0_pay17 rfl rfl rfl rfl <|
    lane_piece 1 h.p126 inb_S6x2x16_S1x1x16_1_0_0 slices_S192x1_o16_0_S16x1 k0_pay15 rfl rfl rfl rfl <|
    lane_piece 0 h.p126 inb_S6x2x16_S1x1x16_0_0_0 slices_S192x1_o0_0_S16x1 k0_pay12 rfl rfl rfl rfl trivial

theorem qs : out0_11 x0 x1 x2 x3 x4 x5 = up3 (φ := .f32) (scaleT Q) := by
  funext y
  have e : k0_pay14 (k0_pay13 (k0_pay128 x0 x1 x2 x3 x4 x5)) = laneOf 0 slices_S192x1_o0_0_S16x1 (k0_pay129 x0 x1 x2 x3 x4 x5) := by
    unfold k0_pay129 k0_pay14 k0_pay13 laneOf
    rfl
  unfold out0_11
  rw [e]
  refine View.canon_apply_of_pieces _ _ (PiecesOf.mem ?_) y (cover0_11 _ _ _ _ _ _ _ _ _ _ _ _ y)
  refine lane_piece 11 h.p129 inb_S6x2x16_S1x1x16_5_1_0 slices_S192x1_o176_0_S16x1 k0_pay38 rfl rfl rfl rfl <|
    lane_piece 10 h.p129 inb_S6x2x16_S1x1x16_4_1_0 slices_S192x1_o160_0_S16x1 (fun v => k0_pay36 (k0_pay35 v)) rfl rfl rfl rfl <|
    lane_piece 9 h.p129 inb_S6x2x16_S1x1x16_3_1_0 slices_S192x1_o144_0_S16x1 k0_pay33 rfl rfl rfl rfl <|
    lane_piece 8 h.p129 inb_S6x2x16_S1x1x16_2_1_0 slices_S192x1_o128_0_S16x1 k0_pay31 rfl rfl rfl rfl <|
    lane_piece 7 h.p129 inb_S6x2x16_S1x1x16_1_1_0 slices_S192x1_o112_0_S16x1 k0_pay29 rfl rfl rfl rfl <|
    lane_piece 6 h.p129 inb_S6x2x16_S1x1x16_0_1_0 slices_S192x1_o96_0_S16x1 k0_pay26 rfl rfl rfl rfl <|
    lane_piece 5 h.p129 inb_S6x2x16_S1x1x16_5_0_0 slices_S192x1_o80_0_S16x1 k0_pay24 rfl rfl rfl rfl <|
    lane_piece 4 h.p129 inb_S6x2x16_S1x1x16_4_0_0 slices_S192x1_o64_0_S16x1 k0_pay22 rfl rfl rfl rfl <|
    lane_piece 3 h.p129 inb_S6x2x16_S1x1x16_3_0_0 slices_S192x1_o48_0_S16x1 k0_pay20 rfl rfl rfl rfl <|
    lane_piece 2 h.p129 inb_S6x2x16_S1x1x16_2_0_0 slices_S192x1_o32_0_S16x1 k0_pay18 rfl rfl rfl rfl <|
    lane_piece 1 h.p129 inb_S6x2x16_S1x1x16_1_0_0 slices_S192x1_o16_0_S16x1 k0_pay16 rfl rfl rfl rfl <|
    lane_piece 0 h.p129 inb_S6x2x16_S1x1x16_0_0_0 slices_S192x1_o0_0_S16x1 (laneOf 0 slices_S192x1_o0_0_S16x1) rfl rfl rfl rfl trivial

end Ins

end Cert.ReferenceIdeal.Ref

end
-- ==== Proof.Block.lean ====
/- What one grid point of the kernel leaves, on real inputs: the chunks `2t` and `2t+1` of every row. -/
module

public import proofs.«01_k».proof.Proof.Step
public import proofs.«01_k».proof.Proof.ChunkValue
public import proofs.«01_k».proof.Proof.RefOut

@[expose] public section

noncomputable section

namespace Cert.KernelIdeal.Step

open Cert Cert.Up Cert.Quant Cert.Inverse Cert.KernelIdeal Cert.KernelIdeal.Gen Cert.KernelIdeal.Row Idealize.ShloMosaic
open Cert.ReferenceIdeal.Ref (cix cOf iOf st outT codeT scaleT)

/-! ## A row of a block -/

theorem kw_up (f : Fin 12 → Fin 128 → Fin 256 → ℝ) (r : Fin 12) : kw (F := Ideal) (up3 (φ := .bf16) f) r = up2 (φ := .f32) (f r) := by
  refine eq_up2 fun t d => ?_
  pointwise [kw, wide, rowK]
  rfl

theorem gw_up (g : Fin 6 → Fin 2 → Fin 128 → ℝ) (r : Fin 12) : gw (F := Ideal) (up3 (φ := .f32) g) r
    = up2 (φ := .f32) fun _ j => g ⟨r.val % 6, Nat.mod_lt _ (by decide)⟩ ⟨r.val / 6, by omega⟩ j := by
  refine eq_up2 fun t d => ?_
  pointwise [gw, rowG]
  rfl

theorem rowV_up (v : Fin 12 → Fin 128 → Fin 512 → ℝ) (r : Fin 12) (a : Fin 2) : rowV (F := Ideal) (up3 (φ := .bf16) v) r a
    = up3 (φ := .bf16) fun _ i e => v r (tok a i) e := rfl

theorem sw_up (S : Fin 12 → Fin 256 → Fin 512 → ℝ) (r : Fin 12) : sw (F := Ideal) (up3 (φ := .f32) S) r = up2 (φ := .f32) (S r) := by
  refine eq_up2 fun t d => ?_
  pointwise [sw, rowS]
  rfl

/-! ## A point's block of an array kept by chunks -/

/-- The chunk a token of point `t`'s block is in. -/
def pt (t : Fin 8) (j : Fin 128) : Fin 16 := ⟨2 * t.val + j.val / 64, by omega⟩
/-- The token within the chunk. -/
def pi (j : Fin 128) : Fin 64 := ⟨j.val % 64, Nat.mod_lt _ (by decide)⟩
/-- The chunk `c` of point `t`. -/
def pc (t : Fin 8) (c : Fin 2) : Fin 16 := ⟨2 * t.val + c.val, by omega⟩

/-- A point's block of keys, queries or values. -/
def blk {D : ℕ} (K : Fin 192 → Fin 64 → Fin D → ℝ) (t : Fin 8) (r : Fin 12) (j : Fin 128) (d : Fin D) : ℝ := K (cix r (pt t j)) (pi j) d
/-- A point's block of gates or betas. -/
def blkG (G : Fin 192 → Fin 64 → ℝ) (t : Fin 8) (a : Fin 6) (b : Fin 2) (j : Fin 128) : ℝ :=
  G (cix ⟨b.val * 6 + a.val, by omega⟩ (pt t j)) (pi j)

theorem pt_tok (t : Fin 8) (c : Fin 2) (i : Fin 64) : pt t (tok c i) = pc t c :=
  Fin.ext (by show 2 * t.val + (64 * c.val + i.val) / 64 = 2 * t.val + c.val; omega)
theorem pi_tok (c : Fin 2) (i : Fin 64) : pi (tok c i) = i :=
  Fin.ext (by show (64 * c.val + i.val) % 64 = i.val; omega)

theorem ch_blk (K : Fin 192 → Fin 64 → Fin 256 → ℝ) (t : Fin 8) (r : Fin 12) (c : Fin 2) : ch (blk K t r) c = K (cix r (pc t c)) := by
  funext i d
  show K (cix r (pt t (tok c i))) (pi (tok c i)) d = _
  rw [pt_tok, pi_tok]

theorem val_blk (V : Fin 192 → Fin 64 → Fin 512 → ℝ) (t : Fin 8) (r : Fin 12) (c : Fin 2) :
    (fun i e => blk V t r (tok c i) e) = V (cix r (pc t c)) := by
  funext i d
  show V (cix r (pt t (tok c i))) (pi (tok c i)) d = _
  rw [pt_tok, pi_tok]

theorem lt_blk {D : ℕ} {K : Fin 192 → Fin 64 → Fin D → ℝ} (hK : ∀ m i d, |K m i d| < 2 ^ (128 : ℤ)) (t : Fin 8) (r : Fin 12)
    (j : Fin 128) (d : Fin D) : |blk K t r j d| < 2 ^ (128 : ℤ) := hK _ _ _

/-- A row's gates within a point's block. -/
def rowB (G : Fin 192 → Fin 64 → ℝ) (t : Fin 8) (r : Fin 12) (j : Fin 128) : ℝ := G (cix r (pt t j)) (pi j)

theorem ch_rowB (G : Fin 192 → Fin 64 → ℝ) (t : Fin 8) (r : Fin 12) (c : Fin 2) : ch (rowB G t r) c = G (cix r (pc t c)) := by
  funext i
  show G (cix r (pt t (tok c i))) (pi (tok c i)) = _
  rw [pt_tok, pi_tok]

theorem gw_blk (G : Fin 192 → Fin 64 → ℝ) (t : Fin 8) (r : Fin 12) : gw (F := Ideal) (up3 (φ := .f32) (blkG G t)) r
    = up2 (φ := .f32) fun _ j => rowB G t r j := by
  rw [gw_up]
  congr 1
  funext _ j
  show G (cix ⟨r.val / 6 * 6 + r.val % 6, _⟩ _) _ = G (cix r _) _
  congr 2
  exact Fin.ext (by show r.val / 6 * 6 + r.val % 6 = r.val; omega)

section
variable {K Q : Fin 192 → Fin 64 → Fin 256 → ℝ} {V : Fin 192 → Fin 64 → Fin 512 → ℝ} {G B : Fin 192 → Fin 64 → ℝ}
  {S : Fin 12 → Fin 256 → Fin 512 → ℝ} (hK : ∀ m i d, |K m i d| < 2 ^ (128 : ℤ)) (hQ : ∀ m i d, |Q m i d| < 2 ^ (128 : ℤ))
  (t : Fin 8)

include hK hQ

theorem mid_blk (T : Fin 12 → Fin 256 → Fin 512 → ℝ) (r : Fin 12) :
    mid (F := Ideal) (up3 (φ := .bf16) (blk Q t)) (up3 (φ := .bf16) (blk K t)) (up3 (φ := .bf16) (blk V t))
      (up3 (φ := .f32) (blkG G t)) (up3 (φ := .f32) (blkG B t)) (up3 (φ := .f32) T) r
    = up2 (φ := .f32) (Spec.next (K (cix r (pc t 0))) (V (cix r (pc t 0))) (G (cix r (pc t 0))) (B (cix r (pc t 0))) (T r)) := by
  unfold mid
  rw [kw_up, kw_up, gw_blk, gw_blk, rowV_up, sw_up, s0_up (lt_blk hK t r) (lt_blk hQ t r),
    ch_blk, val_blk, ch_rowB, ch_rowB]

theorem fin_blk (T : Fin 12 → Fin 256 → Fin 512 → ℝ) (r : Fin 12) :
    fin (F := Ideal) (up3 (φ := .bf16) (blk Q t)) (up3 (φ := .bf16) (blk K t)) (up3 (φ := .bf16) (blk V t))
      (up3 (φ := .f32) (blkG G t)) (up3 (φ := .f32) (blkG B t)) (up3 (φ := .f32) T) r
    = up2 (φ := .f32) (Spec.next (K (cix r (pc t 1))) (V (cix r (pc t 1))) (G (cix r (pc t 1))) (B (cix r (pc t 1)))
        (Spec.next (K (cix r (pc t 0))) (V (cix r (pc t 0))) (G (cix r (pc t 0))) (B (cix r (pc t 0))) (T r))) := by
  unfold fin
  rw [mid_blk hK hQ, kw_up, kw_up, gw_blk, gw_blk, rowV_up, s1_up (lt_blk hK t r) (lt_blk hQ t r),
    ch_blk, val_blk, ch_rowB, ch_rowB]

end

section
variable {K Q : Fin 192 → Fin 64 → Fin 256 → ℝ} {V : Fin 192 → Fin 64 → Fin 512 → ℝ} {G B : Fin 192 → Fin 64 → ℝ}
  {S : Fin 12 → Fin 256 → Fin 512 → ℝ} (t : Fin 8)

theorem st_pc (r : Fin 12) (n : Fin 16) : st K V G B S (n.val + 1) r
    = Spec.next (K (cix r n)) (V (cix r n)) (G (cix r n)) (B (cix r n)) (st K V G B S n.val r) := by
  have e : Fin.ofNat 16 n.val = n := Fin.ext (Nat.mod_eq_of_lt n.isLt)
  show Spec.next (K (cix r (Fin.ofNat 16 n.val))) (V (cix r (Fin.ofNat 16 n.val))) (G (cix r (Fin.ofNat 16 n.val)))
    (B (cix r (Fin.ofNat 16 n.val))) (st K V G B S n.val r) = _
  rw [e]

variable (hK : ∀ m i d, |K m i d| < 2 ^ (128 : ℤ)) (hQ : ∀ m i d, |Q m i d| < 2 ^ (128 : ℤ))
include hK hQ

/-- A point takes the state before its two chunks to the state after them. -/
theorem outS_blk : outS (F := Ideal) (up3 (φ := .bf16) (blk Q t)) (up3 (φ := .bf16) (blk K t)) (up3 (φ := .bf16) (blk V t))
      (up3 (φ := .f32) (blkG G t)) (up3 (φ := .f32) (blkG B t)) (up3 (φ := .f32) (st K V G B S (2 * t.val)))
    = up3 (φ := .f32) (st K V G B S (2 * t.val + 2)) := by
  refine eq_up3 fun r d e => ?_
  show fin _ _ _ _ _ _ r (ix2 d e) = _
  rw [fin_blk hK hQ, up2_apply]
  have h1 := st_pc (K := K) (V := V) (G := G) (B := B) (S := S) r (pc t 0)
  have h2 := st_pc (K := K) (V := V) (G := G) (B := B) (S := S) r (pc t 1)
  have e1 : (pc t 0).val + 1 = (pc t 1).val := rfl
  have e0 : (pc t 0).val = 2 * t.val := rfl
  have e2 : (pc t 1).val + 1 = 2 * t.val + 2 := rfl
  rw [e1, e0] at h1
  rw [e2, h1] at h2
  rw [h2]

/-- The token `j` of point `t`'s block. -/
def tokOf (t : Fin 8) (j : Fin 128) : Fin 1024 := ⟨128 * t.val + j.val, by omega⟩

omit hK hQ in
theorem cOf_tok (c : Fin 2) (i : Fin 64) : cOf (tokOf t (tok c i)) = pc t c :=
  Fin.ext (by show (128 * t.val + (64 * c.val + i.val)) / 64 = 2 * t.val + c.val; omega)
omit hK hQ in
theorem iOf_tok (c : Fin 2) (i : Fin 64) : iOf (tokOf t (tok c i)) = i :=
  Fin.ext (by show (128 * t.val + (64 * c.val + i.val)) % 64 = i.val; omega)
omit hK hQ in
theorem tok_cases (j : Fin 128) : (∃ i : Fin 64, j = tok 0 i ∧ ∃ h, j = ⟨i.val, h⟩) ∨ ∃ i : Fin 64, j = tok 1 i ∧ ∃ h, j = ⟨64 + i.val, h⟩ := by
  by_cases h : j.val < 64
  · refine .inl ⟨⟨j.val, h⟩, Fin.ext ?_, j.isLt, rfl⟩
    show j.val = 64 * 0 + j.val
    omega
  · refine .inr ⟨⟨j.val - 64, by omega⟩, Fin.ext ?_, by show 64 + (j.val - 64) < 128; omega, Fin.ext ?_⟩
    · show j.val = 64 * 1 + (j.val - 64)
      omega
    · show j.val = 64 + (j.val - 64)
      omega

/-- A point's block of outputs. -/
theorem outO_blk : outO (F := Ideal) (up3 (φ := .bf16) (blk Q t)) (up3 (φ := .bf16) (blk K t)) (up3 (φ := .bf16) (blk V t))
      (up3 (φ := .f32) (blkG G t)) (up3 (φ := .f32) (blkG B t)) (up3 (φ := .f32) (st K V G B S (2 * t.val)))
    = up3 (φ := .bf16) fun r j e => outT K Q V G B S r (tokOf t j) e := by
  refine eq_up3 fun r j e => ?_
  rcases tok_cases j with ⟨i, hi, hlt, hj⟩ | ⟨i, hi, hlt, hj⟩
  · unfold outT
    rw [hi, cOf_tok, iOf_tok, ← hi, hj, outO_lo, kw_up, kw_up, gw_blk, gw_blk, rowV_up, sw_up,
      o0_up (lt_blk hK t r) (lt_blk hQ t r), ch_blk, ch_blk, val_blk, ch_rowB, ch_rowB, up2_apply]
    rfl
  · unfold outT
    rw [hi, cOf_tok, iOf_tok, ← hi, hj, outO_hi, mid_blk hK hQ, kw_up, kw_up, gw_blk, gw_blk, rowV_up,
      o1_up (lt_blk hK t r) (lt_blk hQ t r), ch_blk, ch_blk, val_blk, ch_rowB, ch_rowB, up2_apply]
    have h1 := st_pc (K := K) (V := V) (G := G) (B := B) (S := S) r (pc t 0)
    have e1 : (pc t 0).val + 1 = (pc t 1).val := rfl
    have e0 : (pc t 0).val = 2 * t.val := rfl
    rw [e1, e0] at h1
    rw [h1]

omit hQ in
/-- A point's block of codes. -/
theorem outC_blk : outC (F := Ideal) (up3 (φ := .bf16) (blk K t))
    = up3 (φ := .fp8e4m3) fun r j d => codeT K r (tokOf t j) d := by
  refine eq_up3 fun r j e => ?_
  rcases tok_cases j with ⟨i, hi, hlt, hj⟩ | ⟨i, hi, hlt, hj⟩
  · unfold codeT
    rw [hi, cOf_tok, iOf_tok, ← hi, hj, outC_lo, kw_up, lo_up, ch_blk, codes_up _ (fun _ _ => hK _ _ _), up2_apply]
  · unfold codeT
    rw [hi, cOf_tok, iOf_tok, ← hi, hj, outC_hi, kw_up, hi_up, ch_blk, codes_up _ (fun _ _ => hK _ _ _), up2_apply]

/-- The scales once the first `n` chunks are done. -/
def scaleN (K : Fin 192 → Fin 64 → Fin 256 → ℝ) (n : ℕ) (a : Fin 6) (b : Fin 2) (l : Fin 16) : ℝ :=
  if l.val < n then scaleT K a b l else 0

omit hK hQ in
theorem setLane_apply (b : BitVec 32) (s : ℝ) (p : Vec Ideal S1x1x16 .f32) (l : Fin 16) :
    setLane (F := Ideal) b (up2 (φ := .f32) fun _ _ => s) p (ix3 0 0 l)
      = if BitVec.ofNat 32 l.val = b then ((s : ℝ) : EReal) else p (ix3 0 0 l) := by
  pointwise [setLane, lanes]
  by_cases h : BitVec.ofNat 32 l.val = b
  · rw [if_pos h]
    simp only [Scalar.select, IntOp.cmpi, h]
    simp
    rfl
  · rw [if_neg h]
    refine if_neg fun e => ?_
    have hb : (BitVec.ofNat 32 l.val == b) = false := beq_false_of_ne h
    have e' : BitVec.ofBool (BitVec.ofNat 32 l.val == b) = 1#1 := e
    rw [hb] at e'
    exact absurd e' (by decide)

omit hK hQ in
theorem lane_hi : ∀ (t : Fin 8) (l : Fin 16),
    BitVec.ofNat 32 l.val = Scalar.addi (Scalar.muli (BitVec.ofNat 32 t.val) 2#32) 1#32 ↔ l.val = 2 * t.val + 1 := by decide
omit hK hQ in
theorem lane_lo : ∀ (t : Fin 8) (l : Fin 16),
    BitVec.ofNat 32 l.val = Scalar.addi (Scalar.muli (BitVec.ofNat 32 t.val) 2#32) 0#32 ↔ l.val = 2 * t.val := by decide

omit hQ in
/-- A point sets the scales of its two chunks. -/
theorem outL_blk : outL (F := Ideal) (BitVec.ofNat 32 t.val) (up3 (φ := .bf16) (blk K t)) (up3 (φ := .f32) (scaleN K (2 * t.val)))
    = up3 (φ := .f32) (scaleN K (2 * t.val + 2)) := by
  refine eq_up3 fun a b l => ?_
  show laneRow _ _ _ ⟨6 * b.val + a.val, _⟩ (ix3 0 0 l) = _
  unfold laneRow
  rw [kw_up, hi_up, lo_up, ch_blk, ch_blk, scale_up _ (fun _ _ => hK _ _ _), scale_up _ (fun _ _ => hK _ _ _),
    setLane_apply, setLane_apply]
  simp only [lane_hi, lane_lo]
  have hr : (⟨6 * b.val + a.val, by omega⟩ : Fin 12) = ⟨b.val * 6 + a.val, by omega⟩ := Fin.ext (by show 6 * b.val + a.val = b.val * 6 + a.val; omega)
  unfold scaleN
  by_cases h1 : l.val = 2 * t.val + 1
  · have e : pc t 1 = l := Fin.ext h1.symm
    rw [if_pos h1, if_pos (by omega), hr, e]
    rfl
  · rw [if_neg h1]
    by_cases h0 : l.val = 2 * t.val
    · have e : pc t 0 = l := Fin.ext h0.symm
      rw [if_pos h0, if_pos (by omega), hr, e]
      rfl
    · rw [if_neg h0]
      have ea : (⟨(6 * b.val + a.val) % 6, Nat.mod_lt _ (by decide)⟩ : Fin 6) = a := Fin.ext (by show (6 * b.val + a.val) % 6 = a.val; omega)
      have eb : (⟨(6 * b.val + a.val) / 6, by omega⟩ : Fin 2) = b := Fin.ext (by show (6 * b.val + a.val) / 6 = b.val; omega)
      show (((if l.val < 2 * t.val then scaleT K (⟨(6 * b.val + a.val) % 6, _⟩ : Fin 6) (⟨(6 * b.val + a.val) / 6, _⟩ : Fin 2) l else 0 : ℝ)) : EReal) = _
      rw [ea, eb]
      congr 1
      by_cases h : l.val < 2 * t.val
      · rw [if_pos h, if_pos (by omega)]
      · rw [if_neg h, if_neg (by omega)]

omit hK hQ in
theorem scaleN_zero : (broadcast S6x2x16 (Scalar.ofBits (F := Ideal) .f32 0x00000000#32)) = up3 (φ := .f32) (scaleN K 0) := by
  refine eq_up3 fun a b l => ?_
  unfold scaleN
  rw [if_neg (by omega)]
  show (FloatOps.ofBits FTy.f32 0x00000000#32 : Ideal FTy.f32) = _
  simp [FloatOps.ofBits, Ideal.ofBits, Ideal.ieee]

omit hK hQ in
theorem scaleN_all : scaleN K 16 = scaleT K := by
  funext a b l
  exact if_pos l.isLt

end

end Cert.KernelIdeal.Step

end
-- ==== Proof.HostArgs.lean ====
/- What the two programs hand to their calls, on real arguments: both transpose and reshape them into the same chunks. -/
module

public import proofs.«01_k».proof.Proof.Block
public import proofs.«01_k».proof.Proof.Gen.KernelIdeal.Frame
public import proofs.«01_k».proof.Proof.Gen.ReferenceIdeal.Frame

@[expose] public section

noncomputable section

/-! ## The arguments by chunks -/

namespace Cert.Args

/-- Chunk `m` of keys, queries or values: its sequence, its sixteenth of the tokens and its head. -/
def chunks {D : ℕ} (f : Fin 2 → Fin 1024 → Fin 6 → Fin D → ℝ) (m : Fin 192) (i : Fin 64) (d : Fin D) : ℝ :=
  f ⟨m.val / 96, by omega⟩ ⟨m.val % 16 * 64 + i.val, by omega⟩ ⟨m.val / 16 % 6, by omega⟩ d

/-- Chunk `m` of gates or betas. -/
def gates (g : Fin 2 → Fin 1024 → Fin 6 → ℝ) (m : Fin 192) (i : Fin 64) : ℝ :=
  g ⟨m.val / 96, by omega⟩ ⟨m.val % 16 * 64 + i.val, by omega⟩ ⟨m.val / 16 % 6, by omega⟩

/-- Row `r` of states. -/
def states (s : Fin 2 → Fin 6 → Fin 256 → Fin 512 → ℝ) (r : Fin 12) (d : Fin 256) (e : Fin 512) : ℝ :=
  s ⟨r.val / 6, by omega⟩ ⟨r.val % 6, by omega⟩ d e

theorem at4 {A B C D : ℕ} (f : Fin A → Fin B → Fin C → Fin D → ℝ) {a a' : Fin A} {b b' : Fin B} {c c' : Fin C} {d d' : Fin D}
    (ha : a.val = a'.val) (hb : b.val = b'.val) (hc : c.val = c'.val) (hd : d.val = d'.val) :
    ((f a b c d : ℝ) : EReal) = ((f a' b' c' d' : ℝ) : EReal) := by
  rw [Fin.ext ha, Fin.ext hb, Fin.ext hc, Fin.ext hd]

theorem at3 {A B C : ℕ} (f : Fin A → Fin B → Fin C → ℝ) {a a' : Fin A} {b b' : Fin B} {c c' : Fin C}
    (ha : a.val = a'.val) (hb : b.val = b'.val) (hc : c.val = c'.val) :
    ((f a b c : ℝ) : EReal) = ((f a' b' c' : ℝ) : EReal) := by
  rw [Fin.ext ha, Fin.ext hb, Fin.ext hc]

end Cert.Args

/-! ## The reference -/

namespace Cert.ReferenceIdeal.Ref

open Cert Cert.Up Cert.Args Idealize.ShloMosaic Idealize.ShloMosaic.TcCoe Idealize.SL.Sem Cert.ReferenceIdeal Cert.ReferenceIdeal.Gen

theorem host256 (f : Fin 2 → Fin 1024 → Fin 6 → Fin 256 → ℝ) :
    shapeCast S192x64x256 (transpose S2x6x1024x256 [0, 2, 1, 3] (up4 (φ := .bf16) f) transposes_S2x1024x6x256_S2x6x1024x256_0_2_1_3)
      shapeCasts_S2x6x1024x256_S192x64x256 = up3 (φ := .bf16) (chunks f) := by
  refine eq_up3 fun m i d => ?_
  pointwise
  rfl

theorem host512 (f : Fin 2 → Fin 1024 → Fin 6 → Fin 512 → ℝ) :
    shapeCast S192x64x512 (transpose S2x6x1024x512 [0, 2, 1, 3] (up4 (φ := .bf16) f) transposes_S2x1024x6x512_S2x6x1024x512_0_2_1_3)
      shapeCasts_S2x6x1024x512_S192x64x512 = up3 (φ := .bf16) (chunks f) := by
  refine eq_up3 fun m i d => ?_
  pointwise
  rfl

theorem hostG (f : Fin 2 → Fin 1024 → Fin 6 → ℝ) :
    shapeCast S192x64 (transpose S2x6x1024 [0, 2, 1] (up3 (φ := .f32) f) transposes_S2x1024x6_S2x6x1024_0_2_1)
      shapeCasts_S2x6x1024_S192x64 = up2 (φ := .f32) (gates f) := by
  refine eq_up2 fun m i => ?_
  pointwise
  rfl

theorem hostS (f : Fin 2 → Fin 6 → Fin 256 → Fin 512 → ℝ) :
    shapeCast S12x256x512 (up4 (φ := .f32) f) shapeCasts_S2x6x256x512_S12x256x512 = up3 (φ := .f32) (states f) := by
  refine eq_up3 fun m i d => ?_
  pointwise
  rfl

section
variable {F : FTy → Type} [FloatOps F] (m : (ℓ : Loc nD τ sig) → Buf (Elt F) ℓ) (c : Dev nD)

theorem V_v1 : V m c main_v1 = shapeCast S192x64x256 (transpose S2x6x1024x256 [0, 2, 1, 3] (m ((c : Thread nD τ).loc main_arg0))
    transposes_S2x1024x6x256_S2x6x1024x256_0_2_1_3) shapeCasts_S2x6x1024x256_S192x64x256 := by
  show StableHlo.after hostOps0 _ (Proc.devRef .tc main_v1) = _
  after_results
  rfl

theorem V_v3 : V m c main_v3 = shapeCast S192x64x256 (transpose S2x6x1024x256 [0, 2, 1, 3] (m ((c : Thread nD τ).loc main_arg1))
    transposes_S2x1024x6x256_S2x6x1024x256_0_2_1_3) shapeCasts_S2x6x1024x256_S192x64x256 := by
  show StableHlo.after hostOps0 _ (Proc.devRef .tc main_v3) = _
  after_results
  rfl

theorem V_v5 : V m c main_v5 = shapeCast S192x64x512 (transpose S2x6x1024x512 [0, 2, 1, 3] (m ((c : Thread nD τ).loc main_arg2))
    transposes_S2x1024x6x512_S2x6x1024x512_0_2_1_3) shapeCasts_S2x6x1024x512_S192x64x512 := by
  show StableHlo.after hostOps0 _ (Proc.devRef .tc main_v5) = _
  after_results
  rfl

theorem V_v7 : V m c main_v7 = shapeCast S192x64 (transpose S2x6x1024 [0, 2, 1] (m ((c : Thread nD τ).loc main_arg3))
    transposes_S2x1024x6_S2x6x1024_0_2_1) shapeCasts_S2x6x1024_S192x64 := by
  show StableHlo.after hostOps0 _ (Proc.devRef .tc main_v7) = _
  after_results
  rfl

theorem V_v9 : V m c main_v9 = shapeCast S192x64 (transpose S2x6x1024 [0, 2, 1] (m ((c : Thread nD τ).loc main_arg4))
    transposes_S2x1024x6_S2x6x1024_0_2_1) shapeCasts_S2x6x1024_S192x64 := by
  show StableHlo.after hostOps0 _ (Proc.devRef .tc main_v9) = _
  after_results
  rfl

theorem V_v10 : V m c main_v10 = shapeCast S12x256x512 (m ((c : Thread nD τ).loc main_arg5)) shapeCasts_S2x6x256x512_S12x256x512 := by
  show StableHlo.after hostOps0 _ (Proc.devRef .tc main_v10) = _
  after_results
  rfl

end

end Cert.ReferenceIdeal.Ref

/-! ## The kernel -/

namespace Cert.KernelIdeal.Host

open Cert Cert.Up Cert.Args Idealize.ShloMosaic Idealize.ShloMosaic.TcCoe Idealize.SL.Sem Cert.KernelIdeal Cert.KernelIdeal.Gen
open Cert.ReferenceIdeal.Ref (cix cOf iOf)

/-- Keys, queries or values by rows. -/
def rowsT {D : ℕ} (K : Fin 192 → Fin 64 → Fin D → ℝ) (r : Fin 12) (t : Fin 1024) (d : Fin D) : ℝ := K (cix r (cOf t)) (iOf t) d
/-- Gates or betas by head and sequence. -/
def gatesT (G : Fin 192 → Fin 64 → ℝ) (a : Fin 6) (b : Fin 2) (t : Fin 1024) : ℝ :=
  G (cix ⟨b.val * 6 + a.val, by omega⟩ (cOf t)) (iOf t)

theorem host256 (f : Fin 2 → Fin 1024 → Fin 6 → Fin 256 → ℝ) :
    shapeCast S12x1024x256 (transpose S2x6x1024x256 [0, 2, 1, 3] (up4 (φ := .bf16) f) transposes_S2x1024x6x256_S2x6x1024x256_0_2_1_3)
      shapeCasts_S2x6x1024x256_S12x1024x256 = up3 (φ := .bf16) (rowsT (chunks f)) := by
  refine eq_up3 fun r t d => ?_
  pointwise
  refine at4 f ?_ ?_ ?_ rfl
  · show r.val / 6 = (r.val * 16 + t.val / 64) / 96
    omega
  · show t.val = (r.val * 16 + t.val / 64) % 16 * 64 + t.val % 64
    omega
  · show r.val % 6 = (r.val * 16 + t.val / 64) / 16 % 6
    omega

theorem host512 (f : Fin 2 → Fin 1024 → Fin 6 → Fin 512 → ℝ) :
    shapeCast S12x1024x512 (transpose S2x6x1024x512 [0, 2, 1, 3] (up4 (φ := .bf16) f) transposes_S2x1024x6x512_S2x6x1024x512_0_2_1_3)
      shapeCasts_S2x6x1024x512_S12x1024x512 = up3 (φ := .bf16) (rowsT (chunks f)) := by
  refine eq_up3 fun r t d => ?_
  pointwise
  refine at4 f ?_ ?_ ?_ rfl
  · show r.val / 6 = (r.val * 16 + t.val / 64) / 96
    omega
  · show t.val = (r.val * 16 + t.val / 64) % 16 * 64 + t.val % 64
    omega
  · show r.val % 6 = (r.val * 16 + t.val / 64) / 16 % 6
    omega

theorem hostG (f : Fin 2 → Fin 1024 → Fin 6 → ℝ) :
    transpose S6x2x1024 [2, 0, 1] (up3 (φ := .f32) f) transposes_S2x1024x6_S6x2x1024_2_0_1 = up3 (φ := .f32) (gatesT (gates f)) := by
  refine eq_up3 fun a b t => ?_
  pointwise
  refine at3 f ?_ ?_ ?_
  · show b.val = ((b.val * 6 + a.val) * 16 + t.val / 64) / 96
    omega
  · show t.val = ((b.val * 6 + a.val) * 16 + t.val / 64) % 16 * 64 + t.val % 64
    omega
  · show a.val = ((b.val * 6 + a.val) * 16 + t.val / 64) / 16 % 6
    omega

theorem hostS (f : Fin 2 → Fin 6 → Fin 256 → Fin 512 → ℝ) :
    shapeCast S12x256x512 (up4 (φ := .f32) f) shapeCasts_S2x6x256x512_S12x256x512 = up3 (φ := .f32) (states f) := by
  refine eq_up3 fun m i d => ?_
  pointwise
  rfl

section
variable {F : FTy → Type} [FloatOps F] (m : (ℓ : Loc nD τ sig) → Buf (Elt F) ℓ) (c : Dev nD)

theorem V_v1 : V m c main_v1 = shapeCast S12x1024x256 (transpose S2x6x1024x256 [0, 2, 1, 3] (m ((c : Thread nD τ).loc main_arg0))
    transposes_S2x1024x6x256_S2x6x1024x256_0_2_1_3) shapeCasts_S2x6x1024x256_S12x1024x256 := by
  show StableHlo.after hostOps0 _ (Proc.devRef .tc main_v1) = _
  after_results
  rfl

theorem V_v3 : V m c main_v3 = shapeCast S12x1024x256 (transpose S2x6x1024x256 [0, 2, 1, 3] (m ((c : Thread nD τ).loc main_arg1))
    transposes_S2x1024x6x256_S2x6x1024x256_0_2_1_3) shapeCasts_S2x6x1024x256_S12x1024x256 := by
  show StableHlo.after hostOps0 _ (Proc.devRef .tc main_v3) = _
  after_results
  rfl

theorem V_v5 : V m c main_v5 = shapeCast S12x1024x512 (transpose S2x6x1024x512 [0, 2, 1, 3] (m ((c : Thread nD τ).loc main_arg2))
    transposes_S2x1024x6x512_S2x6x1024x512_0_2_1_3) shapeCasts_S2x6x1024x512_S12x1024x512 := by
  show StableHlo.after hostOps0 _ (Proc.devRef .tc main_v5) = _
  after_results
  rfl

theorem V_v6 : V m c main_v6 = transpose S6x2x1024 [2, 0, 1] (m ((c : Thread nD τ).loc main_arg3)) transposes_S2x1024x6_S6x2x1024_2_0_1 := by
  show StableHlo.after hostOps0 _ (Proc.devRef .tc main_v6) = _
  after_results

theorem V_v7 : V m c main_v7 = transpose S6x2x1024 [2, 0, 1] (m ((c : Thread nD τ).loc main_arg4)) transposes_S2x1024x6_S6x2x1024_2_0_1 := by
  show StableHlo.after hostOps0 _ (Proc.devRef .tc main_v7) = _
  after_results

theorem V_v8 : V m c main_v8 = shapeCast S12x256x512 (m ((c : Thread nD τ).loc main_arg5)) shapeCasts_S2x6x256x512_S12x256x512 := by
  show StableHlo.after hostOps0 _ (Proc.devRef .tc main_v8) = _
  after_results
  rfl

end

end Cert.KernelIdeal.Host

end
-- ==== Proof.Acc.lean ====
/- The kernel's eight points on real inputs: what each leaves, one after another, and the arrays they write. -/
module

public import proofs.«01_k».proof.Proof.Left
public import proofs.«01_k».proof.Proof.HostArgs
public import proofs.«01_k».proof.Proof.Gen.KernelIdeal.Value

@[expose] public section

noncomputable section

namespace Cert.KernelIdeal.Acc

open Cert Cert.Up Cert.Args Cert.KernelIdeal Cert.KernelIdeal.Gen Cert.KernelIdeal.Step Cert.KernelIdeal.Host Cert.KernelIdeal.Value
open Cert.ReferenceIdeal.Ref (cix cOf iOf st outT codeT scaleT)
open Idealize.ShloMosaic Idealize.ShloMosaic.TcCoe Idealize.SL.Sem

variable (m : (ℓ : Loc nD τ sig) → Buf (Elt Ideal) ℓ) (c : Dev nD)

/-- A point as a number below eight. -/
def pt8 (t : Fin cfg0.N) : Fin 8 := ⟨t.val, by have := t.isLt; have h : cfg0.N = 8 := N_0; omega⟩

theorem cOf_pt (t : Fin 8) (j : Fin 128) : cOf (tokOf t j) = pt t j :=
  Fin.ext (by show (128 * t.val + j.val) / 64 = 2 * t.val + j.val / 64; omega)
theorem iOf_pt (t : Fin 8) (j : Fin 128) : iOf (tokOf t j) = pi j :=
  Fin.ext (by show (128 * t.val + j.val) % 64 = j.val % 64; omega)

/-! ## The blocks read -/

theorem idx0 : ∀ t : Fin cfg0.N, win0_0.index t 0 = 0 ∧ win0_0.index t 1 = t.val ∧ win0_0.index t 2 = 0 := by decide +kernel
theorem idx1 : ∀ t : Fin cfg0.N, win0_1.index t 0 = 0 ∧ win0_1.index t 1 = t.val ∧ win0_1.index t 2 = 0 := by decide +kernel
theorem idx2 : ∀ t : Fin cfg0.N, win0_2.index t 0 = 0 ∧ win0_2.index t 1 = t.val ∧ win0_2.index t 2 = 0 := by decide +kernel
theorem idx6 : ∀ t : Fin cfg0.N, win0_6.index t 0 = 0 ∧ win0_6.index t 1 = t.val ∧ win0_6.index t 2 = 0 := by decide +kernel
theorem idx8 : ∀ t : Fin cfg0.N, win0_8.index t 0 = 0 ∧ win0_8.index t 1 = t.val ∧ win0_8.index t 2 = 0 := by decide +kernel
theorem idx10 : ∀ t : Fin cfg0.N, win0_10.index t 0 = 0 ∧ win0_10.index t 1 = t.val ∧ win0_10.index t 2 = 0 := by decide +kernel
theorem idx3 : ∀ t : Fin cfg0.N, win0_3.index t 0 = 0 ∧ win0_3.index t 1 = 0 ∧ win0_3.index t 2 = t.val := by decide +kernel
theorem idx4 : ∀ t : Fin cfg0.N, win0_4.index t 0 = 0 ∧ win0_4.index t 1 = 0 ∧ win0_4.index t 2 = t.val := by decide +kernel
theorem idx5 : ∀ t : Fin cfg0.N, win0_5.index t 0 = 0 ∧ win0_5.index t 1 = 0 ∧ win0_5.index t 2 = 0 := by decide +kernel
theorem idx7 : ∀ t : Fin cfg0.N, win0_7.index t 0 = 0 ∧ win0_7.index t 1 = 0 ∧ win0_7.index t 2 = 0 := by decide +kernel
theorem idx9 : ∀ t : Fin cfg0.N, win0_9.index t 0 = 0 ∧ win0_9.index t 1 = 0 ∧ win0_9.index t 2 = 0 := by decide +kernel
theorem idx11 : ∀ t : Fin cfg0.N, win0_11.index t 0 = 0 ∧ win0_11.index t 1 = 0 ∧ win0_11.index t 2 = 0 := by decide +kernel

theorem coord0 : ∀ t : Fin cfg0.N, (grid0.coords t 0).val = t.val := by decide +kernel

theorem block0 {K : Fin 192 → Fin 64 → Fin 256 → ℝ} (h : V m c main_v1 = up3 (φ := .bf16) (rowsT K)) (t : Fin cfg0.N) :
    (iblk m c 0 t : Vec Ideal S12x128x256 .bf16) = up3 (φ := .bf16) (blk K (pt8 t)) := by
  refine eq_up3 fun r j d => ?_
  unfold iblk
  rw [View.read_apply]
  show V m c main_v1 _ = _
  rw [h]
  have e : ((cfg0.win 0).blk t).view.emb (ix3 r j d) = (ix3 r (tokOf (pt8 t) j) d : S12x1024x256.Idx) := by
    obtain ⟨h0, h1, h2⟩ := idx0 t
    funext a
    apply Fin.ext
    match a with
    | ⟨0, _⟩ => show win0_0.index t 0 * 12 + 1 * r.val = r.val; rw [h0]; omega
    | ⟨1, _⟩ => show win0_0.index t 1 * 128 + 1 * j.val = 128 * t.val + j.val; rw [h1]; omega
    | ⟨2, _⟩ => show win0_0.index t 2 * 256 + 1 * d.val = d.val; rw [h2]; omega
  refine (congrArg (up3 (φ := .bf16) (rowsT K)) e).trans ?_
  show ((K (cix r (cOf (tokOf (pt8 t) j))) (iOf (tokOf (pt8 t) j)) d : ℝ) : EReal) = _
  rw [cOf_pt, iOf_pt]
  rfl

theorem block1 {K : Fin 192 → Fin 64 → Fin 256 → ℝ} (h : V m c main_v3 = up3 (φ := .bf16) (rowsT K)) (t : Fin cfg0.N) :
    (iblk m c 1 t : Vec Ideal S12x128x256 .bf16) = up3 (φ := .bf16) (blk K (pt8 t)) := by
  refine eq_up3 fun r j d => ?_
  unfold iblk
  rw [View.read_apply]
  show V m c main_v3 _ = _
  rw [h]
  have e : ((cfg0.win 1).blk t).view.emb (ix3 r j d) = (ix3 r (tokOf (pt8 t) j) d : S12x1024x256.Idx) := by
    obtain ⟨h0, h1, h2⟩ := idx1 t
    funext a
    apply Fin.ext
    match a with
    | ⟨0, _⟩ => show win0_1.index t 0 * 12 + 1 * r.val = r.val; rw [h0]; omega
    | ⟨1, _⟩ => show win0_1.index t 1 * 128 + 1 * j.val = 128 * t.val + j.val; rw [h1]; omega
    | ⟨2, _⟩ => show win0_1.index t 2 * 256 + 1 * d.val = d.val; rw [h2]; omega
  refine (congrArg (up3 (φ := .bf16) (rowsT K)) e).trans ?_
  show ((K (cix r (cOf (tokOf (pt8 t) j))) (iOf (tokOf (pt8 t) j)) d : ℝ) : EReal) = _
  rw [cOf_pt, iOf_pt]
  rfl

theorem block2 {K : Fin 192 → Fin 64 → Fin 512 → ℝ} (h : V m c main_v5 = up3 (φ := .bf16) (rowsT K)) (t : Fin cfg0.N) :
    (iblk m c 2 t : Vec Ideal S12x128x512 .bf16) = up3 (φ := .bf16) (blk K (pt8 t)) := by
  refine eq_up3 fun r j d => ?_
  unfold iblk
  rw [View.read_apply]
  show V m c main_v5 _ = _
  rw [h]
  have e : ((cfg0.win 2).blk t).view.emb (ix3 r j d) = (ix3 r (tokOf (pt8 t) j) d : S12x1024x512.Idx) := by
    obtain ⟨h0, h1, h2⟩ := idx2 t
    funext a
    apply Fin.ext
    match a with
    | ⟨0, _⟩ => show win0_2.index t 0 * 12 + 1 * r.val = r.val; rw [h0]; omega
    | ⟨1, _⟩ => show win0_2.index t 1 * 128 + 1 * j.val = 128 * t.val + j.val; rw [h1]; omega
    | ⟨2, _⟩ => show win0_2.index t 2 * 512 + 1 * d.val = d.val; rw [h2]; omega
  refine (congrArg (up3 (φ := .bf16) (rowsT K)) e).trans ?_
  show ((K (cix r (cOf (tokOf (pt8 t) j))) (iOf (tokOf (pt8 t) j)) d : ℝ) : EReal) = _
  rw [cOf_pt, iOf_pt]
  rfl

theorem block3 {G : Fin 192 → Fin 64 → ℝ} (h : V m c main_v6 = up3 (φ := .f32) (gatesT G)) (t : Fin cfg0.N) :
    (iblk m c 3 t : Vec Ideal S6x2x128 .f32) = up3 (φ := .f32) (blkG G (pt8 t)) := by
  refine eq_up3 fun r b j => ?_
  unfold iblk
  rw [View.read_apply]
  show V m c main_v6 _ = _
  rw [h]
  have e : ((cfg0.win 3).blk t).view.emb (ix3 r b j) = (ix3 r b (tokOf (pt8 t) j) : S6x2x1024.Idx) := by
    obtain ⟨h0, h1, h2⟩ := idx3 t
    funext a
    apply Fin.ext
    match a with
    | ⟨0, _⟩ => show win0_3.index t 0 * 6 + 1 * r.val = r.val; rw [h0]; omega
    | ⟨1, _⟩ => show win0_3.index t 1 * 2 + 1 * b.val = b.val; rw [h1]; omega
    | ⟨2, _⟩ => show win0_3.index t 2 * 128 + 1 * j.val = 128 * t.val + j.val; rw [h2]; omega
  refine (congrArg (up3 (φ := .f32) (gatesT G)) e).trans ?_
  show ((G (cix ⟨b.val * 6 + r.val, _⟩ (cOf (tokOf (pt8 t) j))) (iOf (tokOf (pt8 t) j)) : ℝ) : EReal) = _
  rw [cOf_pt, iOf_pt]
  rfl

theorem block4 {G : Fin 192 → Fin 64 → ℝ} (h : V m c main_v7 = up3 (φ := .f32) (gatesT G)) (t : Fin cfg0.N) :
    (iblk m c 4 t : Vec Ideal S6x2x128 .f32) = up3 (φ := .f32) (blkG G (pt8 t)) := by
  refine eq_up3 fun r b j => ?_
  unfold iblk
  rw [View.read_apply]
  show V m c main_v7 _ = _
  rw [h]
  have e : ((cfg0.win 4).blk t).view.emb (ix3 r b j) = (ix3 r b (tokOf (pt8 t) j) : S6x2x1024.Idx) := by
    obtain ⟨h0, h1, h2⟩ := idx4 t
    funext a
    apply Fin.ext
    match a with
    | ⟨0, _⟩ => show win0_4.index t 0 * 6 + 1 * r.val = r.val; rw [h0]; omega
    | ⟨1, _⟩ => show win0_4.index t 1 * 2 + 1 * b.val = b.val; rw [h1]; omega
    | ⟨2, _⟩ => show win0_4.index t 2 * 128 + 1 * j.val = 128 * t.val + j.val; rw [h2]; omega
  refine (congrArg (up3 (φ := .f32) (gatesT G)) e).trans ?_
  show ((G (cix ⟨b.val * 6 + r.val, _⟩ (cOf (tokOf (pt8 t) j))) (iOf (tokOf (pt8 t) j)) : ℝ) : EReal) = _
  rw [cOf_pt, iOf_pt]
  rfl

theorem block5 {S : Fin 12 → Fin 256 → Fin 512 → ℝ} (h : V m c main_v8 = up3 (φ := .f32) S) (t : Fin cfg0.N) :
    (iblk m c 5 t : Vec Ideal S12x256x512 .f32) = up3 (φ := .f32) S := by
  refine eq_up3 fun r d e => ?_
  unfold iblk
  rw [View.read_apply]
  show V m c main_v8 _ = _
  rw [h]
  have e' : ((cfg0.win 5).blk t).view.emb (ix3 r d e) = (ix3 r d e : S12x256x512.Idx) := by
    obtain ⟨h0, h1, h2⟩ := idx5 t
    funext a
    apply Fin.ext
    match a with
    | ⟨0, _⟩ => show win0_5.index t 0 * 12 + 1 * r.val = r.val; rw [h0]; omega
    | ⟨1, _⟩ => show win0_5.index t 1 * 256 + 1 * d.val = d.val; rw [h1]; omega
    | ⟨2, _⟩ => show win0_5.index t 2 * 512 + 1 * e.val = e.val; rw [h2]; omega
  exact congrArg (up3 (φ := .f32) S) e'

/-! ## What each point leaves -/

variable {K Q : Fin 192 → Fin 64 → Fin 256 → ℝ} {W : Fin 192 → Fin 64 → Fin 512 → ℝ} {G B : Fin 192 → Fin 64 → ℝ}
  {S : Fin 12 → Fin 256 → Fin 512 → ℝ}

/-- What the call's arrays hold, as real arrays by chunks. -/
structure Ins (K Q : Fin 192 → Fin 64 → Fin 256 → ℝ) (W : Fin 192 → Fin 64 → Fin 512 → ℝ) (G B : Fin 192 → Fin 64 → ℝ)
    (S : Fin 12 → Fin 256 → Fin 512 → ℝ) : Prop where
  q : V m c main_v1 = up3 (φ := .bf16) (rowsT Q)
  k : V m c main_v3 = up3 (φ := .bf16) (rowsT K)
  v : V m c main_v5 = up3 (φ := .bf16) (rowsT W)
  g : V m c main_v6 = up3 (φ := .f32) (gatesT G)
  b : V m c main_v7 = up3 (φ := .f32) (gatesT B)
  s : V m c main_v8 = up3 (φ := .f32) S
  hK : ∀ m i d, |K m i d| < 2 ^ (128 : ℤ)
  hQ : ∀ m i d, |Q m i d| < 2 ^ (128 : ℤ)

variable (K Q W G B S) in
/-- The six blocks after point `t`. -/
def after (t : Fin 8) : Vec Ideal S12x128x512 .bf16 × Vec Ideal S12x256x512 .f32 × Vec Ideal S12x128x256 .fp8e4m3 × Vec Ideal S6x2x16 .f32
    × Vec Ideal S12x128x256 .fp8e4m3 × Vec Ideal S6x2x16 .f32 :=
  (up3 (φ := .bf16) fun r j e => outT K Q W G B S r (tokOf t j) e, up3 (φ := .f32) (st K W G B S (2 * t.val + 2)),
    up3 (φ := .fp8e4m3) fun r j d => codeT K r (tokOf t j) d, up3 (φ := .f32) (scaleN K (2 * t.val + 2)),
    up3 (φ := .fp8e4m3) fun r j d => codeT Q r (tokOf t j) d, up3 (φ := .f32) (scaleN Q (2 * t.val + 2)))

variable {m c}

theorem outs (h : Ins m c K Q W G B S) : ∀ (n : ℕ) (hn : n < cfg0.N), outsAt0 m c n hn = after K Q W G B S (pt8 ⟨n, hn⟩)
  | 0, hn => by
    refine (outsAt0_A m c ⟨0, hn⟩ rfl).trans ?_
    have z : ∀ K : Fin 192 → Fin 64 → Fin 256 → ℝ, (none0 : Vec Ideal S6x2x16 .f32) = up3 (φ := .f32) (scaleN K (2 * (pt8 ⟨0, hn⟩).val)) :=
      fun K => scaleN_zero
    have s0 : (up3 (φ := .f32) S : Vec Ideal S12x256x512 .f32) = up3 (φ := .f32) (st K W G B S (2 * (pt8 ⟨0, hn⟩).val)) := rfl
    rw [left_A_6, left_A_7, left_A_8, left_A_9, left_A_10, left_A_11, coord0, block0 m c h.q, block1 m c h.k, block2 m c h.v,
      block3 m c h.g, block4 m c h.b, block5 m c h.s, s0, outO_blk _ h.hK h.hQ, outS_blk _ h.hK h.hQ, outC_blk _ h.hK, outC_blk _ h.hQ]
    have l1 := outL_blk (pt8 ⟨0, hn⟩) h.hK
    have l2 := outL_blk (pt8 ⟨0, hn⟩) h.hQ
    rw [← z K] at l1
    rw [← z Q] at l2
    exact congrArg₂ (fun a b => (_, _, _, a, _, b)) l1 l2
  | n + 1, hn => by
    have hN : cfg0.N = 8 := N_0
    have hB : ¬(⟨n + 1, hn⟩ : Fin cfg0.N).val % 8 = 0 := by dsimp only; omega
    refine (outsAt0_B m c ⟨n + 1, hn⟩ hB).trans ?_
    have ih := outs h n (by omega)
    have e : outsAt0 m c ((⟨n + 1, hn⟩ : Fin cfg0.N).val - 1) (Nat.lt_of_le_of_lt (Nat.sub_le _ _) hn) = outsAt0 m c n (by omega) := rfl
    rw [left_B_6, left_B_7, left_B_8, left_B_9, left_B_10, left_B_11, coord0, block0 m c h.q, block1 m c h.k, block2 m c h.v,
      block3 m c h.g, block4 m c h.b, e, ih]
    have o := outO_blk (G := G) (B := B) (V := W) (S := S) (pt8 ⟨n + 1, hn⟩) h.hK h.hQ
    have s := outS_blk (G := G) (B := B) (V := W) (S := S) (pt8 ⟨n + 1, hn⟩) h.hK h.hQ
    have l1 := outL_blk (pt8 ⟨n + 1, hn⟩) h.hK
    have l2 := outL_blk (pt8 ⟨n + 1, hn⟩) h.hQ
    rw [outC_blk _ h.hK, outC_blk _ h.hQ]
    exact Prod.ext o (Prod.ext s (Prod.ext rfl (Prod.ext l1 (Prod.ext rfl l2))))

/-! ## The arrays written -/

theorem final6 (h : Ins m c K Q W G B S) : (dats m 0 c).arrAt 6 cfg0.N = up3 (φ := .bf16) (outT K Q W G B S) := by
  refine (dats m 0 c).arrAt_eq_of_cover 6 (up3 (φ := .bf16) (outT K Q W G B S)) (fun t _ => ?_) fun i => ?_
  · rw [flushed6, outs h]
    funext x
    obtain ⟨r, j, d, rfl⟩ : ∃ (r : Fin 12) (j : Fin 128) (d : Fin 512), x = ix3 r j d := ⟨x 0, x 1, x 2, ValueIdx.eq_ix3 x⟩
    rw [View.read_apply]
    have e : ((cfg0.win 6).blk t).view.emb (ix3 r j d) = (ix3 r (tokOf (pt8 t) j) d : S12x1024x512.Idx) := by
      obtain ⟨h0, h1, h2⟩ := idx6 t
      funext a
      apply Fin.ext
      match a with
      | ⟨0, _⟩ => show win0_6.index t 0 * 12 + 1 * r.val = r.val; rw [h0]; omega
      | ⟨1, _⟩ => show win0_6.index t 1 * 128 + 1 * j.val = 128 * t.val + j.val; rw [h1]; omega
      | ⟨2, _⟩ => show win0_6.index t 2 * 512 + 1 * d.val = d.val; rw [h2]; omega
    exact (congrArg (up3 (φ := .bf16) (outT K Q W G B S)) e).symm
  · have i0 : (i 0 : Nat) < 12 := (i 0).isLt
    have i1 : (i 1 : Nat) < 1024 := (i 1).isLt
    have i2 : (i 2 : Nat) < 512 := (i 2).isLt
    have hN : cfg0.N = 8 := N_0
    have ht : (i 1 : Nat) / 128 < cfg0.N := by omega
    refine ⟨⟨(i 1 : Nat) / 128, ht⟩, flush0_6 _, ?_⟩
    show i ∈ ((View.whole main_v9_0).slice (win0_6.rect ⟨(i 1 : Nat) / 128, ht⟩)).set
    rw [View.set_slice_whole, Rect.mem_set_unit]
    obtain ⟨h0, h1, h2⟩ := idx6 ⟨(i 1 : Nat) / 128, ht⟩
    intro a
    match a with
    | ⟨0, _⟩ => show win0_6.index ⟨(i 1 : Nat) / 128, ht⟩ 0 * 12 ≤ (i 0 : Nat) ∧ (i 0 : Nat) < win0_6.index ⟨(i 1 : Nat) / 128, ht⟩ 0 * 12 + 12
                rw [h0]; omega
    | ⟨1, _⟩ => show win0_6.index ⟨(i 1 : Nat) / 128, ht⟩ 1 * 128 ≤ (i 1 : Nat) ∧ (i 1 : Nat) < win0_6.index ⟨(i 1 : Nat) / 128, ht⟩ 1 * 128 + 128
                rw [h1]; dsimp only; omega
    | ⟨2, _⟩ => show win0_6.index ⟨(i 1 : Nat) / 128, ht⟩ 2 * 512 ≤ (i 2 : Nat) ∧ (i 2 : Nat) < win0_6.index ⟨(i 1 : Nat) / 128, ht⟩ 2 * 512 + 512
                rw [h2]; omega

theorem final8 (h : Ins m c K Q W G B S) : (dats m 0 c).arrAt 8 cfg0.N = up3 (φ := .fp8e4m3) (codeT K) := by
  refine (dats m 0 c).arrAt_eq_of_cover 8 (up3 (φ := .fp8e4m3) (codeT K)) (fun t _ => ?_) fun i => ?_
  · rw [flushed8, outs h]
    funext x
    obtain ⟨r, j, d, rfl⟩ : ∃ (r : Fin 12) (j : Fin 128) (d : Fin 256), x = ix3 r j d := ⟨x 0, x 1, x 2, ValueIdx.eq_ix3 x⟩
    rw [View.read_apply]
    have e : ((cfg0.win 8).blk t).view.emb (ix3 r j d) = (ix3 r (tokOf (pt8 t) j) d : S12x1024x256.Idx) := by
      obtain ⟨h0, h1, h2⟩ := idx8 t
      funext a
      apply Fin.ext
      match a with
      | ⟨0, _⟩ => show win0_8.index t 0 * 12 + 1 * r.val = r.val; rw [h0]; omega
      | ⟨1, _⟩ => show win0_8.index t 1 * 128 + 1 * j.val = 128 * t.val + j.val; rw [h1]; omega
      | ⟨2, _⟩ => show win0_8.index t 2 * 256 + 1 * d.val = d.val; rw [h2]; omega
    exact (congrArg (up3 (φ := .fp8e4m3) (codeT K)) e).symm
  · have i0 : (i 0 : Nat) < 12 := (i 0).isLt
    have i1 : (i 1 : Nat) < 1024 := (i 1).isLt
    have i2 : (i 2 : Nat) < 256 := (i 2).isLt
    have hN : cfg0.N = 8 := N_0
    have ht : (i 1 : Nat) / 128 < cfg0.N := by omega
    refine ⟨⟨(i 1 : Nat) / 128, ht⟩, flush0_8 _, ?_⟩
    show i ∈ ((View.whole main_v9_2).slice (win0_8.rect ⟨(i 1 : Nat) / 128, ht⟩)).set
    rw [View.set_slice_whole, Rect.mem_set_unit]
    obtain ⟨h0, h1, h2⟩ := idx8 ⟨(i 1 : Nat) / 128, ht⟩
    intro a
    match a with
    | ⟨0, _⟩ => show win0_8.index ⟨(i 1 : Nat) / 128, ht⟩ 0 * 12 ≤ (i 0 : Nat) ∧ (i 0 : Nat) < win0_8.index ⟨(i 1 : Nat) / 128, ht⟩ 0 * 12 + 12
                rw [h0]; omega
    | ⟨1, _⟩ => show win0_8.index ⟨(i 1 : Nat) / 128, ht⟩ 1 * 128 ≤ (i 1 : Nat) ∧ (i 1 : Nat) < win0_8.index ⟨(i 1 : Nat) / 128, ht⟩ 1 * 128 + 128
                rw [h1]; dsimp only; omega
    | ⟨2, _⟩ => show win0_8.index ⟨(i 1 : Nat) / 128, ht⟩ 2 * 256 ≤ (i 2 : Nat) ∧ (i 2 : Nat) < win0_8.index ⟨(i 1 : Nat) / 128, ht⟩ 2 * 256 + 256
                rw [h2]; omega

theorem final10 (h : Ins m c K Q W G B S) : (dats m 0 c).arrAt 10 cfg0.N = up3 (φ := .fp8e4m3) (codeT Q) := by
  refine (dats m 0 c).arrAt_eq_of_cover 10 (up3 (φ := .fp8e4m3) (codeT Q)) (fun t _ => ?_) fun i => ?_
  · rw [flushed10, outs h]
    funext x
    obtain ⟨r, j, d, rfl⟩ : ∃ (r : Fin 12) (j : Fin 128) (d : Fin 256), x = ix3 r j d := ⟨x 0, x 1, x 2, ValueIdx.eq_ix3 x⟩
    rw [View.read_apply]
    have e : ((cfg0.win 10).blk t).view.emb (ix3 r j d) = (ix3 r (tokOf (pt8 t) j) d : S12x1024x256.Idx) := by
      obtain ⟨h0, h1, h2⟩ := idx10 t
      funext a
      apply Fin.ext
      match a with
      | ⟨0, _⟩ => show win0_10.index t 0 * 12 + 1 * r.val = r.val; rw [h0]; omega
      | ⟨1, _⟩ => show win0_10.index t 1 * 128 + 1 * j.val = 128 * t.val + j.val; rw [h1]; omega
      | ⟨2, _⟩ => show win0_10.index t 2 * 256 + 1 * d.val = d.val; rw [h2]; omega
    exact (congrArg (up3 (φ := .fp8e4m3) (codeT Q)) e).symm
  · have i0 : (i 0 : Nat) < 12 := (i 0).isLt
    have i1 : (i 1 : Nat) < 1024 := (i 1).isLt
    have i2 : (i 2 : Nat) < 256 := (i 2).isLt
    have hN : cfg0.N = 8 := N_0
    have ht : (i 1 : Nat) / 128 < cfg0.N := by omega
    refine ⟨⟨(i 1 : Nat) / 128, ht⟩, flush0_10 _, ?_⟩
    show i ∈ ((View.whole main_v9_4).slice (win0_10.rect ⟨(i 1 : Nat) / 128, ht⟩)).set
    rw [View.set_slice_whole, Rect.mem_set_unit]
    obtain ⟨h0, h1, h2⟩ := idx10 ⟨(i 1 : Nat) / 128, ht⟩
    intro a
    match a with
    | ⟨0, _⟩ => show win0_10.index ⟨(i 1 : Nat) / 128, ht⟩ 0 * 12 ≤ (i 0 : Nat) ∧ (i 0 : Nat) < win0_10.index ⟨(i 1 : Nat) / 128, ht⟩ 0 * 12 + 12
                rw [h0]; omega
    | ⟨1, _⟩ => show win0_10.index ⟨(i 1 : Nat) / 128, ht⟩ 1 * 128 ≤ (i 1 : Nat) ∧ (i 1 : Nat) < win0_10.index ⟨(i 1 : Nat) / 128, ht⟩ 1 * 128 + 128
                rw [h1]; dsimp only; omega
    | ⟨2, _⟩ => show win0_10.index ⟨(i 1 : Nat) / 128, ht⟩ 2 * 256 ≤ (i 2 : Nat) ∧ (i 2 : Nat) < win0_10.index ⟨(i 1 : Nat) / 128, ht⟩ 2 * 256 + 256
                rw [h2]; omega

theorem final7 (h : Ins m c K Q W G B S) : (dats m 0 c).arrAt 7 cfg0.N = up3 (φ := .f32) (st K W G B S 16) := by
  have hN : cfg0.N = 8 := N_0
  have ht : 7 < cfg0.N := by omega
  refine (dats m 0 c).arrAt_eq_of_cover 7 (up3 (φ := .f32) (st K W G B S 16)) (fun t hf => ?_) fun i => ?_
  · have h7 : t.val = 7 := by have := (flush0_7 t).mp hf; have := t.isLt; omega
    rw [flushed7, outs h]
    funext x
    obtain ⟨r, j, d, rfl⟩ : ∃ (r : Fin 12) (j : Fin 256) (d : Fin 512), x = ix3 r j d := ⟨x 0, x 1, x 2, ValueIdx.eq_ix3 x⟩
    rw [View.read_apply]
    have e : ((cfg0.win 7).blk t).view.emb (ix3 r j d) = (ix3 r j d : S12x256x512.Idx) := by
      obtain ⟨h0, h1, h2⟩ := idx7 t
      funext a
      apply Fin.ext
      match a with
      | ⟨0, _⟩ => show win0_7.index t 0 * 12 + 1 * r.val = r.val; rw [h0]; omega
      | ⟨1, _⟩ => show win0_7.index t 1 * 256 + 1 * j.val = j.val; rw [h1]; omega
      | ⟨2, _⟩ => show win0_7.index t 2 * 512 + 1 * d.val = d.val; rw [h2]; omega
    refine Eq.trans ?_ (congrArg (up3 (φ := .f32) (st K W G B S 16)) e).symm
    obtain rfl : t = ⟨7, ht⟩ := Fin.ext h7
    rfl
  · have i0 : (i 0 : Nat) < 12 := (i 0).isLt
    have i1 : (i 1 : Nat) < 256 := (i 1).isLt
    have i2 : (i 2 : Nat) < 512 := (i 2).isLt
    refine ⟨⟨7, ht⟩, (flush0_7 ⟨7, ht⟩).mpr rfl, ?_⟩
    show i ∈ ((View.whole main_v9_1).slice (win0_7.rect ⟨7, ht⟩)).set
    rw [View.set_slice_whole, Rect.mem_set_unit]
    obtain ⟨h0, h1, h2⟩ := idx7 ⟨7, ht⟩
    intro a
    match a with
    | ⟨0, _⟩ => show win0_7.index ⟨7, ht⟩ 0 * 12 ≤ (i 0 : Nat) ∧ (i 0 : Nat) < win0_7.index ⟨7, ht⟩ 0 * 12 + 12
                rw [h0]; omega
    | ⟨1, _⟩ => show win0_7.index ⟨7, ht⟩ 1 * 256 ≤ (i 1 : Nat) ∧ (i 1 : Nat) < win0_7.index ⟨7, ht⟩ 1 * 256 + 256
                rw [h1]; omega
    | ⟨2, _⟩ => show win0_7.index ⟨7, ht⟩ 2 * 512 ≤ (i 2 : Nat) ∧ (i 2 : Nat) < win0_7.index ⟨7, ht⟩ 2 * 512 + 512
                rw [h2]; omega

theorem final9 (h : Ins m c K Q W G B S) : (dats m 0 c).arrAt 9 cfg0.N = up3 (φ := .f32) (scaleT K) := by
  have hN : cfg0.N = 8 := N_0
  have ht : 7 < cfg0.N := by omega
  refine (dats m 0 c).arrAt_eq_of_cover 9 (up3 (φ := .f32) (scaleT K)) (fun t hf => ?_) fun i => ?_
  · have h7 : t.val = 7 := by have := (flush0_9 t).mp hf; have := t.isLt; omega
    rw [flushed9, outs h]
    funext x
    obtain ⟨r, j, d, rfl⟩ : ∃ (r : Fin 6) (j : Fin 2) (d : Fin 16), x = ix3 r j d := ⟨x 0, x 1, x 2, ValueIdx.eq_ix3 x⟩
    rw [View.read_apply]
    have e : ((cfg0.win 9).blk t).view.emb (ix3 r j d) = (ix3 r j d : S6x2x16.Idx) := by
      obtain ⟨h0, h1, h2⟩ := idx9 t
      funext a
      apply Fin.ext
      match a with
      | ⟨0, _⟩ => show win0_9.index t 0 * 6 + 1 * r.val = r.val; rw [h0]; omega
      | ⟨1, _⟩ => show win0_9.index t 1 * 2 + 1 * j.val = j.val; rw [h1]; omega
      | ⟨2, _⟩ => show win0_9.index t 2 * 16 + 1 * d.val = d.val; rw [h2]; omega
    refine Eq.trans ?_ (congrArg (up3 (φ := .f32) (scaleT K)) e).symm
    obtain rfl : t = ⟨7, ht⟩ := Fin.ext h7
    exact congrArg (fun s => (up3 (φ := .f32) s : Vec Ideal S6x2x16 .f32) (ix3 r j d)) (scaleN_all (K := K))
  · have i0 : (i 0 : Nat) < 6 := (i 0).isLt
    have i1 : (i 1 : Nat) < 2 := (i 1).isLt
    have i2 : (i 2 : Nat) < 16 := (i 2).isLt
    refine ⟨⟨7, ht⟩, (flush0_9 ⟨7, ht⟩).mpr rfl, ?_⟩
    show i ∈ ((View.whole main_v9_3).slice (win0_9.rect ⟨7, ht⟩)).set
    rw [View.set_slice_whole, Rect.mem_set_unit]
    obtain ⟨h0, h1, h2⟩ := idx9 ⟨7, ht⟩
    intro a
    match a with
    | ⟨0, _⟩ => show win0_9.index ⟨7, ht⟩ 0 * 6 ≤ (i 0 : Nat) ∧ (i 0 : Nat) < win0_9.index ⟨7, ht⟩ 0 * 6 + 6
                rw [h0]; omega
    | ⟨1, _⟩ => show win0_9.index ⟨7, ht⟩ 1 * 2 ≤ (i 1 : Nat) ∧ (i 1 : Nat) < win0_9.index ⟨7, ht⟩ 1 * 2 + 2
                rw [h1]; omega
    | ⟨2, _⟩ => show win0_9.index ⟨7, ht⟩ 2 * 16 ≤ (i 2 : Nat) ∧ (i 2 : Nat) < win0_9.index ⟨7, ht⟩ 2 * 16 + 16
                rw [h2]; omega

theorem final11 (h : Ins m c K Q W G B S) : (dats m 0 c).arrAt 11 cfg0.N = up3 (φ := .f32) (scaleT Q) := by
  have hN : cfg0.N = 8 := N_0
  have ht : 7 < cfg0.N := by omega
  refine (dats m 0 c).arrAt_eq_of_cover 11 (up3 (φ := .f32) (scaleT Q)) (fun t hf => ?_) fun i => ?_
  · have h7 : t.val = 7 := by have := (flush0_11 t).mp hf; have := t.isLt; omega
    rw [flushed11, outs h]
    funext x
    obtain ⟨r, j, d, rfl⟩ : ∃ (r : Fin 6) (j : Fin 2) (d : Fin 16), x = ix3 r j d := ⟨x 0, x 1, x 2, ValueIdx.eq_ix3 x⟩
    rw [View.read_apply]
    have e : ((cfg0.win 11).blk t).view.emb (ix3 r j d) = (ix3 r j d : S6x2x16.Idx) := by
      obtain ⟨h0, h1, h2⟩ := idx11 t
      funext a
      apply Fin.ext
      match a with
      | ⟨0, _⟩ => show win0_11.index t 0 * 6 + 1 * r.val = r.val; rw [h0]; omega
      | ⟨1, _⟩ => show win0_11.index t 1 * 2 + 1 * j.val = j.val; rw [h1]; omega
      | ⟨2, _⟩ => show win0_11.index t 2 * 16 + 1 * d.val = d.val; rw [h2]; omega
    refine Eq.trans ?_ (congrArg (up3 (φ := .f32) (scaleT Q)) e).symm
    obtain rfl : t = ⟨7, ht⟩ := Fin.ext h7
    exact congrArg (fun s => (up3 (φ := .f32) s : Vec Ideal S6x2x16 .f32) (ix3 r j d)) (scaleN_all (K := Q))
  · have i0 : (i 0 : Nat) < 6 := (i 0).isLt
    have i1 : (i 1 : Nat) < 2 := (i 1).isLt
    have i2 : (i 2 : Nat) < 16 := (i 2).isLt
    refine ⟨⟨7, ht⟩, (flush0_11 ⟨7, ht⟩).mpr rfl, ?_⟩
    show i ∈ ((View.whole main_v9_5).slice (win0_11.rect ⟨7, ht⟩)).set
    rw [View.set_slice_whole, Rect.mem_set_unit]
    obtain ⟨h0, h1, h2⟩ := idx11 ⟨7, ht⟩
    intro a
    match a with
    | ⟨0, _⟩ => show win0_11.index ⟨7, ht⟩ 0 * 6 ≤ (i 0 : Nat) ∧ (i 0 : Nat) < win0_11.index ⟨7, ht⟩ 0 * 6 + 6
                rw [h0]; omega
    | ⟨1, _⟩ => show win0_11.index ⟨7, ht⟩ 1 * 2 ≤ (i 1 : Nat) ∧ (i 1 : Nat) < win0_11.index ⟨7, ht⟩ 1 * 2 + 2
                rw [h1]; omega
    | ⟨2, _⟩ => show win0_11.index ⟨7, ht⟩ 2 * 16 ≤ (i 2 : Nat) ∧ (i 2 : Nat) < win0_11.index ⟨7, ht⟩ 2 * 16 + 16
                rw [h2]; omega

end Cert.KernelIdeal.Acc

end
-- ==== Proof.RefRun.lean ====
/- The reference's one point on real inputs: the arrays it writes. -/
module

public import proofs.«01_k».proof.Proof.HostArgs
public import proofs.«01_k».proof.Proof.Gen.ReferenceIdeal.Value

@[expose] public section

noncomputable section

namespace Cert.ReferenceIdeal.Ref

open Cert Cert.Up Cert.ReferenceIdeal Cert.ReferenceIdeal.Gen Cert.ReferenceIdeal.Value
open Idealize.ShloMosaic Idealize.ShloMosaic.TcCoe Idealize.SL.Sem

section
variable {F : FTy → Type} [FloatOps F] (m : (ℓ : Loc nD τ sig) → Buf (Elt F) ℓ) (c : Dev nD)

theorem block0 : (iblk m c 0 t0_0 : Vec F S192x64x256 .bf16) = V m c main_v1 := by
  have hz : (fun a => win0_0.index t0_0 a * main_v1.ty.shape.size a) = fun _ => 0 := funext fun a => by fin_cases a <;> decide
  exact Memref.read_access_unit_zero (Elt F) main_v1 hz (fun a => by rw [congrFun hz a]; simp) (V m c main_v1)

theorem block1 : (iblk m c 1 t0_0 : Vec F S192x64x256 .bf16) = V m c main_v3 := by
  have hz : (fun a => win0_1.index t0_0 a * main_v3.ty.shape.size a) = fun _ => 0 := funext fun a => by fin_cases a <;> decide
  exact Memref.read_access_unit_zero (Elt F) main_v3 hz (fun a => by rw [congrFun hz a]; simp) (V m c main_v3)

theorem block2 : (iblk m c 2 t0_0 : Vec F S192x64x512 .bf16) = V m c main_v5 := by
  have hz : (fun a => win0_2.index t0_0 a * main_v5.ty.shape.size a) = fun _ => 0 := funext fun a => by fin_cases a <;> decide
  exact Memref.read_access_unit_zero (Elt F) main_v5 hz (fun a => by rw [congrFun hz a]; simp) (V m c main_v5)

theorem block3 : (iblk m c 3 t0_0 : Vec F S192x64 .f32) = V m c main_v7 := by
  have hz : (fun a => win0_3.index t0_0 a * main_v7.ty.shape.size a) = fun _ => 0 := funext fun a => by fin_cases a <;> decide
  exact Memref.read_access_unit_zero (Elt F) main_v7 hz (fun a => by rw [congrFun hz a]; simp) (V m c main_v7)

theorem block4 : (iblk m c 4 t0_0 : Vec F S192x64 .f32) = V m c main_v9 := by
  have hz : (fun a => win0_4.index t0_0 a * main_v9.ty.shape.size a) = fun _ => 0 := funext fun a => by fin_cases a <;> decide
  exact Memref.read_access_unit_zero (Elt F) main_v9 hz (fun a => by rw [congrFun hz a]; simp) (V m c main_v9)

theorem block5 : (iblk m c 5 t0_0 : Vec F S12x256x512 .f32) = V m c main_v10 := by
  have hz : (fun a => win0_5.index t0_0 a * main_v10.ty.shape.size a) = fun _ => 0 := funext fun a => by fin_cases a <;> decide
  exact Memref.read_access_unit_zero (Elt F) main_v10 hz (fun a => by rw [congrFun hz a]; simp) (V m c main_v10)

end

variable {m : (ℓ : Loc nD τ sig) → Buf (Elt Ideal) ℓ} {c : Dev nD}
variable {K Q : Fin 192 → Fin 64 → Fin 256 → ℝ} {W : Fin 192 → Fin 64 → Fin 512 → ℝ} {G B : Fin 192 → Fin 64 → ℝ}
  {S : Fin 12 → Fin 256 → Fin 512 → ℝ}

theorem final6 (h : Ins (V m c main_v1) (V m c main_v3) (V m c main_v5) (V m c main_v7) (V m c main_v9) (V m c main_v10) K Q W G B S) :
    (dats m 0 c).arrAt 6 cfg0.N = up3 (φ := .bf16) (outT K Q W G B S) := by
  refine (dats m 0 c).arrAt_eq_of_cover 6 (up3 (φ := .bf16) (outT K Q W G B S)) (fun t _ => ?_) fun i => ⟨t0_0, flush0_6 _, ?_⟩
  · obtain rfl : t = t0_0 := fin_N0 t
    rw [flushed6, block0, block1, block2, block3, block4, block5, h.o]
    have hz : (fun a => win0_6.index t0_0 a * main_v11_0.ty.shape.size a) = fun _ => 0 := funext fun a => by fin_cases a <;> decide
    exact (Memref.read_access_unit_zero (Elt Ideal) main_v11_0 hz (fun a => by rw [congrFun hz a]; simp) (up3 (φ := .bf16) (outT K Q W G B S))).symm
  · show i ∈ ((View.whole main_v11_0).slice (win0_6.rect t0_0)).set
    rw [View.set_slice_whole, Rect.mem_set_unit]
    have i0 : (i 0 : Nat) < 12 := (i 0).isLt
    have i1 : (i 1 : Nat) < 1024 := (i 1).isLt
    have i2 : (i 2 : Nat) < 512 := (i 2).isLt
    intro a
    match a with
    | ⟨0, _⟩ => show win0_6.index t0_0 0 * 12 ≤ (i 0 : Nat) ∧ (i 0 : Nat) < win0_6.index t0_0 0 * 12 + 12
                rw [show win0_6.index t0_0 0 = 0 from by decide +kernel]; omega
    | ⟨1, _⟩ => show win0_6.index t0_0 1 * 1024 ≤ (i 1 : Nat) ∧ (i 1 : Nat) < win0_6.index t0_0 1 * 1024 + 1024
                rw [show win0_6.index t0_0 1 = 0 from by decide +kernel]; omega
    | ⟨2, _⟩ => show win0_6.index t0_0 2 * 512 ≤ (i 2 : Nat) ∧ (i 2 : Nat) < win0_6.index t0_0 2 * 512 + 512
                rw [show win0_6.index t0_0 2 = 0 from by decide +kernel]; omega

theorem final7 (h : Ins (V m c main_v1) (V m c main_v3) (V m c main_v5) (V m c main_v7) (V m c main_v9) (V m c main_v10) K Q W G B S) :
    (dats m 0 c).arrAt 7 cfg0.N = up3 (φ := .f32) (st K W G B S 16) := by
  refine (dats m 0 c).arrAt_eq_of_cover 7 (up3 (φ := .f32) (st K W G B S 16)) (fun t _ => ?_) fun i => ⟨t0_0, flush0_7 _, ?_⟩
  · obtain rfl : t = t0_0 := fin_N0 t
    rw [flushed7, block0, block1, block2, block3, block4, block5, h.state]
    have hz : (fun a => win0_7.index t0_0 a * main_v11_1.ty.shape.size a) = fun _ => 0 := funext fun a => by fin_cases a <;> decide
    exact (Memref.read_access_unit_zero (Elt Ideal) main_v11_1 hz (fun a => by rw [congrFun hz a]; simp) (up3 (φ := .f32) (st K W G B S 16))).symm
  · show i ∈ ((View.whole main_v11_1).slice (win0_7.rect t0_0)).set
    rw [View.set_slice_whole, Rect.mem_set_unit]
    have i0 : (i 0 : Nat) < 12 := (i 0).isLt
    have i1 : (i 1 : Nat) < 256 := (i 1).isLt
    have i2 : (i 2 : Nat) < 512 := (i 2).isLt
    intro a
    match a with
    | ⟨0, _⟩ => show win0_7.index t0_0 0 * 12 ≤ (i 0 : Nat) ∧ (i 0 : Nat) < win0_7.index t0_0 0 * 12 + 12
                rw [show win0_7.index t0_0 0 = 0 from by decide +kernel]; omega
    | ⟨1, _⟩ => show win0_7.index t0_0 1 * 256 ≤ (i 1 : Nat) ∧ (i 1 : Nat) < win0_7.index t0_0 1 * 256 + 256
                rw [show win0_7.index t0_0 1 = 0 from by decide +kernel]; omega
    | ⟨2, _⟩ => show win0_7.index t0_0 2 * 512 ≤ (i 2 : Nat) ∧ (i 2 : Nat) < win0_7.index t0_0 2 * 512 + 512
                rw [show win0_7.index t0_0 2 = 0 from by decide +kernel]; omega

theorem final8 (h : Ins (V m c main_v1) (V m c main_v3) (V m c main_v5) (V m c main_v7) (V m c main_v9) (V m c main_v10) K Q W G B S) :
    (dats m 0 c).arrAt 8 cfg0.N = up3 (φ := .fp8e4m3) (codeT K) := by
  refine (dats m 0 c).arrAt_eq_of_cover 8 (up3 (φ := .fp8e4m3) (codeT K)) (fun t _ => ?_) fun i => ⟨t0_0, flush0_8 _, ?_⟩
  · obtain rfl : t = t0_0 := fin_N0 t
    rw [flushed8, block0, block1, block2, block3, block4, block5, h.kc]
    have hz : (fun a => win0_8.index t0_0 a * main_v11_2.ty.shape.size a) = fun _ => 0 := funext fun a => by fin_cases a <;> decide
    exact (Memref.read_access_unit_zero (Elt Ideal) main_v11_2 hz (fun a => by rw [congrFun hz a]; simp) (up3 (φ := .fp8e4m3) (codeT K))).symm
  · show i ∈ ((View.whole main_v11_2).slice (win0_8.rect t0_0)).set
    rw [View.set_slice_whole, Rect.mem_set_unit]
    have i0 : (i 0 : Nat) < 12 := (i 0).isLt
    have i1 : (i 1 : Nat) < 1024 := (i 1).isLt
    have i2 : (i 2 : Nat) < 256 := (i 2).isLt
    intro a
    match a with
    | ⟨0, _⟩ => show win0_8.index t0_0 0 * 12 ≤ (i 0 : Nat) ∧ (i 0 : Nat) < win0_8.index t0_0 0 * 12 + 12
                rw [show win0_8.index t0_0 0 = 0 from by decide +kernel]; omega
    | ⟨1, _⟩ => show win0_8.index t0_0 1 * 1024 ≤ (i 1 : Nat) ∧ (i 1 : Nat) < win0_8.index t0_0 1 * 1024 + 1024
                rw [show win0_8.index t0_0 1 = 0 from by decide +kernel]; omega
    | ⟨2, _⟩ => show win0_8.index t0_0 2 * 256 ≤ (i 2 : Nat) ∧ (i 2 : Nat) < win0_8.index t0_0 2 * 256 + 256
                rw [show win0_8.index t0_0 2 = 0 from by decide +kernel]; omega

theorem final9 (h : Ins (V m c main_v1) (V m c main_v3) (V m c main_v5) (V m c main_v7) (V m c main_v9) (V m c main_v10) K Q W G B S) :
    (dats m 0 c).arrAt 9 cfg0.N = up3 (φ := .f32) (scaleT K) := by
  refine (dats m 0 c).arrAt_eq_of_cover 9 (up3 (φ := .f32) (scaleT K)) (fun t _ => ?_) fun i => ⟨t0_0, flush0_9 _, ?_⟩
  · obtain rfl : t = t0_0 := fin_N0 t
    rw [flushed9, block0, block1, block2, block3, block4, block5, h.ks]
    have hz : (fun a => win0_9.index t0_0 a * main_v11_3.ty.shape.size a) = fun _ => 0 := funext fun a => by fin_cases a <;> decide
    exact (Memref.read_access_unit_zero (Elt Ideal) main_v11_3 hz (fun a => by rw [congrFun hz a]; simp) (up3 (φ := .f32) (scaleT K))).symm
  · show i ∈ ((View.whole main_v11_3).slice (win0_9.rect t0_0)).set
    rw [View.set_slice_whole, Rect.mem_set_unit]
    have i0 : (i 0 : Nat) < 6 := (i 0).isLt
    have i1 : (i 1 : Nat) < 2 := (i 1).isLt
    have i2 : (i 2 : Nat) < 16 := (i 2).isLt
    intro a
    match a with
    | ⟨0, _⟩ => show win0_9.index t0_0 0 * 6 ≤ (i 0 : Nat) ∧ (i 0 : Nat) < win0_9.index t0_0 0 * 6 + 6
                rw [show win0_9.index t0_0 0 = 0 from by decide +kernel]; omega
    | ⟨1, _⟩ => show win0_9.index t0_0 1 * 2 ≤ (i 1 : Nat) ∧ (i 1 : Nat) < win0_9.index t0_0 1 * 2 + 2
                rw [show win0_9.index t0_0 1 = 0 from by decide +kernel]; omega
    | ⟨2, _⟩ => show win0_9.index t0_0 2 * 16 ≤ (i 2 : Nat) ∧ (i 2 : Nat) < win0_9.index t0_0 2 * 16 + 16
                rw [show win0_9.index t0_0 2 = 0 from by decide +kernel]; omega

theorem final10 (h : Ins (V m c main_v1) (V m c main_v3) (V m c main_v5) (V m c main_v7) (V m c main_v9) (V m c main_v10) K Q W G B S) :
    (dats m 0 c).arrAt 10 cfg0.N = up3 (φ := .fp8e4m3) (codeT Q) := by
  refine (dats m 0 c).arrAt_eq_of_cover 10 (up3 (φ := .fp8e4m3) (codeT Q)) (fun t _ => ?_) fun i => ⟨t0_0, flush0_10 _, ?_⟩
  · obtain rfl : t = t0_0 := fin_N0 t
    rw [flushed10, block0, block1, block2, block3, block4, block5, h.qc]
    have hz : (fun a => win0_10.index t0_0 a * main_v11_4.ty.shape.size a) = fun _ => 0 := funext fun a => by fin_cases a <;> decide
    exact (Memref.read_access_unit_zero (Elt Ideal) main_v11_4 hz (fun a => by rw [congrFun hz a]; simp) (up3 (φ := .fp8e4m3) (codeT Q))).symm
  · show i ∈ ((View.whole main_v11_4).slice (win0_10.rect t0_0)).set
    rw [View.set_slice_whole, Rect.mem_set_unit]
    have i0 : (i 0 : Nat) < 12 := (i 0).isLt
    have i1 : (i 1 : Nat) < 1024 := (i 1).isLt
    have i2 : (i 2 : Nat) < 256 := (i 2).isLt
    intro a
    match a with
    | ⟨0, _⟩ => show win0_10.index t0_0 0 * 12 ≤ (i 0 : Nat) ∧ (i 0 : Nat) < win0_10.index t0_0 0 * 12 + 12
                rw [show win0_10.index t0_0 0 = 0 from by decide +kernel]; omega
    | ⟨1, _⟩ => show win0_10.index t0_0 1 * 1024 ≤ (i 1 : Nat) ∧ (i 1 : Nat) < win0_10.index t0_0 1 * 1024 + 1024
                rw [show win0_10.index t0_0 1 = 0 from by decide +kernel]; omega
    | ⟨2, _⟩ => show win0_10.index t0_0 2 * 256 ≤ (i 2 : Nat) ∧ (i 2 : Nat) < win0_10.index t0_0 2 * 256 + 256
                rw [show win0_10.index t0_0 2 = 0 from by decide +kernel]; omega

theorem final11 (h : Ins (V m c main_v1) (V m c main_v3) (V m c main_v5) (V m c main_v7) (V m c main_v9) (V m c main_v10) K Q W G B S) :
    (dats m 0 c).arrAt 11 cfg0.N = up3 (φ := .f32) (scaleT Q) := by
  refine (dats m 0 c).arrAt_eq_of_cover 11 (up3 (φ := .f32) (scaleT Q)) (fun t _ => ?_) fun i => ⟨t0_0, flush0_11 _, ?_⟩
  · obtain rfl : t = t0_0 := fin_N0 t
    rw [flushed11, block0, block1, block2, block3, block4, block5, h.qs]
    have hz : (fun a => win0_11.index t0_0 a * main_v11_5.ty.shape.size a) = fun _ => 0 := funext fun a => by fin_cases a <;> decide
    exact (Memref.read_access_unit_zero (Elt Ideal) main_v11_5 hz (fun a => by rw [congrFun hz a]; simp) (up3 (φ := .f32) (scaleT Q))).symm
  · show i ∈ ((View.whole main_v11_5).slice (win0_11.rect t0_0)).set
    rw [View.set_slice_whole, Rect.mem_set_unit]
    have i0 : (i 0 : Nat) < 6 := (i 0).isLt
    have i1 : (i 1 : Nat) < 2 := (i 1).isLt
    have i2 : (i 2 : Nat) < 16 := (i 2).isLt
    intro a
    match a with
    | ⟨0, _⟩ => show win0_11.index t0_0 0 * 6 ≤ (i 0 : Nat) ∧ (i 0 : Nat) < win0_11.index t0_0 0 * 6 + 6
                rw [show win0_11.index t0_0 0 = 0 from by decide +kernel]; omega
    | ⟨1, _⟩ => show win0_11.index t0_0 1 * 2 ≤ (i 1 : Nat) ∧ (i 1 : Nat) < win0_11.index t0_0 1 * 2 + 2
                rw [show win0_11.index t0_0 1 = 0 from by decide +kernel]; omega
    | ⟨2, _⟩ => show win0_11.index t0_0 2 * 16 ≤ (i 2 : Nat) ∧ (i 2 : Nat) < win0_11.index t0_0 2 * 16 + 16
                rw [show win0_11.index t0_0 2 = 0 from by decide +kernel]; omega

end Cert.ReferenceIdeal.Ref

end
-- ==== Proof.Finite.lean ====
/- What the precondition says: every argument is real, and the keys and queries are below the 128th power of two. -/
module

public import proofs.«01_k».proof.Defs
public import proofs.«01_k».proof.Proof.Up

@[expose] public section

noncomputable section

namespace Cert.Finite

open Cert Cert.Up Idealize.ShloMosaic

/-- The side conditions of the precondition's operations. -/
theorem facts : Cert.Pre_finite.Facts where
  bitsLt_bf16_f32 := by decide
  bcast_S_S2x1024x6x256 := by decide
  bcast_S_S2x1024x6x512 := by decide
  bcast_S_S2x1024x6 := by decide
  bcast_S_S2x6x256x512 := by decide

theorem real_of_abs_le {x : EReal} {b : ℝ} (h : max x (-x) ≤ (b : EReal)) : ((x.toReal : ℝ) : EReal) = x ∧ |x.toReal| ≤ b := by
  induction x with
  | bot => exact absurd (le_trans (le_max_right _ _) h) (by simp)
  | top => exact absurd (le_trans (le_max_left _ _) h) (by simp)
  | coe r =>
    refine ⟨rfl, ?_⟩
    have h1 : ((r : ℝ) : EReal) ≤ b := le_trans (le_max_left _ _) h
    have h2 : ((-r : ℝ) : EReal) ≤ b := le_trans (le_max_right _ _) h
    exact abs_le.mpr ⟨by have := EReal.coe_le_coe_iff.mp h2; show -b ≤ r; linarith, EReal.coe_le_coe_iff.mp h1⟩

/-- The greatest bf16. -/
theorem w_bf16 : Ideal.ofBits .f32 0x7F7F0000#32 = (((2 ^ 128 - 2 ^ 120 : ℝ)) : EReal) := by
  simp [Ideal.ofBits, Ideal.ieee, -EReal.coe_mul, -EReal.coe_sub]; norm_num
/-- The greatest f32. -/
theorem w_f32 : Ideal.ofBits .f32 0x7F7FFFFF#32 = (((2 ^ 128 - 2 ^ 104 : ℝ)) : EReal) := by
  simp [Ideal.ofBits, Ideal.ieee, -EReal.coe_mul, -EReal.coe_sub]; norm_num

theorem of_le {x b : EReal} (h : Ideal.cmp .ole (max x (-x)) b = 1#1) : max x (-x) ≤ b := by
  by_contra hn
  have : Ideal.cmp .ole (max x (-x)) b = 0#1 := by
    show BitVec.ofBool (decide (max x (-x) ≤ b)) = 0#1
    rw [decide_eq_false hn]; rfl
  rw [this] at h
  exact absurd h (by decide)

theorem up4_of {n0 n1 n2 n3 : ℕ} {φ : FTy} (x : FVec Ideal ⟨4, ![n0, n1, n2, n3]⟩ φ) {b : ℝ}
    (h : ∀ y, max (x y : EReal) (-(x y : EReal)) ≤ ((b : ℝ) : EReal)) :
    ∃ f : Fin n0 → Fin n1 → Fin n2 → Fin n3 → ℝ, x = up4 f ∧ ∀ a b' c d, |f a b' c d| ≤ b :=
  ⟨fun a b' c d => (x (ix4 a b' c d) : EReal).toReal, eq_up4 fun a b' c d => (real_of_abs_le (h (ix4 a b' c d))).1.symm,
    fun a b' c d => (real_of_abs_le (h (ix4 a b' c d))).2⟩

theorem up3_of {n0 n1 n2 : ℕ} {φ : FTy} (x : FVec Ideal ⟨3, ![n0, n1, n2]⟩ φ) {b : ℝ}
    (h : ∀ y, max (x y : EReal) (-(x y : EReal)) ≤ ((b : ℝ) : EReal)) :
    ∃ f : Fin n0 → Fin n1 → Fin n2 → ℝ, x = up3 f :=
  ⟨fun a b' c => (x (ix3 a b' c) : EReal).toReal, eq_up3 fun a b' c => (real_of_abs_le (h (ix3 a b' c))).1.symm⟩

section
variable [hPre : Cert.Pre_finite.Facts] {a0 a1 : FVec Ideal Cert.Pre_finite.S2x1024x6x256 .bf16} {a2 : FVec Ideal Cert.Pre_finite.S2x1024x6x512 .bf16}
  {a3 a4 : FVec Ideal Cert.Pre_finite.S2x1024x6 .f32} {a5 : FVec Ideal Cert.Pre_finite.S2x6x256x512 .f32}

theorem arg0 (h : (Cert.Pre_finite.fn (F := Ideal) a0 a1 a2 a3 a4 a5).1 = fun _ => 1#1) :
    ∃ f : Fin 2 → Fin 1024 → Fin 6 → Fin 256 → ℝ, a0 = up4 f ∧ ∀ a b c d, |f a b c d| ≤ 2 ^ 128 - 2 ^ 120 :=
  up4_of a0 fun y => (of_le (congrFun h y)).trans_eq w_bf16

theorem arg1 (h : (Cert.Pre_finite.fn (F := Ideal) a0 a1 a2 a3 a4 a5).2.1 = fun _ => 1#1) :
    ∃ f : Fin 2 → Fin 1024 → Fin 6 → Fin 256 → ℝ, a1 = up4 f ∧ ∀ a b c d, |f a b c d| ≤ 2 ^ 128 - 2 ^ 120 :=
  up4_of a1 fun y => (of_le (congrFun h y)).trans_eq w_bf16

theorem arg2 (h : (Cert.Pre_finite.fn (F := Ideal) a0 a1 a2 a3 a4 a5).2.2.1 = fun _ => 1#1) :
    ∃ f : Fin 2 → Fin 1024 → Fin 6 → Fin 512 → ℝ, a2 = up4 f ∧ ∀ a b c d, |f a b c d| ≤ 2 ^ 128 - 2 ^ 120 :=
  up4_of a2 fun y => (of_le (congrFun h y)).trans_eq w_bf16

theorem arg3 (h : (Cert.Pre_finite.fn (F := Ideal) a0 a1 a2 a3 a4 a5).2.2.2.1 = fun _ => 1#1) :
    ∃ f : Fin 2 → Fin 1024 → Fin 6 → ℝ, a3 = up3 f :=
  up3_of a3 fun y => (of_le (congrFun h y)).trans_eq w_f32

theorem arg4 (h : (Cert.Pre_finite.fn (F := Ideal) a0 a1 a2 a3 a4 a5).2.2.2.2.1 = fun _ => 1#1) :
    ∃ f : Fin 2 → Fin 1024 → Fin 6 → ℝ, a4 = up3 f :=
  up3_of a4 fun y => (of_le (congrFun h y)).trans_eq w_f32

theorem arg5 (h : (Cert.Pre_finite.fn (F := Ideal) a0 a1 a2 a3 a4 a5).2.2.2.2.2 = fun _ => 1#1) :
    ∃ f : Fin 2 → Fin 6 → Fin 256 → Fin 512 → ℝ, a5 = up4 f ∧ ∀ a b c d, |f a b c d| ≤ 2 ^ 128 - 2 ^ 104 :=
  up4_of a5 fun y => (of_le (congrFun h y)).trans_eq w_f32

end

theorem below {x : ℝ} (h : |x| ≤ 2 ^ 128 - 2 ^ 120) : |x| < 2 ^ (128 : ℤ) :=
  h.trans_lt (by norm_num)

end Cert.Finite

end
-- ==== Proof.Algebra.lean ====
/- On real inputs the kernel and the reference leave the same six arrays. -/
module

public import proofs.«01_k».proof.Proof.Acc
public import proofs.«01_k».proof.Proof.RefRun
public import proofs.«01_k».proof.Proof.Finite

@[expose] public section

noncomputable section

namespace Cert.Algebra

open Cert Cert.Up Cert.Args Cert.Finite Idealize.ShloMosaic Idealize.ShloMosaic.TcCoe Idealize.SL.Sem

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} (c : Dev KernelIdeal.nD)
variable {q k : Fin 2 → Fin 1024 → Fin 6 → Fin 256 → ℝ} {v : Fin 2 → Fin 1024 → Fin 6 → Fin 512 → ℝ}
  {g b : Fin 2 → Fin 1024 → Fin 6 → ℝ} {s : Fin 2 → Fin 6 → Fin 256 → Fin 512 → ℝ}

theorem chunks_lt {f : Fin 2 → Fin 1024 → Fin 6 → Fin 256 → ℝ} (h : ∀ a b c d, |f a b c d| ≤ 2 ^ 128 - 2 ^ 120) (m : Fin 192) (i : Fin 64)
    (d : Fin 256) : |chunks f m i d| < 2 ^ (128 : ℤ) := below (h _ _ _ _)

/-- The kernel's arrays at its call. -/
theorem kernel (hq : m ((c.tc : Thread KernelIdeal.nD KernelIdeal.τ).loc KernelIdeal.main_arg0) = up4 (φ := .bf16) q)
    (hk : m ((c.tc : Thread KernelIdeal.nD KernelIdeal.τ).loc KernelIdeal.main_arg1) = up4 (φ := .bf16) k)
    (hv : m ((c.tc : Thread KernelIdeal.nD KernelIdeal.τ).loc KernelIdeal.main_arg2) = up4 (φ := .bf16) v)
    (hg : m ((c.tc : Thread KernelIdeal.nD KernelIdeal.τ).loc KernelIdeal.main_arg3) = up3 (φ := .f32) g)
    (hb : m ((c.tc : Thread KernelIdeal.nD KernelIdeal.τ).loc KernelIdeal.main_arg4) = up3 (φ := .f32) b)
    (hs : m ((c.tc : Thread KernelIdeal.nD KernelIdeal.τ).loc KernelIdeal.main_arg5) = up4 (φ := .f32) s)
    (bq : ∀ a b c d, |q a b c d| ≤ 2 ^ 128 - 2 ^ 120) (bk : ∀ a b c d, |k a b c d| ≤ 2 ^ 128 - 2 ^ 120) :
    KernelIdeal.Acc.Ins m c (chunks k) (chunks q) (chunks v) (gates g) (gates b) (states s) where
  q := by rw [KernelIdeal.Host.V_v1, hq, KernelIdeal.Host.host256]
  k := by rw [KernelIdeal.Host.V_v3, hk, KernelIdeal.Host.host256]
  v := by rw [KernelIdeal.Host.V_v5, hv, KernelIdeal.Host.host512]
  g := by rw [KernelIdeal.Host.V_v6, hg, KernelIdeal.Host.hostG]
  b := by rw [KernelIdeal.Host.V_v7, hb, KernelIdeal.Host.hostG]
  s := by rw [KernelIdeal.Host.V_v8, hs, KernelIdeal.Host.hostS]
  hK := chunks_lt bk
  hQ := chunks_lt bq

/-- The reference's arrays at its call. -/
theorem reference (hq : m' ((c.tc : Thread ReferenceIdeal.nD ReferenceIdeal.τ).loc ReferenceIdeal.main_arg0) = up4 (φ := .bf16) q)
    (hk : m' ((c.tc : Thread ReferenceIdeal.nD ReferenceIdeal.τ).loc ReferenceIdeal.main_arg1) = up4 (φ := .bf16) k)
    (hv : m' ((c.tc : Thread ReferenceIdeal.nD ReferenceIdeal.τ).loc ReferenceIdeal.main_arg2) = up4 (φ := .bf16) v)
    (hg : m' ((c.tc : Thread ReferenceIdeal.nD ReferenceIdeal.τ).loc ReferenceIdeal.main_arg3) = up3 (φ := .f32) g)
    (hb : m' ((c.tc : Thread ReferenceIdeal.nD ReferenceIdeal.τ).loc ReferenceIdeal.main_arg4) = up3 (φ := .f32) b)
    (hs : m' ((c.tc : Thread ReferenceIdeal.nD ReferenceIdeal.τ).loc ReferenceIdeal.main_arg5) = up4 (φ := .f32) s)
    (bq : ∀ a b c d, |q a b c d| ≤ 2 ^ 128 - 2 ^ 120) (bk : ∀ a b c d, |k a b c d| ≤ 2 ^ 128 - 2 ^ 120) :
    ReferenceIdeal.Ref.Ins (ReferenceIdeal.Gen.V m' c ReferenceIdeal.main_v1) (ReferenceIdeal.Gen.V m' c ReferenceIdeal.main_v3)
      (ReferenceIdeal.Gen.V m' c ReferenceIdeal.main_v5) (ReferenceIdeal.Gen.V m' c ReferenceIdeal.main_v7)
      (ReferenceIdeal.Gen.V m' c ReferenceIdeal.main_v9) (ReferenceIdeal.Gen.V m' c ReferenceIdeal.main_v10)
      (chunks k) (chunks q) (chunks v) (gates g) (gates b) (states s) where
  q := by rw [ReferenceIdeal.Ref.V_v1, hq, ReferenceIdeal.Ref.host256]
  k := by rw [ReferenceIdeal.Ref.V_v3, hk, ReferenceIdeal.Ref.host256]
  v := by rw [ReferenceIdeal.Ref.V_v5, hv, ReferenceIdeal.Ref.host512]
  g := by rw [ReferenceIdeal.Ref.V_v7, hg, ReferenceIdeal.Ref.hostG]
  b := by rw [ReferenceIdeal.Ref.V_v9, hb, ReferenceIdeal.Ref.hostG]
  s := by rw [ReferenceIdeal.Ref.V_v10, hs, ReferenceIdeal.Ref.hostS]
  hK := chunks_lt bk
  hQ := chunks_lt bq

theorem algebraic : @algebraic_KernelIdeal_ReferenceIdeal_pre_finite KernelIdeal.Gen.facts ReferenceIdeal.Gen.facts Finite.facts := by
  intro m ρ m' ρ' hpre harg
  have ins : ∀ c : Dev KernelIdeal.nD, ∃ q k v g b s,
      KernelIdeal.Acc.Ins m c (chunks k) (chunks q) (chunks v) (gates g) (gates b) (states s) ∧
      ReferenceIdeal.Ref.Ins (ReferenceIdeal.Gen.V m' c ReferenceIdeal.main_v1) (ReferenceIdeal.Gen.V m' c ReferenceIdeal.main_v3)
        (ReferenceIdeal.Gen.V m' c ReferenceIdeal.main_v5) (ReferenceIdeal.Gen.V m' c ReferenceIdeal.main_v7)
        (ReferenceIdeal.Gen.V m' c ReferenceIdeal.main_v9) (ReferenceIdeal.Gen.V m' c ReferenceIdeal.main_v10)
        (chunks k) (chunks q) (chunks v) (gates g) (gates b) (states s) := fun c => by
    haveI := Finite.facts
    obtain ⟨p0, p1, p2, p3, p4, p5⟩ := hpre c
    obtain ⟨e0, e1, e2, e3, e4, e5⟩ := harg c
    obtain ⟨q, hq, bq⟩ := arg0 p0
    obtain ⟨k, hk, bk⟩ := arg1 p1
    obtain ⟨v, hv, -⟩ := arg2 p2
    obtain ⟨g, hg⟩ := arg3 p3
    obtain ⟨b, hb⟩ := arg4 p4
    obtain ⟨s, hs, -⟩ := arg5 p5
    exact ⟨q, k, v, g, b, s, kernel c hq hk hv hg hb hs bq bk,
      reference c (e0.trans hq) (e1.trans hk) (e2.trans hv) (e3.trans hg) (e4.trans hb) (e5.trans hs) bq bk⟩
  refine ⟨fun c => (KernelIdeal.Gen.dats m 0 c).arrAt 6 KernelIdeal.cfg0.N, fun c => (KernelIdeal.Gen.dats m 0 c).arrAt 7 KernelIdeal.cfg0.N,
    fun c => (KernelIdeal.Gen.dats m 0 c).arrAt 8 KernelIdeal.cfg0.N, fun c => (KernelIdeal.Gen.dats m 0 c).arrAt 9 KernelIdeal.cfg0.N,
    fun c => (KernelIdeal.Gen.dats m 0 c).arrAt 10 KernelIdeal.cfg0.N, fun c => (KernelIdeal.Gen.dats m 0 c).arrAt 11 KernelIdeal.cfg0.N,
    KernelIdeal.Value.run_blocks m ρ, ?_⟩
  refine (θ_run _ _ _).mono (fun r h c => ?_) (ReferenceIdeal.Value.run_blocks m' ρ')
  obtain ⟨q, k, v, g, b, s, hK, hR⟩ := ins c
  obtain ⟨h6, h7, h8, h9, h10, h11, hargs⟩ := h c
  exact ⟨h6.trans ((ReferenceIdeal.Ref.final6 hR).trans (KernelIdeal.Acc.final6 hK).symm),
    h7.trans ((ReferenceIdeal.Ref.final7 hR).trans (KernelIdeal.Acc.final7 hK).symm),
    h8.trans ((ReferenceIdeal.Ref.final8 hR).trans (KernelIdeal.Acc.final8 hK).symm),
    h9.trans ((ReferenceIdeal.Ref.final9 hR).trans (KernelIdeal.Acc.final9 hK).symm),
    h10.trans ((ReferenceIdeal.Ref.final10 hR).trans (KernelIdeal.Acc.final10 hK).symm),
    h11.trans ((ReferenceIdeal.Ref.final11 hR).trans (KernelIdeal.Acc.final11 hK).symm), hargs⟩

end Cert.Algebra

end
-- ==== Proof.lean ====
module

public import proofs.«01_k».proof.Defs
public import proofs.«01_k».proof.Proof.Gen.Kernel.Frame
public import proofs.«01_k».proof.Proof.Algebra

@[expose] public section

theorem Cert.Proof.claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Algebra.algebraic⟩
